-- ==== Defs.lean ====
def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjIdeal_small_o [hPre_small_o : Cert.Pre_small_o.Facts] (m : (ℓ : Loc Cert.OProjIdeal.nD Cert.OProjIdeal.τ Cert.OProjIdeal.sig) → Buf (Elt Ideal) ℓ) : Prop :=
  ∀ c : Dev Cert.OProjIdeal.nD,
    (Cert.Pre_small_o.fn (F := Ideal) (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2)) (m ((c.tc : Thread Cert.OProjIdeal.nD Cert.OProjIdeal.τ).loc Cert.OProjIdeal.main_arg3)) (m ((c.tc : Thread Cert.OProjIdeal.nD Cert.OProjIdeal.τ).loc Cert.OProjIdeal.main_arg4))) = (fun _ => 1#1)

def Pre_OProjReferenceIdeal (m : (ℓ : Loc Cert.OProjReferenceIdeal.nD Cert.OProjReferenceIdeal.τ Cert.OProjReferenceIdeal.sig) → Buf (Elt Ideal) ℓ) : Prop :=
  True

def Pre_OProjReferenceIdeal_small_o [hPre_small_o : Cert.Pre_small_o.Facts] (m : (ℓ : Loc Cert.OProjReferenceIdeal.nD Cert.OProjReferenceIdeal.τ Cert.OProjReferenceIdeal.sig) → Buf (Elt Ideal) ℓ) : Prop :=
  ∀ c : Dev Cert.OProjReferenceIdeal.nD,
    (Cert.Pre_small_o.fn (F := Ideal) (m ((c.tc : Thread Cert.OProjReferenceIdeal.nD Cert.OProjReferenceIdeal.τ).loc Cert.OProjReferenceIdeal.main_arg0)) (m ((c.tc : Thread Cert.OProjReferenceIdeal.nD Cert.OProjReferenceIdeal.τ).loc Cert.OProjReferenceIdeal.main_arg1)) (m ((c.tc : Thread Cert.OProjReferenceIdeal.nD Cert.OProjReferenceIdeal.τ).loc Cert.OProjReferenceIdeal.main_arg2)) (m ((c.tc : Thread Cert.OProjReferenceIdeal.nD Cert.OProjReferenceIdeal.τ).loc Cert.OProjReferenceIdeal.main_arg3)) (m ((c.tc : Thread Cert.OProjReferenceIdeal.nD Cert.OProjReferenceIdeal.τ).loc Cert.OProjReferenceIdeal.main_arg4))) = (fun _ => 1#1)

def Pre_GuProj (m : (ℓ : Loc Cert.GuProj.nD Cert.GuProj.τ Cert.GuProj.sig) → Buf (Elt Bits) ℓ) : Prop :=
  True

def Pre_GuProjIdeal (m : (ℓ : Loc Cert.GuProjIdeal.nD Cert.GuProjIdeal.τ Cert.GuProjIdeal.sig) → Buf (Elt Ideal) ℓ) : Prop :=
  True

def Pre_GuProjIdeal_small_gu [hPre_small_gu : Cert.Pre_small_gu.Facts] (m : (ℓ : Loc Cert.GuProjIdeal.nD Cert.GuProjIdeal.τ Cert.GuProjIdeal.sig) → Buf (Elt Ideal) ℓ) : Prop :=
  ∀ c : Dev Cert.GuProjIdeal.nD,
    (Cert.Pre_small_gu.fn (F := Ideal) (m ((c.tc : Thread Cert.GuProjIdeal.nD Cert.GuProjIdeal.τ).loc Cert.GuProjIdeal.main_arg0)) (m ((c.tc : Thread Cert.GuProjIdeal.nD Cert.GuProjIdeal.τ).loc Cert.GuProjIdeal.main_arg1)) (m ((c.tc : Thread Cert.GuProjIdeal.nD Cert.GuProjIdeal.τ).loc Cert.GuProjIdeal.main_arg2)) (m ((c.tc : Thread Cert.GuProjIdeal.nD Cert.GuProjIdeal.τ).loc Cert.GuProjIdeal.main_arg3)) (m ((c.tc : Thread Cert.GuProjIdeal.nD Cert.GuProjIdeal.τ).loc Cert.GuProjIdeal.main_arg4)) (m ((c.tc : Thread Cert.GuProjIdeal.nD Cert.GuProjIdeal.τ).loc Cert.GuProjIdeal.main_arg5))) = (fun _ => 1#1)

def Pre_GuProjReferenceIdeal (m : (ℓ : Loc Cert.GuProjReferenceIdeal.nD Cert.GuProjReferenceIdeal.τ Cert.GuProjReferenceIdeal.sig) → Buf (Elt Ideal) ℓ) : Prop :=
  True

def Pre_GuProjReferenceIdeal_small_gu [hPre_small_gu : Cert.Pre_small_gu.Facts] (m : (ℓ : Loc Cert.GuProjReferenceIdeal.nD Cert.GuProjReferenceIdeal.τ Cert.GuProjReferenceIdeal.sig) → Buf (Elt Ideal) ℓ) : Prop :=
  ∀ c : Dev Cert.GuProjReferenceIdeal.nD,
    (Cert.Pre_small_gu.fn (F := Ideal) (m ((c.tc : Thread Cert.GuProjReferenceIdeal.nD Cert.GuProjReferenceIdeal.τ).loc Cert.GuProjReferenceIdeal.main_arg0)) (m ((c.tc : Thread Cert.GuProjReferenceIdeal.nD Cert.GuProjReferenceIdeal.τ).loc Cert.GuProjReferenceIdeal.main_arg1)) (m ((c.tc : Thread Cert.GuProjReferenceIdeal.nD Cert.GuProjReferenceIdeal.τ).loc Cert.GuProjReferenceIdeal.main_arg2)) (m ((c.tc : Thread Cert.GuProjReferenceIdeal.nD Cert.GuProjReferenceIdeal.τ).loc Cert.GuProjReferenceIdeal.main_arg3)) (m ((c.tc : Thread Cert.GuProjReferenceIdeal.nD Cert.GuProjReferenceIdeal.τ).loc Cert.GuProjReferenceIdeal.main_arg4)) (m ((c.tc : Thread Cert.GuProjReferenceIdeal.nD Cert.GuProjReferenceIdeal.τ).loc Cert.GuProjReferenceIdeal.main_arg5))) = (fun _ => 1#1)

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjIdeal_small_down [hPre_small_down : Cert.Pre_small_down.Facts] (m : (ℓ : Loc Cert.DownProjIdeal.nD Cert.DownProjIdeal.τ Cert.DownProjIdeal.sig) → Buf (Elt Ideal) ℓ) : Prop :=
  ∀ c : Dev Cert.DownProjIdeal.nD,
    (Cert.Pre_small_down.fn (F := Ideal) (m ((c.tc : Thread Cert.DownProjIdeal.nD Cert.DownProjIdeal.τ).loc Cert.DownProjIdeal.main_arg0)) (m ((c.tc : Thread Cert.DownProjIdeal.nD Cert.DownProjIdeal.τ).loc Cert.DownProjIdeal.main_arg1)) (m ((c.tc : Thread Cert.DownProjIdeal.nD Cert.DownProjIdeal.τ).loc Cert.DownProjIdeal.main_arg2)) (m ((c.tc : Thread Cert.DownProjIdeal.nD Cert.DownProjIdeal.τ).loc Cert.DownProjIdeal.main_arg3)) (m ((c.tc : Thread Cert.DownProjIdeal.nD Cert.DownProjIdeal.τ).loc Cert.DownProjIdeal.main_arg4))) = (fun _ => 1#1)

def Pre_DownProjReferenceIdeal (m : (ℓ : Loc Cert.DownProjReferenceIdeal.nD Cert.DownProjReferenceIdeal.τ Cert.DownProjReferenceIdeal.sig) → Buf (Elt Ideal) ℓ) : Prop :=
  True

def Pre_DownProjReferenceIdeal_small_down [hPre_small_down : Cert.Pre_small_down.Facts] (m : (ℓ : Loc Cert.DownProjReferenceIdeal.nD Cert.DownProjReferenceIdeal.τ Cert.DownProjReferenceIdeal.sig) → Buf (Elt Ideal) ℓ) : Prop :=
  ∀ c : Dev Cert.DownProjReferenceIdeal.nD,
    (Cert.Pre_small_down.fn (F := Ideal) (m ((c.tc : Thread Cert.DownProjReferenceIdeal.nD Cert.DownProjReferenceIdeal.τ).loc Cert.DownProjReferenceIdeal.main_arg0)) (m ((c.tc : Thread Cert.DownProjReferenceIdeal.nD Cert.DownProjReferenceIdeal.τ).loc Cert.DownProjReferenceIdeal.main_arg1)) (m ((c.tc : Thread Cert.DownProjReferenceIdeal.nD Cert.DownProjReferenceIdeal.τ).loc Cert.DownProjReferenceIdeal.main_arg2)) (m ((c.tc : Thread Cert.DownProjReferenceIdeal.nD Cert.DownProjReferenceIdeal.τ).loc Cert.DownProjReferenceIdeal.main_arg3)) (m ((c.tc : Thread Cert.DownProjReferenceIdeal.nD Cert.DownProjReferenceIdeal.τ).loc Cert.DownProjReferenceIdeal.main_arg4))) = (fun _ => 1#1)

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjIdeal_small_qkv [hPre_small_qkv : Cert.Pre_small_qkv.Facts] (m : (ℓ : Loc Cert.QkvProjIdeal.nD Cert.QkvProjIdeal.τ Cert.QkvProjIdeal.sig) → Buf (Elt Ideal) ℓ) : Prop :=
  ∀ c : Dev Cert.QkvProjIdeal.nD,
    (Cert.Pre_small_qkv.fn (F := Ideal) (m ((c.tc : Thread Cert.QkvProjIdeal.nD Cert.QkvProjIdeal.τ).loc Cert.QkvProjIdeal.main_arg0)) (m ((c.tc : Thread Cert.QkvProjIdeal.nD Cert.QkvProjIdeal.τ).loc Cert.QkvProjIdeal.main_arg1)) (m ((c.tc : Thread Cert.QkvProjIdeal.nD Cert.QkvProjIdeal.τ).loc Cert.QkvProjIdeal.main_arg2)) (m ((c.tc : Thread Cert.QkvProjIdeal.nD Cert.QkvProjIdeal.τ).loc Cert.QkvProjIdeal.main_arg3))) = (fun _ => 1#1)

def Pre_QkvProjReferenceIdeal (m : (ℓ : Loc Cert.QkvProjReferenceIdeal.nD Cert.QkvProjReferenceIdeal.τ Cert.QkvProjReferenceIdeal.sig) → Buf (Elt Ideal) ℓ) : Prop :=
  True

def Pre_QkvProjReferenceIdeal_small_qkv [hPre_small_qkv : Cert.Pre_small_qkv.Facts] (m : (ℓ : Loc Cert.QkvProjReferenceIdeal.nD Cert.QkvProjReferenceIdeal.τ Cert.QkvProjReferenceIdeal.sig) → Buf (Elt Ideal) ℓ) : Prop :=
  ∀ c : Dev Cert.QkvProjReferenceIdeal.nD,
    (Cert.Pre_small_qkv.fn (F := Ideal) (m ((c.tc : Thread Cert.QkvProjReferenceIdeal.nD Cert.QkvProjReferenceIdeal.τ).loc Cert.QkvProjReferenceIdeal.main_arg0)) (m ((c.tc : Thread Cert.QkvProjReferenceIdeal.nD Cert.QkvProjReferenceIdeal.τ).loc Cert.QkvProjReferenceIdeal.main_arg1)) (m ((c.tc : Thread Cert.QkvProjReferenceIdeal.nD Cert.QkvProjReferenceIdeal.τ).loc Cert.QkvProjReferenceIdeal.main_arg2)) (m ((c.tc : Thread Cert.QkvProjReferenceIdeal.nD Cert.QkvProjReferenceIdeal.τ).loc Cert.QkvProjReferenceIdeal.main_arg3))) = (fun _ => 1#1)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjIdeal_pre_small_o [hOProjIdeal : Cert.OProjIdeal.Facts] [hPre_small_o : Cert.Pre_small_o.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal_small_o m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjReferenceIdeal [hOProjReferenceIdeal : Cert.OProjReferenceIdeal.Facts] : Prop :=
  ∀ (m : (ℓ : Loc Cert.OProjReferenceIdeal.nD Cert.OProjReferenceIdeal.τ Cert.OProjReferenceIdeal.sig) → Buf (Elt Ideal) ℓ) (g : Dev Cert.OProjReferenceIdeal.nD → PrngReg), Pre_OProjReferenceIdeal m →
    θ_run (Cert.OProjReferenceIdeal.defs (F := Ideal)) (onTc (τ := Cert.OProjReferenceIdeal.τ) (Cert.OProjReferenceIdeal.main (F := Ideal))) ⟨m, fun _ => 0, g⟩ (fun r => (∀ c : Dev Cert.OProjReferenceIdeal.nD,
      r.2.mem ((c.tc : Thread Cert.OProjReferenceIdeal.nD Cert.OProjReferenceIdeal.τ).loc Cert.OProjReferenceIdeal.main_arg0) = m ((c.tc : Thread Cert.OProjReferenceIdeal.nD Cert.OProjReferenceIdeal.τ).loc Cert.OProjReferenceIdeal.main_arg0)
      ∧ r.2.mem ((c.tc : Thread Cert.OProjReferenceIdeal.nD Cert.OProjReferenceIdeal.τ).loc Cert.OProjReferenceIdeal.main_arg1) = m ((c.tc : Thread Cert.OProjReferenceIdeal.nD Cert.OProjReferenceIdeal.τ).loc Cert.OProjReferenceIdeal.main_arg1)
      ∧ r.2.mem ((c.tc : Thread Cert.OProjReferenceIdeal.nD Cert.OProjReferenceIdeal.τ).loc Cert.OProjReferenceIdeal.main_arg2) = m ((c.tc : Thread Cert.OProjReferenceIdeal.nD Cert.OProjReferenceIdeal.τ).loc Cert.OProjReferenceIdeal.main_arg2)
      ∧ r.2.mem ((c.tc : Thread Cert.OProjReferenceIdeal.nD Cert.OProjReferenceIdeal.τ).loc Cert.OProjReferenceIdeal.main_arg3) = m ((c.tc : Thread Cert.OProjReferenceIdeal.nD Cert.OProjReferenceIdeal.τ).loc Cert.OProjReferenceIdeal.main_arg3)
      ∧ r.2.mem ((c.tc : Thread Cert.OProjReferenceIdeal.nD Cert.OProjReferenceIdeal.τ).loc Cert.OProjReferenceIdeal.main_arg4) = m ((c.tc : Thread Cert.OProjReferenceIdeal.nD Cert.OProjReferenceIdeal.τ).loc Cert.OProjReferenceIdeal.main_arg4))
      ∧ r.2.sem = fun _ => 0)

def quiescent_OProjReferenceIdeal_pre_small_o [hOProjReferenceIdeal : Cert.OProjReferenceIdeal.Facts] [hPre_small_o : Cert.Pre_small_o.Facts] : Prop :=
  ∀ (m : (ℓ : Loc Cert.OProjReferenceIdeal.nD Cert.OProjReferenceIdeal.τ Cert.OProjReferenceIdeal.sig) → Buf (Elt Ideal) ℓ) (g : Dev Cert.OProjReferenceIdeal.nD → PrngReg), Pre_OProjReferenceIdeal_small_o m →
    θ_run (Cert.OProjReferenceIdeal.defs (F := Ideal)) (onTc (τ := Cert.OProjReferenceIdeal.τ) (Cert.OProjReferenceIdeal.main (F := Ideal))) ⟨m, fun _ => 0, g⟩ (fun r => (∀ c : Dev Cert.OProjReferenceIdeal.nD,
      r.2.mem ((c.tc : Thread Cert.OProjReferenceIdeal.nD Cert.OProjReferenceIdeal.τ).loc Cert.OProjReferenceIdeal.main_arg0) = m ((c.tc : Thread Cert.OProjReferenceIdeal.nD Cert.OProjReferenceIdeal.τ).loc Cert.OProjReferenceIdeal.main_arg0)
      ∧ r.2.mem ((c.tc : Thread Cert.OProjReferenceIdeal.nD Cert.OProjReferenceIdeal.τ).loc Cert.OProjReferenceIdeal.main_arg1) = m ((c.tc : Thread Cert.OProjReferenceIdeal.nD Cert.OProjReferenceIdeal.τ).loc Cert.OProjReferenceIdeal.main_arg1)
      ∧ r.2.mem ((c.tc : Thread Cert.OProjReferenceIdeal.nD Cert.OProjReferenceIdeal.τ).loc Cert.OProjReferenceIdeal.main_arg2) = m ((c.tc : Thread Cert.OProjReferenceIdeal.nD Cert.OProjReferenceIdeal.τ).loc Cert.OProjReferenceIdeal.main_arg2)
      ∧ r.2.mem ((c.tc : Thread Cert.OProjReferenceIdeal.nD Cert.OProjReferenceIdeal.τ).loc Cert.OProjReferenceIdeal.main_arg3) = m ((c.tc : Thread Cert.OProjReferenceIdeal.nD Cert.OProjReferenceIdeal.τ).loc Cert.OProjReferenceIdeal.main_arg3)
      ∧ r.2.mem ((c.tc : Thread Cert.OProjReferenceIdeal.nD Cert.OProjReferenceIdeal.τ).loc Cert.OProjReferenceIdeal.main_arg4) = m ((c.tc : Thread Cert.OProjReferenceIdeal.nD Cert.OProjReferenceIdeal.τ).loc Cert.OProjReferenceIdeal.main_arg4))
      ∧ r.2.sem = fun _ => 0)

def quiescent_GuProj [hGuProj : Cert.GuProj.Facts] : Prop :=
  ∀ (m : (ℓ : Loc Cert.GuProj.nD Cert.GuProj.τ Cert.GuProj.sig) → Buf (Elt Bits) ℓ) (g : Dev Cert.GuProj.nD → PrngReg), Pre_GuProj m →
    θ_run (Cert.GuProj.defs (F := Bits)) (onTc (τ := Cert.GuProj.τ) (Cert.GuProj.main (F := Bits))) ⟨m, fun _ => 0, g⟩ (fun r => (∀ c : Dev Cert.GuProj.nD,
      r.2.mem ((c.tc : Thread Cert.GuProj.nD Cert.GuProj.τ).loc Cert.GuProj.main_arg0) = m ((c.tc : Thread Cert.GuProj.nD Cert.GuProj.τ).loc Cert.GuProj.main_arg0)
      ∧ r.2.mem ((c.tc : Thread Cert.GuProj.nD Cert.GuProj.τ).loc Cert.GuProj.main_arg1) = m ((c.tc : Thread Cert.GuProj.nD Cert.GuProj.τ).loc Cert.GuProj.main_arg1)
      ∧ r.2.mem ((c.tc : Thread Cert.GuProj.nD Cert.GuProj.τ).loc Cert.GuProj.main_arg2) = m ((c.tc : Thread Cert.GuProj.nD Cert.GuProj.τ).loc Cert.GuProj.main_arg2)
      ∧ r.2.mem ((c.tc : Thread Cert.GuProj.nD Cert.GuProj.τ).loc Cert.GuProj.main_arg3) = m ((c.tc : Thread Cert.GuProj.nD Cert.GuProj.τ).loc Cert.GuProj.main_arg3)
      ∧ r.2.mem ((c.tc : Thread Cert.GuProj.nD Cert.GuProj.τ).loc Cert.GuProj.main_arg4) = m ((c.tc : Thread Cert.GuProj.nD Cert.GuProj.τ).loc Cert.GuProj.main_arg4)
      ∧ r.2.mem ((c.tc : Thread Cert.GuProj.nD Cert.GuProj.τ).loc Cert.GuProj.main_arg5) = m ((c.tc : Thread Cert.GuProj.nD Cert.GuProj.τ).loc Cert.GuProj.main_arg5))
      ∧ r.2.sem = fun _ => 0)

def quiescent_GuProjIdeal [hGuProjIdeal : Cert.GuProjIdeal.Facts] : Prop :=
  ∀ (m : (ℓ : Loc Cert.GuProjIdeal.nD Cert.GuProjIdeal.τ Cert.GuProjIdeal.sig) → Buf (Elt Ideal) ℓ) (g : Dev Cert.GuProjIdeal.nD → PrngReg), Pre_GuProjIdeal m →
    θ_run (Cert.GuProjIdeal.defs (F := Ideal)) (onTc (τ := Cert.GuProjIdeal.τ) (Cert.GuProjIdeal.main (F := Ideal))) ⟨m, fun _ => 0, g⟩ (fun r => (∀ c : Dev Cert.GuProjIdeal.nD,
      r.2.mem ((c.tc : Thread Cert.GuProjIdeal.nD Cert.GuProjIdeal.τ).loc Cert.GuProjIdeal.main_arg0) = m ((c.tc : Thread Cert.GuProjIdeal.nD Cert.GuProjIdeal.τ).loc Cert.GuProjIdeal.main_arg0)
      ∧ r.2.mem ((c.tc : Thread Cert.GuProjIdeal.nD Cert.GuProjIdeal.τ).loc Cert.GuProjIdeal.main_arg1) = m ((c.tc : Thread Cert.GuProjIdeal.nD Cert.GuProjIdeal.τ).loc Cert.GuProjIdeal.main_arg1)
      ∧ r.2.mem ((c.tc : Thread Cert.GuProjIdeal.nD Cert.GuProjIdeal.τ).loc Cert.GuProjIdeal.main_arg2) = m ((c.tc : Thread Cert.GuProjIdeal.nD Cert.GuProjIdeal.τ).loc Cert.GuProjIdeal.main_arg2)
      ∧ r.2.mem ((c.tc : Thread Cert.GuProjIdeal.nD Cert.GuProjIdeal.τ).loc Cert.GuProjIdeal.main_arg3) = m ((c.tc : Thread Cert.GuProjIdeal.nD Cert.GuProjIdeal.τ).loc Cert.GuProjIdeal.main_arg3)
      ∧ r.2.mem ((c.tc : Thread Cert.GuProjIdeal.nD Cert.GuProjIdeal.τ).loc Cert.GuProjIdeal.main_arg4) = m ((c.tc : Thread Cert.GuProjIdeal.nD Cert.GuProjIdeal.τ).loc Cert.GuProjIdeal.main_arg4)
      ∧ r.2.mem ((c.tc : Thread Cert.GuProjIdeal.nD Cert.GuProjIdeal.τ).loc Cert.GuProjIdeal.main_arg5) = m ((c.tc : Thread Cert.GuProjIdeal.nD Cert.GuProjIdeal.τ).loc Cert.GuProjIdeal.main_arg5))
      ∧ r.2.sem = fun _ => 0)

def quiescent_GuProjIdeal_pre_small_gu [hGuProjIdeal : Cert.GuProjIdeal.Facts] [hPre_small_gu : Cert.Pre_small_gu.Facts] : Prop :=
  ∀ (m : (ℓ : Loc Cert.GuProjIdeal.nD Cert.GuProjIdeal.τ Cert.GuProjIdeal.sig) → Buf (Elt Ideal) ℓ) (g : Dev Cert.GuProjIdeal.nD → PrngReg), Pre_GuProjIdeal_small_gu m →
    θ_run (Cert.GuProjIdeal.defs (F := Ideal)) (onTc (τ := Cert.GuProjIdeal.τ) (Cert.GuProjIdeal.main (F := Ideal))) ⟨m, fun _ => 0, g⟩ (fun r => (∀ c : Dev Cert.GuProjIdeal.nD,
      r.2.mem ((c.tc : Thread Cert.GuProjIdeal.nD Cert.GuProjIdeal.τ).loc Cert.GuProjIdeal.main_arg0) = m ((c.tc : Thread Cert.GuProjIdeal.nD Cert.GuProjIdeal.τ).loc Cert.GuProjIdeal.main_arg0)
      ∧ r.2.mem ((c.tc : Thread Cert.GuProjIdeal.nD Cert.GuProjIdeal.τ).loc Cert.GuProjIdeal.main_arg1) = m ((c.tc : Thread Cert.GuProjIdeal.nD Cert.GuProjIdeal.τ).loc Cert.GuProjIdeal.main_arg1)
      ∧ r.2.mem ((c.tc : Thread Cert.GuProjIdeal.nD Cert.GuProjIdeal.τ).loc Cert.GuProjIdeal.main_arg2) = m ((c.tc : Thread Cert.GuProjIdeal.nD Cert.GuProjIdeal.τ).loc Cert.GuProjIdeal.main_arg2)
      ∧ r.2.mem ((c.tc : Thread Cert.GuProjIdeal.nD Cert.GuProjIdeal.τ).loc Cert.GuProjIdeal.main_arg3) = m ((c.tc : Thread Cert.GuProjIdeal.nD Cert.GuProjIdeal.τ).loc Cert.GuProjIdeal.main_arg3)
      ∧ r.2.mem ((c.tc : Thread Cert.GuProjIdeal.nD Cert.GuProjIdeal.τ).loc Cert.GuProjIdeal.main_arg4) = m ((c.tc : Thread Cert.GuProjIdeal.nD Cert.GuProjIdeal.τ).loc Cert.GuProjIdeal.main_arg4)
      ∧ r.2.mem ((c.tc : Thread Cert.GuProjIdeal.nD Cert.GuProjIdeal.τ).loc Cert.GuProjIdeal.main_arg5) = m ((c.tc : Thread Cert.GuProjIdeal.nD Cert.GuProjIdeal.τ).loc Cert.GuProjIdeal.main_arg5))
      ∧ r.2.sem = fun _ => 0)

def quiescent_GuProjReferenceIdeal [hGuProjReferenceIdeal : Cert.GuProjReferenceIdeal.Facts] : Prop :=
  ∀ (m : (ℓ : Loc Cert.GuProjReferenceIdeal.nD Cert.GuProjReferenceIdeal.τ Cert.GuProjReferenceIdeal.sig) → Buf (Elt Ideal) ℓ) (g : Dev Cert.GuProjReferenceIdeal.nD → PrngReg), Pre_GuProjReferenceIdeal m →
    θ_run (Cert.GuProjReferenceIdeal.defs (F := Ideal)) (onTc (τ := Cert.GuProjReferenceIdeal.τ) (Cert.GuProjReferenceIdeal.main (F := Ideal))) ⟨m, fun _ => 0, g⟩ (fun r => (∀ c : Dev Cert.GuProjReferenceIdeal.nD,
      r.2.mem ((c.tc : Thread Cert.GuProjReferenceIdeal.nD Cert.GuProjReferenceIdeal.τ).loc Cert.GuProjReferenceIdeal.main_arg0) = m ((c.tc : Thread Cert.GuProjReferenceIdeal.nD Cert.GuProjReferenceIdeal.τ).loc Cert.GuProjReferenceIdeal.main_arg0)
      ∧ r.2.mem ((c.tc : Thread Cert.GuProjReferenceIdeal.nD Cert.GuProjReferenceIdeal.τ).loc Cert.GuProjReferenceIdeal.main_arg1) = m ((c.tc : Thread Cert.GuProjReferenceIdeal.nD Cert.GuProjReferenceIdeal.τ).loc Cert.GuProjReferenceIdeal.main_arg1)
      ∧ r.2.mem ((c.tc : Thread Cert.GuProjReferenceIdeal.nD Cert.GuProjReferenceIdeal.τ).loc Cert.GuProjReferenceIdeal.main_arg2) = m ((c.tc : Thread Cert.GuProjReferenceIdeal.nD Cert.GuProjReferenceIdeal.τ).loc Cert.GuProjReferenceIdeal.main_arg2)
      ∧ r.2.mem ((c.tc : Thread Cert.GuProjReferenceIdeal.nD Cert.GuProjReferenceIdeal.τ).loc Cert.GuProjReferenceIdeal.main_arg3) = m ((c.tc : Thread Cert.GuProjReferenceIdeal.nD Cert.GuProjReferenceIdeal.τ).loc Cert.GuProjReferenceIdeal.main_arg3)
      ∧ r.2.mem ((c.tc : Thread Cert.GuProjReferenceIdeal.nD Cert.GuProjReferenceIdeal.τ).loc Cert.GuProjReferenceIdeal.main_arg4) = m ((c.tc : Thread Cert.GuProjReferenceIdeal.nD Cert.GuProjReferenceIdeal.τ).loc Cert.GuProjReferenceIdeal.main_arg4)
      ∧ r.2.mem ((c.tc : Thread Cert.GuProjReferenceIdeal.nD Cert.GuProjReferenceIdeal.τ).loc Cert.GuProjReferenceIdeal.main_arg5) = m ((c.tc : Thread Cert.GuProjReferenceIdeal.nD Cert.GuProjReferenceIdeal.τ).loc Cert.GuProjReferenceIdeal.main_arg5))
      ∧ r.2.sem = fun _ => 0)

def quiescent_GuProjReferenceIdeal_pre_small_gu [hGuProjReferenceIdeal : Cert.GuProjReferenceIdeal.Facts] [hPre_small_gu : Cert.Pre_small_gu.Facts] : Prop :=
  ∀ (m : (ℓ : Loc Cert.GuProjReferenceIdeal.nD Cert.GuProjReferenceIdeal.τ Cert.GuProjReferenceIdeal.sig) → Buf (Elt Ideal) ℓ) (g : Dev Cert.GuProjReferenceIdeal.nD → PrngReg), Pre_GuProjReferenceIdeal_small_gu m →
    θ_run (Cert.GuProjReferenceIdeal.defs (F := Ideal)) (onTc (τ := Cert.GuProjReferenceIdeal.τ) (Cert.GuProjReferenceIdeal.main (F := Ideal))) ⟨m, fun _ => 0, g⟩ (fun r => (∀ c : Dev Cert.GuProjReferenceIdeal.nD,
      r.2.mem ((c.tc : Thread Cert.GuProjReferenceIdeal.nD Cert.GuProjReferenceIdeal.τ).loc Cert.GuProjReferenceIdeal.main_arg0) = m ((c.tc : Thread Cert.GuProjReferenceIdeal.nD Cert.GuProjReferenceIdeal.τ).loc Cert.GuProjReferenceIdeal.main_arg0)
      ∧ r.2.mem ((c.tc : Thread Cert.GuProjReferenceIdeal.nD Cert.GuProjReferenceIdeal.τ).loc Cert.GuProjReferenceIdeal.main_arg1) = m ((c.tc : Thread Cert.GuProjReferenceIdeal.nD Cert.GuProjReferenceIdeal.τ).loc Cert.GuProjReferenceIdeal.main_arg1)
      ∧ r.2.mem ((c.tc : Thread Cert.GuProjReferenceIdeal.nD Cert.GuProjReferenceIdeal.τ).loc Cert.GuProjReferenceIdeal.main_arg2) = m ((c.tc : Thread Cert.GuProjReferenceIdeal.nD Cert.GuProjReferenceIdeal.τ).loc Cert.GuProjReferenceIdeal.main_arg2)
      ∧ r.2.mem ((c.tc : Thread Cert.GuProjReferenceIdeal.nD Cert.GuProjReferenceIdeal.τ).loc Cert.GuProjReferenceIdeal.main_arg3) = m ((c.tc : Thread Cert.GuProjReferenceIdeal.nD Cert.GuProjReferenceIdeal.τ).loc Cert.GuProjReferenceIdeal.main_arg3)
      ∧ r.2.mem ((c.tc : Thread Cert.GuProjReferenceIdeal.nD Cert.GuProjReferenceIdeal.τ).loc Cert.GuProjReferenceIdeal.main_arg4) = m ((c.tc : Thread Cert.GuProjReferenceIdeal.nD Cert.GuProjReferenceIdeal.τ).loc Cert.GuProjReferenceIdeal.main_arg4)
      ∧ r.2.mem ((c.tc : Thread Cert.GuProjReferenceIdeal.nD Cert.GuProjReferenceIdeal.τ).loc Cert.GuProjReferenceIdeal.main_arg5) = m ((c.tc : Thread Cert.GuProjReferenceIdeal.nD Cert.GuProjReferenceIdeal.τ).loc Cert.GuProjReferenceIdeal.main_arg5))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjIdeal_pre_small_down [hDownProjIdeal : Cert.DownProjIdeal.Facts] [hPre_small_down : Cert.Pre_small_down.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal_small_down m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2)
      ∧ r.2.mem ((c.tc : Thread Cert.DownProjReferenceIdeal.nD Cert.DownProjReferenceIdeal.τ).loc Cert.DownProjReferenceIdeal.main_arg3) = m ((c.tc : Thread Cert.DownProjReferenceIdeal.nD Cert.DownProjReferenceIdeal.τ).loc Cert.DownProjReferenceIdeal.main_arg3)
      ∧ r.2.mem ((c.tc : Thread Cert.DownProjReferenceIdeal.nD Cert.DownProjReferenceIdeal.τ).loc Cert.DownProjReferenceIdeal.main_arg4) = m ((c.tc : Thread Cert.DownProjReferenceIdeal.nD Cert.DownProjReferenceIdeal.τ).loc Cert.DownProjReferenceIdeal.main_arg4))
      ∧ r.2.sem = fun _ => 0)

def quiescent_DownProjReferenceIdeal_pre_small_down [hDownProjReferenceIdeal : Cert.DownProjReferenceIdeal.Facts] [hPre_small_down : Cert.Pre_small_down.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal_small_down m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2)
      ∧ r.2.mem ((c.tc : Thread Cert.DownProjReferenceIdeal.nD Cert.DownProjReferenceIdeal.τ).loc Cert.DownProjReferenceIdeal.main_arg3) = m ((c.tc : Thread Cert.DownProjReferenceIdeal.nD Cert.DownProjReferenceIdeal.τ).loc Cert.DownProjReferenceIdeal.main_arg3)
      ∧ r.2.mem ((c.tc : Thread Cert.DownProjReferenceIdeal.nD Cert.DownProjReferenceIdeal.τ).loc Cert.DownProjReferenceIdeal.main_arg4) = m ((c.tc : Thread Cert.DownProjReferenceIdeal.nD Cert.DownProjReferenceIdeal.τ).loc Cert.DownProjReferenceIdeal.main_arg4))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1)
      ∧ r.2.mem ((c.tc : Thread Cert.QkvProj.nD Cert.QkvProj.τ).loc Cert.QkvProj.main_arg2) = m ((c.tc : Thread Cert.QkvProj.nD Cert.QkvProj.τ).loc Cert.QkvProj.main_arg2)
      ∧ r.2.mem ((c.tc : Thread Cert.QkvProj.nD Cert.QkvProj.τ).loc Cert.QkvProj.main_arg3) = m ((c.tc : Thread Cert.QkvProj.nD Cert.QkvProj.τ).loc Cert.QkvProj.main_arg3))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2)
      ∧ r.2.mem ((c.tc : Thread Cert.QkvProjIdeal.nD Cert.QkvProjIdeal.τ).loc Cert.QkvProjIdeal.main_arg3) = m ((c.tc : Thread Cert.QkvProjIdeal.nD Cert.QkvProjIdeal.τ).loc Cert.QkvProjIdeal.main_arg3))
      ∧ r.2.sem = fun _ => 0)

def quiescent_QkvProjIdeal_pre_small_qkv [hQkvProjIdeal : Cert.QkvProjIdeal.Facts] [hPre_small_qkv : Cert.Pre_small_qkv.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal_small_qkv m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2)
      ∧ r.2.mem ((c.tc : Thread Cert.QkvProjIdeal.nD Cert.QkvProjIdeal.τ).loc Cert.QkvProjIdeal.main_arg3) = m ((c.tc : Thread Cert.QkvProjIdeal.nD Cert.QkvProjIdeal.τ).loc Cert.QkvProjIdeal.main_arg3))
      ∧ r.2.sem = fun _ => 0)

def quiescent_QkvProjReferenceIdeal [hQkvProjReferenceIdeal : Cert.QkvProjReferenceIdeal.Facts] : Prop :=
  ∀ (m : (ℓ : Loc Cert.QkvProjReferenceIdeal.nD Cert.QkvProjReferenceIdeal.τ Cert.QkvProjReferenceIdeal.sig) → Buf (Elt Ideal) ℓ) (g : Dev Cert.QkvProjReferenceIdeal.nD → PrngReg), Pre_QkvProjReferenceIdeal m →
    θ_run (Cert.QkvProjReferenceIdeal.defs (F := Ideal)) (onTc (τ := Cert.QkvProjReferenceIdeal.τ) (Cert.QkvProjReferenceIdeal.main (F := Ideal))) ⟨m, fun _ => 0, g⟩ (fun r => (∀ c : Dev Cert.QkvProjReferenceIdeal.nD,
      r.2.mem ((c.tc : Thread Cert.QkvProjReferenceIdeal.nD Cert.QkvProjReferenceIdeal.τ).loc Cert.QkvProjReferenceIdeal.main_arg0) = m ((c.tc : Thread Cert.QkvProjReferenceIdeal.nD Cert.QkvProjReferenceIdeal.τ).loc Cert.QkvProjReferenceIdeal.main_arg0)
      ∧ r.2.mem ((c.tc : Thread Cert.QkvProjReferenceIdeal.nD Cert.QkvProjReferenceIdeal.τ).loc Cert.QkvProjReferenceIdeal.main_arg1) = m ((c.tc : Thread Cert.QkvProjReferenceIdeal.nD Cert.QkvProjReferenceIdeal.τ).loc Cert.QkvProjReferenceIdeal.main_arg1)
      ∧ r.2.mem ((c.tc : Thread Cert.QkvProjReferenceIdeal.nD Cert.QkvProjReferenceIdeal.τ).loc Cert.QkvProjReferenceIdeal.main_arg2) = m ((c.tc : Thread Cert.QkvProjReferenceIdeal.nD Cert.QkvProjReferenceIdeal.τ).loc Cert.QkvProjReferenceIdeal.main_arg2)
      ∧ r.2.mem ((c.tc : Thread Cert.QkvProjReferenceIdeal.nD Cert.QkvProjReferenceIdeal.τ).loc Cert.QkvProjReferenceIdeal.main_arg3) = m ((c.tc : Thread Cert.QkvProjReferenceIdeal.nD Cert.QkvProjReferenceIdeal.τ).loc Cert.QkvProjReferenceIdeal.main_arg3))
      ∧ r.2.sem = fun _ => 0)

def quiescent_QkvProjReferenceIdeal_pre_small_qkv [hQkvProjReferenceIdeal : Cert.QkvProjReferenceIdeal.Facts] [hPre_small_qkv : Cert.Pre_small_qkv.Facts] : Prop :=
  ∀ (m : (ℓ : Loc Cert.QkvProjReferenceIdeal.nD Cert.QkvProjReferenceIdeal.τ Cert.QkvProjReferenceIdeal.sig) → Buf (Elt Ideal) ℓ) (g : Dev Cert.QkvProjReferenceIdeal.nD → PrngReg), Pre_QkvProjReferenceIdeal_small_qkv m →
    θ_run (Cert.QkvProjReferenceIdeal.defs (F := Ideal)) (onTc (τ := Cert.QkvProjReferenceIdeal.τ) (Cert.QkvProjReferenceIdeal.main (F := Ideal))) ⟨m, fun _ => 0, g⟩ (fun r => (∀ c : Dev Cert.QkvProjReferenceIdeal.nD,
      r.2.mem ((c.tc : Thread Cert.QkvProjReferenceIdeal.nD Cert.QkvProjReferenceIdeal.τ).loc Cert.QkvProjReferenceIdeal.main_arg0) = m ((c.tc : Thread Cert.QkvProjReferenceIdeal.nD Cert.QkvProjReferenceIdeal.τ).loc Cert.QkvProjReferenceIdeal.main_arg0)
      ∧ r.2.mem ((c.tc : Thread Cert.QkvProjReferenceIdeal.nD Cert.QkvProjReferenceIdeal.τ).loc Cert.QkvProjReferenceIdeal.main_arg1) = m ((c.tc : Thread Cert.QkvProjReferenceIdeal.nD Cert.QkvProjReferenceIdeal.τ).loc Cert.QkvProjReferenceIdeal.main_arg1)
      ∧ r.2.mem ((c.tc : Thread Cert.QkvProjReferenceIdeal.nD Cert.QkvProjReferenceIdeal.τ).loc Cert.QkvProjReferenceIdeal.main_arg2) = m ((c.tc : Thread Cert.QkvProjReferenceIdeal.nD Cert.QkvProjReferenceIdeal.τ).loc Cert.QkvProjReferenceIdeal.main_arg2)
      ∧ r.2.mem ((c.tc : Thread Cert.QkvProjReferenceIdeal.nD Cert.QkvProjReferenceIdeal.τ).loc Cert.QkvProjReferenceIdeal.main_arg3) = m ((c.tc : Thread Cert.QkvProjReferenceIdeal.nD Cert.QkvProjReferenceIdeal.τ).loc Cert.QkvProjReferenceIdeal.main_arg3))
      ∧ r.2.sem = fun _ => 0)

def preserves_OProj_OProjIdeal : Prop :=
  True

def algebraic_OProjIdeal_OProjReferenceIdeal_pre_small_o [hOProjIdeal : Cert.OProjIdeal.Facts] [hOProjReferenceIdeal : Cert.OProjReferenceIdeal.Facts] [hPre_small_o : Cert.Pre_small_o.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjReferenceIdeal.nD Cert.OProjReferenceIdeal.τ Cert.OProjReferenceIdeal.sig) → Buf (Elt Ideal) ℓ) (g' : Dev Cert.OProjReferenceIdeal.nD → PrngReg), Pre_OProjIdeal_small_o m →
    (∀ c : Dev Cert.OProjIdeal.nD,
      m' ((c.tc : Thread Cert.OProjReferenceIdeal.nD Cert.OProjReferenceIdeal.τ).loc Cert.OProjReferenceIdeal.main_arg0) = m ((c.tc : Thread Cert.OProjIdeal.nD Cert.OProjIdeal.τ).loc Cert.OProjIdeal.main_arg0)
      ∧ m' ((c.tc : Thread Cert.OProjReferenceIdeal.nD Cert.OProjReferenceIdeal.τ).loc Cert.OProjReferenceIdeal.main_arg1) = m ((c.tc : Thread Cert.OProjIdeal.nD Cert.OProjIdeal.τ).loc Cert.OProjIdeal.main_arg1)
      ∧ m' ((c.tc : Thread Cert.OProjReferenceIdeal.nD Cert.OProjReferenceIdeal.τ).loc Cert.OProjReferenceIdeal.main_arg2) = m ((c.tc : Thread Cert.OProjIdeal.nD Cert.OProjIdeal.τ).loc Cert.OProjIdeal.main_arg2)
      ∧ m' ((c.tc : Thread Cert.OProjReferenceIdeal.nD Cert.OProjReferenceIdeal.τ).loc Cert.OProjReferenceIdeal.main_arg3) = m ((c.tc : Thread Cert.OProjIdeal.nD Cert.OProjIdeal.τ).loc Cert.OProjIdeal.main_arg3)
      ∧ m' ((c.tc : Thread Cert.OProjReferenceIdeal.nD Cert.OProjReferenceIdeal.τ).loc Cert.OProjReferenceIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)) (v2 : (c : Dev Cert.OProjIdeal.nD) → Buf (Elt Ideal) ((c.tc : Thread Cert.OProjIdeal.nD Cert.OProjIdeal.τ).loc Cert.OProjIdeal.main_v3)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_v3) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjReferenceIdeal.defs (F := Ideal)) (onTc (τ := Cert.OProjReferenceIdeal.τ) (Cert.OProjReferenceIdeal.main (F := Ideal))) ⟨m', fun _ => 0, g'⟩ (fun r => ∀ c : Dev Cert.OProjReferenceIdeal.nD,
          r.2.mem ((c.tc : Thread Cert.OProjReferenceIdeal.nD Cert.OProjReferenceIdeal.τ).loc Cert.OProjReferenceIdeal.main_v0_0) = v0 c
          ∧ r.2.mem ((c.tc : Thread Cert.OProjReferenceIdeal.nD Cert.OProjReferenceIdeal.τ).loc Cert.OProjReferenceIdeal.main_v0_1) = v1 c
          ∧ r.2.mem ((c.tc : Thread Cert.OProjReferenceIdeal.nD Cert.OProjReferenceIdeal.τ).loc Cert.OProjReferenceIdeal.main_v0_2) = v2 c
          ∧ r.2.mem ((c.tc : Thread Cert.OProjReferenceIdeal.nD Cert.OProjReferenceIdeal.τ).loc Cert.OProjReferenceIdeal.main_arg0) = m' ((c.tc : Thread Cert.OProjReferenceIdeal.nD Cert.OProjReferenceIdeal.τ).loc Cert.OProjReferenceIdeal.main_arg0)
          ∧ r.2.mem ((c.tc : Thread Cert.OProjReferenceIdeal.nD Cert.OProjReferenceIdeal.τ).loc Cert.OProjReferenceIdeal.main_arg1) = m' ((c.tc : Thread Cert.OProjReferenceIdeal.nD Cert.OProjReferenceIdeal.τ).loc Cert.OProjReferenceIdeal.main_arg1)
          ∧ r.2.mem ((c.tc : Thread Cert.OProjReferenceIdeal.nD Cert.OProjReferenceIdeal.τ).loc Cert.OProjReferenceIdeal.main_arg2) = m' ((c.tc : Thread Cert.OProjReferenceIdeal.nD Cert.OProjReferenceIdeal.τ).loc Cert.OProjReferenceIdeal.main_arg2)
          ∧ r.2.mem ((c.tc : Thread Cert.OProjReferenceIdeal.nD Cert.OProjReferenceIdeal.τ).loc Cert.OProjReferenceIdeal.main_arg3) = m' ((c.tc : Thread Cert.OProjReferenceIdeal.nD Cert.OProjReferenceIdeal.τ).loc Cert.OProjReferenceIdeal.main_arg3)
          ∧ r.2.mem ((c.tc : Thread Cert.OProjReferenceIdeal.nD Cert.OProjReferenceIdeal.τ).loc Cert.OProjReferenceIdeal.main_arg4) = m' ((c.tc : Thread Cert.OProjReferenceIdeal.nD Cert.OProjReferenceIdeal.τ).loc Cert.OProjReferenceIdeal.main_arg4))

def preserves_GuProj_GuProjIdeal : Prop :=
  True

def algebraic_GuProjIdeal_GuProjReferenceIdeal_pre_small_gu [hGuProjIdeal : Cert.GuProjIdeal.Facts] [hGuProjReferenceIdeal : Cert.GuProjReferenceIdeal.Facts] [hPre_small_gu : Cert.Pre_small_gu.Facts] : Prop :=
  ∀ (m : (ℓ : Loc Cert.GuProjIdeal.nD Cert.GuProjIdeal.τ Cert.GuProjIdeal.sig) → Buf (Elt Ideal) ℓ) (g : Dev Cert.GuProjIdeal.nD → PrngReg)
    (m' : (ℓ : Loc Cert.GuProjReferenceIdeal.nD Cert.GuProjReferenceIdeal.τ Cert.GuProjReferenceIdeal.sig) → Buf (Elt Ideal) ℓ) (g' : Dev Cert.GuProjReferenceIdeal.nD → PrngReg), Pre_GuProjIdeal_small_gu m →
    (∀ c : Dev Cert.GuProjIdeal.nD,
      m' ((c.tc : Thread Cert.GuProjReferenceIdeal.nD Cert.GuProjReferenceIdeal.τ).loc Cert.GuProjReferenceIdeal.main_arg0) = m ((c.tc : Thread Cert.GuProjIdeal.nD Cert.GuProjIdeal.τ).loc Cert.GuProjIdeal.main_arg0)
      ∧ m' ((c.tc : Thread Cert.GuProjReferenceIdeal.nD Cert.GuProjReferenceIdeal.τ).loc Cert.GuProjReferenceIdeal.main_arg1) = m ((c.tc : Thread Cert.GuProjIdeal.nD Cert.GuProjIdeal.τ).loc Cert.GuProjIdeal.main_arg1)
      ∧ m' ((c.tc : Thread Cert.GuProjReferenceIdeal.nD Cert.GuProjReferenceIdeal.τ).loc Cert.GuProjReferenceIdeal.main_arg2) = m ((c.tc : Thread Cert.GuProjIdeal.nD Cert.GuProjIdeal.τ).loc Cert.GuProjIdeal.main_arg2)
      ∧ m' ((c.tc : Thread Cert.GuProjReferenceIdeal.nD Cert.GuProjReferenceIdeal.τ).loc Cert.GuProjReferenceIdeal.main_arg3) = m ((c.tc : Thread Cert.GuProjIdeal.nD Cert.GuProjIdeal.τ).loc Cert.GuProjIdeal.main_arg3)
      ∧ m' ((c.tc : Thread Cert.GuProjReferenceIdeal.nD Cert.GuProjReferenceIdeal.τ).loc Cert.GuProjReferenceIdeal.main_arg4) = m ((c.tc : Thread Cert.GuProjIdeal.nD Cert.GuProjIdeal.τ).loc Cert.GuProjIdeal.main_arg4)
      ∧ m' ((c.tc : Thread Cert.GuProjReferenceIdeal.nD Cert.GuProjReferenceIdeal.τ).loc Cert.GuProjReferenceIdeal.main_arg5) = m ((c.tc : Thread Cert.GuProjIdeal.nD Cert.GuProjIdeal.τ).loc Cert.GuProjIdeal.main_arg5)) →
    ∃ (v0 : (c : Dev Cert.GuProjIdeal.nD) → Buf (Elt Ideal) ((c.tc : Thread Cert.GuProjIdeal.nD Cert.GuProjIdeal.τ).loc Cert.GuProjIdeal.main_v1_0)) (v1 : (c : Dev Cert.GuProjIdeal.nD) → Buf (Elt Ideal) ((c.tc : Thread Cert.GuProjIdeal.nD Cert.GuProjIdeal.τ).loc Cert.GuProjIdeal.main_v1_1)) (v2 : (c : Dev Cert.GuProjIdeal.nD) → Buf (Elt Ideal) ((c.tc : Thread Cert.GuProjIdeal.nD Cert.GuProjIdeal.τ).loc Cert.GuProjIdeal.main_v3)),
      θ_run (Cert.GuProjIdeal.defs (F := Ideal)) (onTc (τ := Cert.GuProjIdeal.τ) (Cert.GuProjIdeal.main (F := Ideal))) ⟨m, fun _ => 0, g⟩ (fun r => ∀ c : Dev Cert.GuProjIdeal.nD,
          r.2.mem ((c.tc : Thread Cert.GuProjIdeal.nD Cert.GuProjIdeal.τ).loc Cert.GuProjIdeal.main_v1_0) = v0 c
          ∧ r.2.mem ((c.tc : Thread Cert.GuProjIdeal.nD Cert.GuProjIdeal.τ).loc Cert.GuProjIdeal.main_v1_1) = v1 c
          ∧ r.2.mem ((c.tc : Thread Cert.GuProjIdeal.nD Cert.GuProjIdeal.τ).loc Cert.GuProjIdeal.main_v3) = v2 c
          ∧ r.2.mem ((c.tc : Thread Cert.GuProjIdeal.nD Cert.GuProjIdeal.τ).loc Cert.GuProjIdeal.main_arg0) = m ((c.tc : Thread Cert.GuProjIdeal.nD Cert.GuProjIdeal.τ).loc Cert.GuProjIdeal.main_arg0)
          ∧ r.2.mem ((c.tc : Thread Cert.GuProjIdeal.nD Cert.GuProjIdeal.τ).loc Cert.GuProjIdeal.main_arg1) = m ((c.tc : Thread Cert.GuProjIdeal.nD Cert.GuProjIdeal.τ).loc Cert.GuProjIdeal.main_arg1)
          ∧ r.2.mem ((c.tc : Thread Cert.GuProjIdeal.nD Cert.GuProjIdeal.τ).loc Cert.GuProjIdeal.main_arg2) = m ((c.tc : Thread Cert.GuProjIdeal.nD Cert.GuProjIdeal.τ).loc Cert.GuProjIdeal.main_arg2)
          ∧ r.2.mem ((c.tc : Thread Cert.GuProjIdeal.nD Cert.GuProjIdeal.τ).loc Cert.GuProjIdeal.main_arg3) = m ((c.tc : Thread Cert.GuProjIdeal.nD Cert.GuProjIdeal.τ).loc Cert.GuProjIdeal.main_arg3)
          ∧ r.2.mem ((c.tc : Thread Cert.GuProjIdeal.nD Cert.GuProjIdeal.τ).loc Cert.GuProjIdeal.main_arg4) = m ((c.tc : Thread Cert.GuProjIdeal.nD Cert.GuProjIdeal.τ).loc Cert.GuProjIdeal.main_arg4)
          ∧ r.2.mem ((c.tc : Thread Cert.GuProjIdeal.nD Cert.GuProjIdeal.τ).loc Cert.GuProjIdeal.main_arg5) = m ((c.tc : Thread Cert.GuProjIdeal.nD Cert.GuProjIdeal.τ).loc Cert.GuProjIdeal.main_arg5))
      ∧ θ_run (Cert.GuProjReferenceIdeal.defs (F := Ideal)) (onTc (τ := Cert.GuProjReferenceIdeal.τ) (Cert.GuProjReferenceIdeal.main (F := Ideal))) ⟨m', fun _ => 0, g'⟩ (fun r => ∀ c : Dev Cert.GuProjReferenceIdeal.nD,
          r.2.mem ((c.tc : Thread Cert.GuProjReferenceIdeal.nD Cert.GuProjReferenceIdeal.τ).loc Cert.GuProjReferenceIdeal.main_v1_0) = v0 c
          ∧ r.2.mem ((c.tc : Thread Cert.GuProjReferenceIdeal.nD Cert.GuProjReferenceIdeal.τ).loc Cert.GuProjReferenceIdeal.main_v1_1) = v1 c
          ∧ r.2.mem ((c.tc : Thread Cert.GuProjReferenceIdeal.nD Cert.GuProjReferenceIdeal.τ).loc Cert.GuProjReferenceIdeal.main_v1_2) = v2 c
          ∧ r.2.mem ((c.tc : Thread Cert.GuProjReferenceIdeal.nD Cert.GuProjReferenceIdeal.τ).loc Cert.GuProjReferenceIdeal.main_arg0) = m' ((c.tc : Thread Cert.GuProjReferenceIdeal.nD Cert.GuProjReferenceIdeal.τ).loc Cert.GuProjReferenceIdeal.main_arg0)
          ∧ r.2.mem ((c.tc : Thread Cert.GuProjReferenceIdeal.nD Cert.GuProjReferenceIdeal.τ).loc Cert.GuProjReferenceIdeal.main_arg1) = m' ((c.tc : Thread Cert.GuProjReferenceIdeal.nD Cert.GuProjReferenceIdeal.τ).loc Cert.GuProjReferenceIdeal.main_arg1)
          ∧ r.2.mem ((c.tc : Thread Cert.GuProjReferenceIdeal.nD Cert.GuProjReferenceIdeal.τ).loc Cert.GuProjReferenceIdeal.main_arg2) = m' ((c.tc : Thread Cert.GuProjReferenceIdeal.nD Cert.GuProjReferenceIdeal.τ).loc Cert.GuProjReferenceIdeal.main_arg2)
          ∧ r.2.mem ((c.tc : Thread Cert.GuProjReferenceIdeal.nD Cert.GuProjReferenceIdeal.τ).loc Cert.GuProjReferenceIdeal.main_arg3) = m' ((c.tc : Thread Cert.GuProjReferenceIdeal.nD Cert.GuProjReferenceIdeal.τ).loc Cert.GuProjReferenceIdeal.main_arg3)
          ∧ r.2.mem ((c.tc : Thread Cert.GuProjReferenceIdeal.nD Cert.GuProjReferenceIdeal.τ).loc Cert.GuProjReferenceIdeal.main_arg4) = m' ((c.tc : Thread Cert.GuProjReferenceIdeal.nD Cert.GuProjReferenceIdeal.τ).loc Cert.GuProjReferenceIdeal.main_arg4)
          ∧ r.2.mem ((c.tc : Thread Cert.GuProjReferenceIdeal.nD Cert.GuProjReferenceIdeal.τ).loc Cert.GuProjReferenceIdeal.main_arg5) = m' ((c.tc : Thread Cert.GuProjReferenceIdeal.nD Cert.GuProjReferenceIdeal.τ).loc Cert.GuProjReferenceIdeal.main_arg5))

def preserves_DownProj_DownProjIdeal : Prop :=
  True

def algebraic_DownProjIdeal_DownProjReferenceIdeal_pre_small_down [hDownProjIdeal : Cert.DownProjIdeal.Facts] [hDownProjReferenceIdeal : Cert.DownProjReferenceIdeal.Facts] [hPre_small_down : Cert.Pre_small_down.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal_small_down m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)
      ∧ m' ((c.tc : Thread Cert.DownProjReferenceIdeal.nD Cert.DownProjReferenceIdeal.τ).loc Cert.DownProjReferenceIdeal.main_arg2) = m ((c.tc : Thread Cert.DownProjIdeal.nD Cert.DownProjIdeal.τ).loc Cert.DownProjIdeal.main_arg2)
      ∧ m' ((c.tc : Thread Cert.DownProjReferenceIdeal.nD Cert.DownProjReferenceIdeal.τ).loc Cert.DownProjReferenceIdeal.main_arg3) = m ((c.tc : Thread Cert.DownProjIdeal.nD Cert.DownProjIdeal.τ).loc Cert.DownProjIdeal.main_arg3)
      ∧ m' ((c.tc : Thread Cert.DownProjReferenceIdeal.nD Cert.DownProjReferenceIdeal.τ).loc Cert.DownProjReferenceIdeal.main_arg4) = m ((c.tc : Thread Cert.DownProjIdeal.nD Cert.DownProjIdeal.τ).loc Cert.DownProjIdeal.main_arg4)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)) (v2 : (c : Dev Cert.DownProjIdeal.nD) → Buf (Elt Ideal) ((c.tc : Thread Cert.DownProjIdeal.nD Cert.DownProjIdeal.τ).loc Cert.DownProjIdeal.main_v2)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_v2) = v2 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v0_0) = v0 c
          ∧ r.2.mem ((c.tc : Thread Cert.DownProjReferenceIdeal.nD Cert.DownProjReferenceIdeal.τ).loc Cert.DownProjReferenceIdeal.main_v0_1) = v1 c
          ∧ r.2.mem ((c.tc : Thread Cert.DownProjReferenceIdeal.nD Cert.DownProjReferenceIdeal.τ).loc Cert.DownProjReferenceIdeal.main_v0_2) = v2 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2)
          ∧ r.2.mem ((c.tc : Thread Cert.DownProjReferenceIdeal.nD Cert.DownProjReferenceIdeal.τ).loc Cert.DownProjReferenceIdeal.main_arg3) = m' ((c.tc : Thread Cert.DownProjReferenceIdeal.nD Cert.DownProjReferenceIdeal.τ).loc Cert.DownProjReferenceIdeal.main_arg3)
          ∧ r.2.mem ((c.tc : Thread Cert.DownProjReferenceIdeal.nD Cert.DownProjReferenceIdeal.τ).loc Cert.DownProjReferenceIdeal.main_arg4) = m' ((c.tc : Thread Cert.DownProjReferenceIdeal.nD Cert.DownProjReferenceIdeal.τ).loc Cert.DownProjReferenceIdeal.main_arg4))

def preserves_QkvProj_QkvProjIdeal : Prop :=
  True

def algebraic_QkvProjIdeal_QkvProjReferenceIdeal_pre_small_qkv [hQkvProjIdeal : Cert.QkvProjIdeal.Facts] [hQkvProjReferenceIdeal : Cert.QkvProjReferenceIdeal.Facts] [hPre_small_qkv : Cert.Pre_small_qkv.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjReferenceIdeal.nD Cert.QkvProjReferenceIdeal.τ Cert.QkvProjReferenceIdeal.sig) → Buf (Elt Ideal) ℓ) (g' : Dev Cert.QkvProjReferenceIdeal.nD → PrngReg), Pre_QkvProjIdeal_small_qkv m →
    (∀ c : Dev Cert.QkvProjIdeal.nD,
      m' ((c.tc : Thread Cert.QkvProjReferenceIdeal.nD Cert.QkvProjReferenceIdeal.τ).loc Cert.QkvProjReferenceIdeal.main_arg0) = m ((c.tc : Thread Cert.QkvProjIdeal.nD Cert.QkvProjIdeal.τ).loc Cert.QkvProjIdeal.main_arg0)
      ∧ m' ((c.tc : Thread Cert.QkvProjReferenceIdeal.nD Cert.QkvProjReferenceIdeal.τ).loc Cert.QkvProjReferenceIdeal.main_arg1) = m ((c.tc : Thread Cert.QkvProjIdeal.nD Cert.QkvProjIdeal.τ).loc Cert.QkvProjIdeal.main_arg1)
      ∧ m' ((c.tc : Thread Cert.QkvProjReferenceIdeal.nD Cert.QkvProjReferenceIdeal.τ).loc Cert.QkvProjReferenceIdeal.main_arg2) = m ((c.tc : Thread Cert.QkvProjIdeal.nD Cert.QkvProjIdeal.τ).loc Cert.QkvProjIdeal.main_arg2)
      ∧ m' ((c.tc : Thread Cert.QkvProjReferenceIdeal.nD Cert.QkvProjReferenceIdeal.τ).loc Cert.QkvProjReferenceIdeal.main_arg3) = m ((c.tc : Thread Cert.QkvProjIdeal.nD Cert.QkvProjIdeal.τ).loc Cert.QkvProjIdeal.main_arg3)) →
    ∃ (v0 : (c : Dev Cert.QkvProjIdeal.nD) → Buf (Elt Ideal) ((c.tc : Thread Cert.QkvProjIdeal.nD Cert.QkvProjIdeal.τ).loc Cert.QkvProjIdeal.main_v1_0)) (v1 : (c : Dev Cert.QkvProjIdeal.nD) → Buf (Elt Ideal) ((c.tc : Thread Cert.QkvProjIdeal.nD Cert.QkvProjIdeal.τ).loc Cert.QkvProjIdeal.main_v1_1)) (v2 : (c : Dev Cert.QkvProjIdeal.nD) → Buf (Elt Ideal) ((c.tc : Thread Cert.QkvProjIdeal.nD Cert.QkvProjIdeal.τ).loc Cert.QkvProjIdeal.main_v2)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v1_0) = v0 c
          ∧ r.2.mem ((c.tc : Thread Cert.QkvProjIdeal.nD Cert.QkvProjIdeal.τ).loc Cert.QkvProjIdeal.main_v1_1) = v1 c
          ∧ r.2.mem ((c.tc : Thread Cert.QkvProjIdeal.nD Cert.QkvProjIdeal.τ).loc Cert.QkvProjIdeal.main_v2) = v2 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
          ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2)
          ∧ r.2.mem ((c.tc : Thread Cert.QkvProjIdeal.nD Cert.QkvProjIdeal.τ).loc Cert.QkvProjIdeal.main_arg3) = m ((c.tc : Thread Cert.QkvProjIdeal.nD Cert.QkvProjIdeal.τ).loc Cert.QkvProjIdeal.main_arg3))
      ∧ θ_run (Cert.QkvProjReferenceIdeal.defs (F := Ideal)) (onTc (τ := Cert.QkvProjReferenceIdeal.τ) (Cert.QkvProjReferenceIdeal.main (F := Ideal))) ⟨m', fun _ => 0, g'⟩ (fun r => ∀ c : Dev Cert.QkvProjReferenceIdeal.nD,
          r.2.mem ((c.tc : Thread Cert.QkvProjReferenceIdeal.nD Cert.QkvProjReferenceIdeal.τ).loc Cert.QkvProjReferenceIdeal.main_v1_0) = v0 c
          ∧ r.2.mem ((c.tc : Thread Cert.QkvProjReferenceIdeal.nD Cert.QkvProjReferenceIdeal.τ).loc Cert.QkvProjReferenceIdeal.main_v1_1) = v1 c
          ∧ r.2.mem ((c.tc : Thread Cert.QkvProjReferenceIdeal.nD Cert.QkvProjReferenceIdeal.τ).loc Cert.QkvProjReferenceIdeal.main_v1_2) = v2 c
          ∧ r.2.mem ((c.tc : Thread Cert.QkvProjReferenceIdeal.nD Cert.QkvProjReferenceIdeal.τ).loc Cert.QkvProjReferenceIdeal.main_arg0) = m' ((c.tc : Thread Cert.QkvProjReferenceIdeal.nD Cert.QkvProjReferenceIdeal.τ).loc Cert.QkvProjReferenceIdeal.main_arg0)
          ∧ r.2.mem ((c.tc : Thread Cert.QkvProjReferenceIdeal.nD Cert.QkvProjReferenceIdeal.τ).loc Cert.QkvProjReferenceIdeal.main_arg1) = m' ((c.tc : Thread Cert.QkvProjReferenceIdeal.nD Cert.QkvProjReferenceIdeal.τ).loc Cert.QkvProjReferenceIdeal.main_arg1)
          ∧ r.2.mem ((c.tc : Thread Cert.QkvProjReferenceIdeal.nD Cert.QkvProjReferenceIdeal.τ).loc Cert.QkvProjReferenceIdeal.main_arg2) = m' ((c.tc : Thread Cert.QkvProjReferenceIdeal.nD Cert.QkvProjReferenceIdeal.τ).loc Cert.QkvProjReferenceIdeal.main_arg2)
          ∧ r.2.mem ((c.tc : Thread Cert.QkvProjReferenceIdeal.nD Cert.QkvProjReferenceIdeal.τ).loc Cert.QkvProjReferenceIdeal.main_arg3) = m' ((c.tc : Thread Cert.QkvProjReferenceIdeal.nD Cert.QkvProjReferenceIdeal.τ).loc Cert.QkvProjReferenceIdeal.main_arg3))

def Claim : Prop :=
  ∃ (hOProj : Cert.OProj.Facts) (hOProjIdeal : Cert.OProjIdeal.Facts) (hOProjReferenceIdeal : Cert.OProjReferenceIdeal.Facts) (hGuProj : Cert.GuProj.Facts) (hGuProjIdeal : Cert.GuProjIdeal.Facts) (hGuProjReferenceIdeal : Cert.GuProjReferenceIdeal.Facts) (hDownProj : Cert.DownProj.Facts) (hDownProjIdeal : Cert.DownProjIdeal.Facts) (hDownProjReferenceIdeal : Cert.DownProjReferenceIdeal.Facts) (hQkvProj : Cert.QkvProj.Facts) (hQkvProjIdeal : Cert.QkvProjIdeal.Facts) (hQkvProjReferenceIdeal : Cert.QkvProjReferenceIdeal.Facts) (hPre_small_o : Cert.Pre_small_o.Facts) (hPre_small_gu : Cert.Pre_small_gu.Facts) (hPre_small_down : Cert.Pre_small_down.Facts) (hPre_small_qkv : Cert.Pre_small_qkv.Facts),
    quiescent_OProj (hOProj := hOProj)
    ∧ quiescent_OProjIdeal (hOProjIdeal := hOProjIdeal)
    ∧ quiescent_OProjIdeal_pre_small_o (hOProjIdeal := hOProjIdeal) (hPre_small_o := hPre_small_o)
    ∧ quiescent_OProjReferenceIdeal (hOProjReferenceIdeal := hOProjReferenceIdeal)
    ∧ quiescent_OProjReferenceIdeal_pre_small_o (hOProjReferenceIdeal := hOProjReferenceIdeal) (hPre_small_o := hPre_small_o)
    ∧ quiescent_GuProj (hGuProj := hGuProj)
    ∧ quiescent_GuProjIdeal (hGuProjIdeal := hGuProjIdeal)
    ∧ quiescent_GuProjIdeal_pre_small_gu (hGuProjIdeal := hGuProjIdeal) (hPre_small_gu := hPre_small_gu)
    ∧ quiescent_GuProjReferenceIdeal (hGuProjReferenceIdeal := hGuProjReferenceIdeal)
    ∧ quiescent_GuProjReferenceIdeal_pre_small_gu (hGuProjReferenceIdeal := hGuProjReferenceIdeal) (hPre_small_gu := hPre_small_gu)
    ∧ quiescent_DownProj (hDownProj := hDownProj)
    ∧ quiescent_DownProjIdeal (hDownProjIdeal := hDownProjIdeal)
    ∧ quiescent_DownProjIdeal_pre_small_down (hDownProjIdeal := hDownProjIdeal) (hPre_small_down := hPre_small_down)
    ∧ quiescent_DownProjReferenceIdeal (hDownProjReferenceIdeal := hDownProjReferenceIdeal)
    ∧ quiescent_DownProjReferenceIdeal_pre_small_down (hDownProjReferenceIdeal := hDownProjReferenceIdeal) (hPre_small_down := hPre_small_down)
    ∧ quiescent_QkvProj (hQkvProj := hQkvProj)
    ∧ quiescent_QkvProjIdeal (hQkvProjIdeal := hQkvProjIdeal)
    ∧ quiescent_QkvProjIdeal_pre_small_qkv (hQkvProjIdeal := hQkvProjIdeal) (hPre_small_qkv := hPre_small_qkv)
    ∧ quiescent_QkvProjReferenceIdeal (hQkvProjReferenceIdeal := hQkvProjReferenceIdeal)
    ∧ quiescent_QkvProjReferenceIdeal_pre_small_qkv (hQkvProjReferenceIdeal := hQkvProjReferenceIdeal) (hPre_small_qkv := hPre_small_qkv)
    ∧ preserves_OProj_OProjIdeal
    ∧ algebraic_OProjIdeal_OProjReferenceIdeal_pre_small_o (hOProjIdeal := hOProjIdeal) (hOProjReferenceIdeal := hOProjReferenceIdeal) (hPre_small_o := hPre_small_o)
    ∧ preserves_GuProj_GuProjIdeal
    ∧ algebraic_GuProjIdeal_GuProjReferenceIdeal_pre_small_gu (hGuProjIdeal := hGuProjIdeal) (hGuProjReferenceIdeal := hGuProjReferenceIdeal) (hPre_small_gu := hPre_small_gu)
    ∧ preserves_DownProj_DownProjIdeal
    ∧ algebraic_DownProjIdeal_DownProjReferenceIdeal_pre_small_down (hDownProjIdeal := hDownProjIdeal) (hDownProjReferenceIdeal := hDownProjReferenceIdeal) (hPre_small_down := hPre_small_down)
    ∧ preserves_QkvProj_QkvProjIdeal
    ∧ algebraic_QkvProjIdeal_QkvProjReferenceIdeal_pre_small_qkv (hQkvProjIdeal := hQkvProjIdeal) (hQkvProjReferenceIdeal := hQkvProjReferenceIdeal) (hPre_small_qkv := hPre_small_qkv)
-- ==== Pre_small_down.lean ====
abbrev S56x8192 : Shape := ⟨2, ![56, 8192]⟩
abbrev S56x7168 : Shape := ⟨2, ![56, 7168]⟩
abbrev S7168x4096 : Shape := ⟨2, ![7168, 4096]⟩
abbrev S224x8192 : Shape := ⟨2, ![224, 8192]⟩
abbrev S_ : Shape := ⟨0, ![]⟩

class Facts : Prop where
  bcast_S_S224x8192 : S_.BroadcastsInDim S224x8192 (![] : Fin 0 → Fin S224x8192.rank)

variable [Facts]

def fn {F : FTy → Type} [FloatOps F] (main_arg0 : FVec F S56x8192 .f32) (main_arg1 : FVec F S56x8192 .f32) (main_arg2 : FVec F S56x7168 .f32) (main_arg3 : IVec S7168x4096 8) (main_arg4 : IVec S224x8192 8) : IVec S224x8192 1 :=
  let main_c : IVec S_ 8 := constantI S_ 8 248#8
  let main_v0 : IVec S224x8192 8 := broadcastInDim S224x8192 ![] bcast_S_S224x8192 main_c
  let main_v1 : IVec S224x8192 1 := cmpi .ule main_arg4 main_v0
  main_v1
-- ==== Pre_small_gu.lean ====
abbrev S56x8192 : Shape := ⟨2, ![56, 8192]⟩
abbrev S8192 : Shape := ⟨1, ![8192]⟩
abbrev S8192x7168 : Shape := ⟨2, ![8192, 7168]⟩
abbrev S256x14336 : Shape := ⟨2, ![256, 14336]⟩
abbrev S56x7168 : Shape := ⟨2, ![56, 7168]⟩
abbrev S_ : Shape := ⟨0, ![]⟩

class Facts : Prop where
  bcast_S_S256x14336 : S_.BroadcastsInDim S256x14336 (![] : Fin 0 → Fin S256x14336.rank)

variable [Facts]

def fn {F : FTy → Type} [FloatOps F] (main_arg0 : FVec F S56x8192 .f32) (main_arg1 : FVec F S8192 .f32) (main_arg2 : IVec S8192x7168 8) (main_arg3 : IVec S256x14336 8) (main_arg4 : FVec F S56x7168 .f32) (main_arg5 : FVec F S56x7168 .f32) : IVec S256x14336 1 :=
  let main_c : IVec S_ 8 := constantI S_ 8 248#8
  let main_v0 : IVec S256x14336 8 := broadcastInDim S256x14336 ![] bcast_S_S256x14336 main_c
  let main_v1 : IVec S256x14336 1 := cmpi .ule main_arg3 main_v0
  main_v1
-- ==== Pre_small_o.lean ====
abbrev S56x2048 : Shape := ⟨2, ![56, 2048]⟩
abbrev S2048x4096 : Shape := ⟨2, ![2048, 4096]⟩
abbrev S64x8192 : Shape := ⟨2, ![64, 8192]⟩
abbrev S56x8192 : Shape := ⟨2, ![56, 8192]⟩
abbrev S_ : Shape := ⟨0, ![]⟩

class Facts : Prop where
  bcast_S_S64x8192 : S_.BroadcastsInDim S64x8192 (![] : Fin 0 → Fin S64x8192.rank)

variable [Facts]

def fn {F : FTy → Type} [FloatOps F] (main_arg0 : FVec F S56x2048 .f32) (main_arg1 : IVec S2048x4096 8) (main_arg2 : IVec S64x8192 8) (main_arg3 : FVec F S56x8192 .bf16) (main_arg4 : FVec F S56x8192 .f32) : IVec S64x8192 1 :=
  let main_c : IVec S_ 8 := constantI S_ 8 248#8
  let main_v0 : IVec S64x8192 8 := broadcastInDim S64x8192 ![] bcast_S_S64x8192 main_c
  let main_v1 : IVec S64x8192 1 := cmpi .ule main_arg2 main_v0
  main_v1
-- ==== Pre_small_qkv.lean ====
abbrev S56x8192 : Shape := ⟨2, ![56, 8192]⟩
abbrev S8192 : Shape := ⟨1, ![8192]⟩
abbrev S8192x1280 : Shape := ⟨2, ![8192, 1280]⟩
abbrev S256x2560 : Shape := ⟨2, ![256, 2560]⟩
abbrev S_ : Shape := ⟨0, ![]⟩

class Facts : Prop where
  bcast_S_S256x2560 : S_.BroadcastsInDim S256x2560 (![] : Fin 0 → Fin S256x2560.rank)

variable [Facts]

def fn {F : FTy → Type} [FloatOps F] (main_arg0 : FVec F S56x8192 .bf16) (main_arg1 : FVec F S8192 .f32) (main_arg2 : IVec S8192x1280 8) (main_arg3 : IVec S256x2560 8) : IVec S256x2560 1 :=
  let main_c : IVec S_ 8 := constantI S_ 8 248#8
  let main_v0 : IVec S256x2560 8 := broadcastInDim S256x2560 ![] bcast_S_S256x2560 main_c
  let main_v1 : IVec S256x2560 1 := cmpi .ule main_arg3 main_v0
  main_v1
-- ==== OProj.lean ====
abbrev S56x2048 : Shape := ⟨2, ![56, 2048]⟩
abbrev S2048x4096 : Shape := ⟨2, ![2048, 4096]⟩
abbrev S64x8192 : Shape := ⟨2, ![64, 8192]⟩
abbrev S56x8192 : Shape := ⟨2, ![56, 8192]⟩
abbrev S56x128 : Shape := ⟨2, ![56, 128]⟩
abbrev S112x4096 : Shape := ⟨2, ![112, 4096]⟩
abbrev S56 : Shape := ⟨1, ![56]⟩
abbrev S56x1 : Shape := ⟨2, ![56, 1]⟩
abbrev S128x512 : Shape := ⟨2, ![128, 512]⟩
abbrev S56x512 : Shape := ⟨2, ![56, 512]⟩
abbrev S56x256 : Shape := ⟨2, ![56, 256]⟩
abbrev S2048x256 : Shape := ⟨2, ![2048, 256]⟩
abbrev S64x512 : Shape := ⟨2, ![64, 512]⟩
abbrev S4x16x256 : Shape := ⟨3, ![4, 16, 256]⟩
abbrev S16x512 : Shape := ⟨2, ![16, 512]⟩
abbrev S16x128 : Shape := ⟨2, ![16, 128]⟩
abbrev S16x128x1 : Shape := ⟨3, ![16, 128, 1]⟩
abbrev S1x16x128 : Shape := ⟨3, ![1, 16, 128]⟩
abbrev S64x256 : Shape := ⟨2, ![64, 256]⟩
abbrev S32x256 : Shape := ⟨2, ![32, 256]⟩
abbrev S32x1x256 : Shape := ⟨3, ![32, 1, 256]⟩
abbrev S32x2x256 : Shape := ⟨3, ![32, 2, 256]⟩
abbrev S16x256 : Shape := ⟨2, ![16, 256]⟩
abbrev S1x1x256 : Shape := ⟨3, ![1, 1, 256]⟩
abbrev S1x256 : Shape := ⟨2, ![1, 256]⟩
abbrev S4096x256 : Shape := ⟨2, ![4096, 256]⟩
abbrev S112x256 : Shape := ⟨2, ![112, 256]⟩
abbrev S56x128x1 : Shape := ⟨3, ![56, 128, 1]⟩

abbrev nBuf : Space → Nat
  | .hbm => 12
  | .vmem => 20
  | .smem => 0
  | _ => 0

abbrev bufTy : (tb : Table) → Fin (tcTables nBuf tb) → BufTy
  | .hbm, ⟨0, _⟩ => ⟨S56x2048, .f32⟩
  | .hbm, ⟨1, _⟩ => ⟨S2048x4096, .i8⟩
  | .hbm, ⟨2, _⟩ => ⟨S64x8192, .i8⟩
  | .hbm, ⟨3, _⟩ => ⟨S56x8192, .bf16⟩
  | .hbm, ⟨4, _⟩ => ⟨S56x8192, .f32⟩
  | .hbm, ⟨5, _⟩ => ⟨S56x2048, .fp8e4m3⟩
  | .hbm, ⟨6, _⟩ => ⟨S56x128, .f32⟩
  | .hbm, ⟨7, _⟩ => ⟨S56x2048, .bf16⟩
  | .hbm, ⟨8, _⟩ => ⟨S112x4096, .bf16⟩
  | .hbm, ⟨9, _⟩ => ⟨S56x8192, .f32⟩
  | .hbm, ⟨10, _⟩ => ⟨S56x8192, .f32⟩
  | .hbm, ⟨11, _⟩ => ⟨S56x8192, .f32⟩
  | .local _ .vmem, ⟨0, _⟩ => ⟨S56x2048, .f32⟩
  | .local _ .vmem, ⟨1, _⟩ => ⟨S56x2048, .fp8e4m3⟩
  | .local _ .vmem, ⟨2, _⟩ => ⟨S56x128, .f32⟩
  | .local _ .vmem, ⟨3, _⟩ => ⟨S56x2048, .bf16⟩
  | .local _ .vmem, ⟨4, _⟩ => ⟨S112x4096, .bf16⟩
  | .local _ .vmem, ⟨5, _⟩ => ⟨S112x4096, .bf16⟩
  | .local _ .vmem, ⟨6, _⟩ => ⟨S2048x256, .i8⟩
  | .local _ .vmem, ⟨7, _⟩ => ⟨S2048x256, .i8⟩
  | .local _ .vmem, ⟨8, _⟩ => ⟨S64x512, .i8⟩
  | .local _ .vmem, ⟨9, _⟩ => ⟨S64x512, .i8⟩
  | .local _ .vmem, ⟨10, _⟩ => ⟨S56x128, .f32⟩
  | .local _ .vmem, ⟨11, _⟩ => ⟨S56x512, .f32⟩
  | .local _ .vmem, ⟨12, _⟩ => ⟨S56x512, .f32⟩
  | .local _ .vmem, ⟨13, _⟩ => ⟨S4x16x256, .i32⟩
  | .local _ .vmem, ⟨14, _⟩ => ⟨S56x8192, .f32⟩
  | .local _ .vmem, ⟨15, _⟩ => ⟨S56x8192, .f32⟩
  | .local _ .vmem, ⟨16, _⟩ => ⟨S56x8192, .f32⟩
  | .local _ .vmem, ⟨17, _⟩ => ⟨S56x8192, .bf16⟩
  | .local _ .vmem, ⟨18, _⟩ => ⟨S56x8192, .f32⟩
  | .local _ .vmem, ⟨19, _⟩ => ⟨S56x8192, .f32⟩
  | _, _ => ⟨S56x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem1_0 : DmaSem sig := 14
abbrev cc2_sem2_0 : DmaSem sig := 15
abbrev cc3_sem0_0 : DmaSem sig := 16
abbrev cc3_sem1_0 : DmaSem sig := 17
abbrev cc3_sem2_0 : DmaSem sig := 18

abbrev nD : Nat := 1
abbrev τ : Topo := Topo.v7x

variable {F : FTy → Type} [FloatOps F]

abbrev grid0 : Pipeline.Grid := .none

abbrev stage0_0 : Fin 1 → Memref sig .tc .vmem S56x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S56x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S56x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S56x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S56x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S56x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S56x8192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S56x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S56x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== OProjReferenceIdeal.lean ====
abbrev S56x2048 : Shape := ⟨2, ![56, 2048]⟩
abbrev S2048x4096 : Shape := ⟨2, ![2048, 4096]⟩
abbrev S64x8192 : Shape := ⟨2, ![64, 8192]⟩
abbrev S56x8192 : Shape := ⟨2, ![56, 8192]⟩
abbrev S56x128 : Shape := ⟨2, ![56, 128]⟩
abbrev S56 : Shape := ⟨1, ![56]⟩
abbrev S56x1 : Shape := ⟨2, ![56, 1]⟩
abbrev S64x4096x2 : Shape := ⟨3, ![64, 4096, 2]⟩
abbrev S64x4096x1 : Shape := ⟨3, ![64, 4096, 1]⟩
abbrev S64x4096 : Shape := ⟨2, ![64, 4096]⟩
abbrev S64x1x4096 : Shape := ⟨3, ![64, 1, 4096]⟩
abbrev S64x32x4096 : Shape := ⟨3, ![64, 32, 4096]⟩
abbrev S56x4096 : Shape := ⟨2, ![56, 4096]⟩
abbrev S56x4096x1 : Shape := ⟨3, ![56, 4096, 1]⟩
abbrev S56x4096x2 : Shape := ⟨3, ![56, 4096, 2]⟩

abbrev nBuf : Space → Nat
  | .hbm => 8
  | .vmem => 8
  | .smem => 0
  | _ => 0

abbrev bufTy : (tb : Table) → Fin (tcTables nBuf tb) → BufTy
  | .hbm, ⟨0, _⟩ => ⟨S56x2048, .f32⟩
  | .hbm, ⟨1, _⟩ => ⟨S2048x4096, .i8⟩
  | .hbm, ⟨2, _⟩ => ⟨S64x8192, .i8⟩
  | .hbm, ⟨3, _⟩ => ⟨S56x8192, .bf16⟩
  | .hbm, ⟨4, _⟩ => ⟨S56x8192, .f32⟩
  | .hbm, ⟨5, _⟩ => ⟨S56x2048, .fp8e4m3⟩
  | .hbm, ⟨6, _⟩ => ⟨S56x128, .f32⟩
  | .hbm, ⟨7, _⟩ => ⟨S56x8192, .f32⟩
  | .local _ .vmem, ⟨0, _⟩ => ⟨S56x2048, .f32⟩
  | .local _ .vmem, ⟨1, _⟩ => ⟨S2048x4096, .i8⟩
  | .local _ .vmem, ⟨2, _⟩ => ⟨S64x8192, .i8⟩
  | .local _ .vmem, ⟨3, _⟩ => ⟨S56x8192, .bf16⟩
  | .local _ .vmem, ⟨4, _⟩ => ⟨S56x8192, .f32⟩
  | .local _ .vmem, ⟨5, _⟩ => ⟨S56x2048, .fp8e4m3⟩
  | .local _ .vmem, ⟨6, _⟩ => ⟨S56x128, .f32⟩
  | .local _ .vmem, ⟨7, _⟩ => ⟨S56x8192, .f32⟩
  | _, _ => ⟨S56x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S56x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GuProj.lean ====
abbrev S56x8192 : Shape := ⟨2, ![56, 8192]⟩
abbrev S8192 : Shape := ⟨1, ![8192]⟩
abbrev S8192x7168 : Shape := ⟨2, ![8192, 7168]⟩
abbrev S256x14336 : Shape := ⟨2, ![256, 14336]⟩
abbrev S56x7168 : Shape := ⟨2, ![56, 7168]⟩
abbrev S1x8192 : Shape := ⟨2, ![1, 8192]⟩
abbrev S56x128 : Shape := ⟨2, ![56, 128]⟩
abbrev S112x16384 : Shape := ⟨2, ![112, 16384]⟩
abbrev S56 : Shape := ⟨1, ![56]⟩
abbrev S56x1 : Shape := ⟨2, ![56, 1]⟩
abbrev S128x512 : Shape := ⟨2, ![128, 512]⟩
abbrev S56x512 : Shape := ⟨2, ![56, 512]⟩
abbrev S56x256 : Shape := ⟨2, ![56, 256]⟩
abbrev S56x14336 : Shape := ⟨2, ![56, 14336]⟩
abbrev S8192x256 : Shape := ⟨2, ![8192, 256]⟩
abbrev S256x512 : Shape := ⟨2, ![256, 512]⟩
abbrev S4x64x256 : Shape := ⟨3, ![4, 64, 256]⟩
abbrev S64x512 : Shape := ⟨2, ![64, 512]⟩
abbrev S64x128 : Shape := ⟨2, ![64, 128]⟩
abbrev S64x128x1 : Shape := ⟨3, ![64, 128, 1]⟩
abbrev S1x64x128 : Shape := ⟨3, ![1, 64, 128]⟩
abbrev S64x256 : Shape := ⟨2, ![64, 256]⟩
abbrev S32x256 : Shape := ⟨2, ![32, 256]⟩
abbrev S32x1x256 : Shape := ⟨3, ![32, 1, 256]⟩
abbrev S32x2x256 : Shape := ⟨3, ![32, 2, 256]⟩
abbrev S16x256 : Shape := ⟨2, ![16, 256]⟩
abbrev S1x1x256 : Shape := ⟨3, ![1, 1, 256]⟩
abbrev S1x256 : Shape := ⟨2, ![1, 256]⟩
abbrev S16384x256 : Shape := ⟨2, ![16384, 256]⟩
abbrev S112x256 : Shape := ⟨2, ![112, 256]⟩
abbrev S56x128x1 : Shape := ⟨3, ![56, 128, 1]⟩

abbrev nBuf : Space → Nat
  | .hbm => 13
  | .vmem => 19
  | .smem => 0
  | _ => 0

abbrev bufTy : (tb : Table) → Fin (tcTables nBuf tb) → BufTy
  | .hbm, ⟨0, _⟩ => ⟨S56x8192, .f32⟩
  | .hbm, ⟨1, _⟩ => ⟨S8192, .f32⟩
  | .hbm, ⟨2, _⟩ => ⟨S8192x7168, .i8⟩
  | .hbm, ⟨3, _⟩ => ⟨S256x14336, .i8⟩
  | .hbm, ⟨4, _⟩ => ⟨S56x7168, .f32⟩
  | .hbm, ⟨5, _⟩ => ⟨S56x7168, .f32⟩
  | .hbm, ⟨6, _⟩ => ⟨S1x8192, .f32⟩
  | .hbm, ⟨7, _⟩ => ⟨S56x8192, .fp8e4m3⟩
  | .hbm, ⟨8, _⟩ => ⟨S56x128, .f32⟩
  | .hbm, ⟨9, _⟩ => ⟨S56x8192, .bf16⟩
  | .hbm, ⟨10, _⟩ => ⟨S112x16384, .bf16⟩
  | .hbm, ⟨11, _⟩ => ⟨S56x14336, .f32⟩
  | .hbm, ⟨12, _⟩ => ⟨S56x7168, .f32⟩
  | .local _ .vmem, ⟨0, _⟩ => ⟨S56x8192, .f32⟩
  | .local _ .vmem, ⟨1, _⟩ => ⟨S1x8192, .f32⟩
  | .local _ .vmem, ⟨2, _⟩ => ⟨S56x8192, .fp8e4m3⟩
  | .local _ .vmem, ⟨3, _⟩ => ⟨S56x128, .f32⟩
  | .local _ .vmem, ⟨4, _⟩ => ⟨S56x8192, .bf16⟩
  | .local _ .vmem, ⟨5, _⟩ => ⟨S112x16384, .bf16⟩
  | .local _ .vmem, ⟨6, _⟩ => ⟨S112x16384, .bf16⟩
  | .local _ .vmem, ⟨7, _⟩ => ⟨S8192x256, .i8⟩
  | .local _ .vmem, ⟨8, _⟩ => ⟨S8192x256, .i8⟩
  | .local _ .vmem, ⟨9, _⟩ => ⟨S256x512, .i8⟩
  | .local _ .vmem, ⟨10, _⟩ => ⟨S256x512, .i8⟩
  | .local _ .vmem, ⟨11, _⟩ => ⟨S56x128, .f32⟩
  | .local _ .vmem, ⟨12, _⟩ => ⟨S56x512, .f32⟩
  | .local _ .vmem, ⟨13, _⟩ => ⟨S56x512, .f32⟩
  | .local _ .vmem, ⟨14, _⟩ => ⟨S4x64x256, .i32⟩
  | .local _ .vmem, ⟨15, _⟩ => ⟨S56x14336, .f32⟩
  | .local _ .vmem, ⟨16, _⟩ => ⟨S56x7168, .f32⟩
  | .local _ .vmem, ⟨17, _⟩ => ⟨S56x7168, .f32⟩
  | .local _ .vmem, ⟨18, _⟩ => ⟨S56x7168, .f32⟩
  | _, _ => ⟨S56x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := .none

abbrev stage0_0 : Fin 1 → Memref sig .tc .vmem S56x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x16384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S56x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S56x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S56x14336 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S56x7168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S56x7168 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S56x7168 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== GuProjReferenceIdeal.lean ====
abbrev S56x8192 : Shape := ⟨2, ![56, 8192]⟩
abbrev S8192 : Shape := ⟨1, ![8192]⟩
abbrev S8192x7168 : Shape := ⟨2, ![8192, 7168]⟩
abbrev S256x14336 : Shape := ⟨2, ![256, 14336]⟩
abbrev S56x7168 : Shape := ⟨2, ![56, 7168]⟩
abbrev S1x8192 : Shape := ⟨2, ![1, 8192]⟩
abbrev S56x128 : Shape := ⟨2, ![56, 128]⟩
abbrev S56 : Shape := ⟨1, ![56]⟩
abbrev S56x1 : Shape := ⟨2, ![56, 1]⟩
abbrev S256x7168x2 : Shape := ⟨3, ![256, 7168, 2]⟩
abbrev S256x7168x1 : Shape := ⟨3, ![256, 7168, 1]⟩
abbrev S256x7168 : Shape := ⟨2, ![256, 7168]⟩
abbrev S256x1x7168 : Shape := ⟨3, ![256, 1, 7168]⟩
abbrev S256x32x7168 : Shape := ⟨3, ![256, 32, 7168]⟩
abbrev S56x7168x1 : Shape := ⟨3, ![56, 7168, 1]⟩
abbrev S56x7168x2 : Shape := ⟨3, ![56, 7168, 2]⟩
abbrev S56x14336 : Shape := ⟨2, ![56, 14336]⟩

abbrev nBuf : Space → Nat
  | .hbm => 10
  | .vmem => 9
  | .smem => 0
  | _ => 0

abbrev bufTy : (tb : Table) → Fin (tcTables nBuf tb) → BufTy
  | .hbm, ⟨0, _⟩ => ⟨S56x8192, .f32⟩
  | .hbm, ⟨1, _⟩ => ⟨S8192, .f32⟩
  | .hbm, ⟨2, _⟩ => ⟨S8192x7168, .i8⟩
  | .hbm, ⟨3, _⟩ => ⟨S256x14336, .i8⟩
  | .hbm, ⟨4, _⟩ => ⟨S56x7168, .f32⟩
  | .hbm, ⟨5, _⟩ => ⟨S56x7168, .f32⟩
  | .hbm, ⟨6, _⟩ => ⟨S1x8192, .f32⟩
  | .hbm, ⟨7, _⟩ => ⟨S56x8192, .fp8e4m3⟩
  | .hbm, ⟨8, _⟩ => ⟨S56x128, .f32⟩
  | .hbm, ⟨9, _⟩ => ⟨S56x7168, .f32⟩
  | .local _ .vmem, ⟨0, _⟩ => ⟨S56x8192, .f32⟩
  | .local _ .vmem, ⟨1, _⟩ => ⟨S1x8192, .f32⟩
  | .local _ .vmem, ⟨2, _⟩ => ⟨S8192x7168, .i8⟩
  | .local _ .vmem, ⟨3, _⟩ => ⟨S256x14336, .i8⟩
  | .local _ .vmem, ⟨4, _⟩ => ⟨S56x7168, .f32⟩
  | .local _ .vmem, ⟨5, _⟩ => ⟨S56x7168, .f32⟩
  | .local _ .vmem, ⟨6, _⟩ => ⟨S56x8192, .fp8e4m3⟩
  | .local _ .vmem, ⟨7, _⟩ => ⟨S56x128, .f32⟩
  | .local _ .vmem, ⟨8, _⟩ => ⟨S56x7168, .f32⟩
  | _, _ => ⟨S56x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S56x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S56x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DownProj.lean ====
abbrev S56x8192 : Shape := ⟨2, ![56, 8192]⟩
abbrev S56x7168 : Shape := ⟨2, ![56, 7168]⟩
abbrev S7168x4096 : Shape := ⟨2, ![7168, 4096]⟩
abbrev S224x8192 : Shape := ⟨2, ![224, 8192]⟩
abbrev S56x128 : Shape := ⟨2, ![56, 128]⟩
abbrev S112x14336 : Shape := ⟨2, ![112, 14336]⟩
abbrev S56 : Shape := ⟨1, ![56]⟩
abbrev S56x1 : Shape := ⟨2, ![56, 1]⟩
abbrev S128x512 : Shape := ⟨2, ![128, 512]⟩
abbrev S56x512 : Shape := ⟨2, ![56, 512]⟩
abbrev S56x256 : Shape := ⟨2, ![56, 256]⟩
abbrev S7168x256 : Shape := ⟨2, ![7168, 256]⟩
abbrev S224x512 : Shape := ⟨2, ![224, 512]⟩
abbrev S4x56x256 : Shape := ⟨3, ![4, 56, 256]⟩
abbrev S56x128x1 : Shape := ⟨3, ![56, 128, 1]⟩
abbrev S1x56x128 : Shape := ⟨3, ![1, 56, 128]⟩
abbrev S64x256 : Shape := ⟨2, ![64, 256]⟩
abbrev S32x256 : Shape := ⟨2, ![32, 256]⟩
abbrev S32x1x256 : Shape := ⟨3, ![32, 1, 256]⟩
abbrev S32x2x256 : Shape := ⟨3, ![32, 2, 256]⟩
abbrev S16x256 : Shape := ⟨2, ![16, 256]⟩
abbrev S1x1x256 : Shape := ⟨3, ![1, 1, 256]⟩
abbrev S1x256 : Shape := ⟨2, ![1, 256]⟩
abbrev S14336x256 : Shape := ⟨2, ![14336, 256]⟩
abbrev S112x256 : Shape := ⟨2, ![112, 256]⟩

abbrev nBuf : Space → Nat
  | .hbm => 11
  | .vmem => 18
  | .smem => 0
  | _ => 0

abbrev bufTy : (tb : Table) → Fin (tcTables nBuf tb) → BufTy
  | .hbm, ⟨0, _⟩ => ⟨S56x8192, .f32⟩
  | .hbm, ⟨1, _⟩ => ⟨S56x8192, .f32⟩
  | .hbm, ⟨2, _⟩ => ⟨S56x7168, .f32⟩
  | .hbm, ⟨3, _⟩ => ⟨S7168x4096, .i8⟩
  | .hbm, ⟨4, _⟩ => ⟨S224x8192, .i8⟩
  | .hbm, ⟨5, _⟩ => ⟨S56x7168, .fp8e4m3⟩
  | .hbm, ⟨6, _⟩ => ⟨S56x128, .f32⟩
  | .hbm, ⟨7, _⟩ => ⟨S56x7168, .bf16⟩
  | .hbm, ⟨8, _⟩ => ⟨S112x14336, .bf16⟩
  | .hbm, ⟨9, _⟩ => ⟨S56x8192, .f32⟩
  | .hbm, ⟨10, _⟩ => ⟨S56x8192, .bf16⟩
  | .local _ .vmem, ⟨0, _⟩ => ⟨S56x7168, .f32⟩
  | .local _ .vmem, ⟨1, _⟩ => ⟨S56x7168, .fp8e4m3⟩
  | .local _ .vmem, ⟨2, _⟩ => ⟨S56x128, .f32⟩
  | .local _ .vmem, ⟨3, _⟩ => ⟨S56x7168, .bf16⟩
  | .local _ .vmem, ⟨4, _⟩ => ⟨S112x14336, .bf16⟩
  | .local _ .vmem, ⟨5, _⟩ => ⟨S112x14336, .bf16⟩
  | .local _ .vmem, ⟨6, _⟩ => ⟨S7168x256, .i8⟩
  | .local _ .vmem, ⟨7, _⟩ => ⟨S7168x256, .i8⟩
  | .local _ .vmem, ⟨8, _⟩ => ⟨S224x512, .i8⟩
  | .local _ .vmem, ⟨9, _⟩ => ⟨S224x512, .i8⟩
  | .local _ .vmem, ⟨10, _⟩ => ⟨S56x128, .f32⟩
  | .local _ .vmem, ⟨11, _⟩ => ⟨S56x512, .f32⟩
  | .local _ .vmem, ⟨12, _⟩ => ⟨S56x512, .f32⟩
  | .local _ .vmem, ⟨13, _⟩ => ⟨S4x56x256, .i32⟩
  | .local _ .vmem, ⟨14, _⟩ => ⟨S56x8192, .f32⟩
  | .local _ .vmem, ⟨15, _⟩ => ⟨S56x8192, .f32⟩
  | .local _ .vmem, ⟨16, _⟩ => ⟨S56x8192, .f32⟩
  | .local _ .vmem, ⟨17, _⟩ => ⟨S56x8192, .bf16⟩
  | _, _ => ⟨S56x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem1_0 : DmaSem sig := 14
abbrev cc2_sem2_0 : DmaSem sig := 15
abbrev cc2_sem3_0 : DmaSem sig := 16

abbrev nD : Nat := 1
abbrev τ : Topo := Topo.v7x

variable {F : FTy → Type} [FloatOps F]

abbrev grid0 : Pipeline.Grid := .none

abbrev stage0_0 : Fin 1 → Memref sig .tc .vmem S56x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x14336 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S7168x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S224x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S56x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S56x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S56x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S56x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S56x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S56x8192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== DownProjReferenceIdeal.lean ====
abbrev S56x8192 : Shape := ⟨2, ![56, 8192]⟩
abbrev S56x7168 : Shape := ⟨2, ![56, 7168]⟩
abbrev S7168x4096 : Shape := ⟨2, ![7168, 4096]⟩
abbrev S224x8192 : Shape := ⟨2, ![224, 8192]⟩
abbrev S56x128 : Shape := ⟨2, ![56, 128]⟩
abbrev S56 : Shape := ⟨1, ![56]⟩
abbrev S56x1 : Shape := ⟨2, ![56, 1]⟩
abbrev S224x4096x2 : Shape := ⟨3, ![224, 4096, 2]⟩
abbrev S224x4096x1 : Shape := ⟨3, ![224, 4096, 1]⟩
abbrev S224x4096 : Shape := ⟨2, ![224, 4096]⟩
abbrev S224x1x4096 : Shape := ⟨3, ![224, 1, 4096]⟩
abbrev S224x32x4096 : Shape := ⟨3, ![224, 32, 4096]⟩
abbrev S56x4096 : Shape := ⟨2, ![56, 4096]⟩
abbrev S56x4096x1 : Shape := ⟨3, ![56, 4096, 1]⟩
abbrev S56x4096x2 : Shape := ⟨3, ![56, 4096, 2]⟩

abbrev nBuf : Space → Nat
  | .hbm => 8
  | .vmem => 8
  | .smem => 0
  | _ => 0

abbrev bufTy : (tb : Table) → Fin (tcTables nBuf tb) → BufTy
  | .hbm, ⟨0, _⟩ => ⟨S56x8192, .f32⟩
  | .hbm, ⟨1, _⟩ => ⟨S56x8192, .f32⟩
  | .hbm, ⟨2, _⟩ => ⟨S56x7168, .f32⟩
  | .hbm, ⟨3, _⟩ => ⟨S7168x4096, .i8⟩
  | .hbm, ⟨4, _⟩ => ⟨S224x8192, .i8⟩
  | .hbm, ⟨5, _⟩ => ⟨S56x7168, .fp8e4m3⟩
  | .hbm, ⟨6, _⟩ => ⟨S56x128, .f32⟩
  | .hbm, ⟨7, _⟩ => ⟨S56x8192, .bf16⟩
  | .local _ .vmem, ⟨0, _⟩ => ⟨S56x8192, .f32⟩
  | .local _ .vmem, ⟨1, _⟩ => ⟨S56x8192, .f32⟩
  | .local _ .vmem, ⟨2, _⟩ => ⟨S56x7168, .f32⟩
  | .local _ .vmem, ⟨3, _⟩ => ⟨S7168x4096, .i8⟩
  | .local _ .vmem, ⟨4, _⟩ => ⟨S224x8192, .i8⟩
  | .local _ .vmem, ⟨5, _⟩ => ⟨S56x7168, .fp8e4m3⟩
  | .local _ .vmem, ⟨6, _⟩ => ⟨S56x128, .f32⟩
  | .local _ .vmem, ⟨7, _⟩ => ⟨S56x8192, .bf16⟩
  | _, _ => ⟨S56x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S56x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QkvProj.lean ====
abbrev S56x8192 : Shape := ⟨2, ![56, 8192]⟩
abbrev S8192 : Shape := ⟨1, ![8192]⟩
abbrev S8192x1280 : Shape := ⟨2, ![8192, 1280]⟩
abbrev S256x2560 : Shape := ⟨2, ![256, 2560]⟩
abbrev S1x8192 : Shape := ⟨2, ![1, 8192]⟩
abbrev S56x128 : Shape := ⟨2, ![56, 128]⟩
abbrev S112x16384 : Shape := ⟨2, ![112, 16384]⟩
abbrev S56 : Shape := ⟨1, ![56]⟩
abbrev S56x1 : Shape := ⟨2, ![56, 1]⟩
abbrev S128x512 : Shape := ⟨2, ![128, 512]⟩
abbrev S56x512 : Shape := ⟨2, ![56, 512]⟩
abbrev S56x256 : Shape := ⟨2, ![56, 256]⟩
abbrev S56x2560 : Shape := ⟨2, ![56, 2560]⟩
abbrev S8192x256 : Shape := ⟨2, ![8192, 256]⟩
abbrev S256x512 : Shape := ⟨2, ![256, 512]⟩
abbrev S4x64x256 : Shape := ⟨3, ![4, 64, 256]⟩
abbrev S64x512 : Shape := ⟨2, ![64, 512]⟩
abbrev S64x128 : Shape := ⟨2, ![64, 128]⟩
abbrev S64x128x1 : Shape := ⟨3, ![64, 128, 1]⟩
abbrev S1x64x128 : Shape := ⟨3, ![1, 64, 128]⟩
abbrev S64x256 : Shape := ⟨2, ![64, 256]⟩
abbrev S32x256 : Shape := ⟨2, ![32, 256]⟩
abbrev S32x1x256 : Shape := ⟨3, ![32, 1, 256]⟩
abbrev S32x2x256 : Shape := ⟨3, ![32, 2, 256]⟩
abbrev S16x256 : Shape := ⟨2, ![16, 256]⟩
abbrev S1x1x256 : Shape := ⟨3, ![1, 1, 256]⟩
abbrev S1x256 : Shape := ⟨2, ![1, 256]⟩
abbrev S16384x256 : Shape := ⟨2, ![16384, 256]⟩
abbrev S112x256 : Shape := ⟨2, ![112, 256]⟩
abbrev S56x128x1 : Shape := ⟨3, ![56, 128, 1]⟩

abbrev nBuf : Space → Nat
  | .hbm => 10
  | .vmem => 15
  | .smem => 0
  | _ => 0

abbrev bufTy : (tb : Table) → Fin (tcTables nBuf tb) → BufTy
  | .hbm, ⟨0, _⟩ => ⟨S56x8192, .bf16⟩
  | .hbm, ⟨1, _⟩ => ⟨S8192, .f32⟩
  | .hbm, ⟨2, _⟩ => ⟨S8192x1280, .i8⟩
  | .hbm, ⟨3, _⟩ => ⟨S256x2560, .i8⟩
  | .hbm, ⟨4, _⟩ => ⟨S1x8192, .f32⟩
  | .hbm, ⟨5, _⟩ => ⟨S56x8192, .fp8e4m3⟩
  | .hbm, ⟨6, _⟩ => ⟨S56x128, .f32⟩
  | .hbm, ⟨7, _⟩ => ⟨S56x8192, .bf16⟩
  | .hbm, ⟨8, _⟩ => ⟨S112x16384, .bf16⟩
  | .hbm, ⟨9, _⟩ => ⟨S56x2560, .f32⟩
  | .local _ .vmem, ⟨0, _⟩ => ⟨S56x8192, .bf16⟩
  | .local _ .vmem, ⟨1, _⟩ => ⟨S1x8192, .f32⟩
  | .local _ .vmem, ⟨2, _⟩ => ⟨S56x8192, .fp8e4m3⟩
  | .local _ .vmem, ⟨3, _⟩ => ⟨S56x128, .f32⟩
  | .local _ .vmem, ⟨4, _⟩ => ⟨S56x8192, .bf16⟩
  | .local _ .vmem, ⟨5, _⟩ => ⟨S112x16384, .bf16⟩
  | .local _ .vmem, ⟨6, _⟩ => ⟨S112x16384, .bf16⟩
  | .local _ .vmem, ⟨7, _⟩ => ⟨S8192x256, .i8⟩
  | .local _ .vmem, ⟨8, _⟩ => ⟨S8192x256, .i8⟩
  | .local _ .vmem, ⟨9, _⟩ => ⟨S256x512, .i8⟩
  | .local _ .vmem, ⟨10, _⟩ => ⟨S256x512, .i8⟩
  | .local _ .vmem, ⟨11, _⟩ => ⟨S56x128, .f32⟩
  | .local _ .vmem, ⟨12, _⟩ => ⟨S56x512, .f32⟩
  | .local _ .vmem, ⟨13, _⟩ => ⟨S56x512, .f32⟩
  | .local _ .vmem, ⟨14, _⟩ => ⟨S4x64x256, .i32⟩
  | _, _ => ⟨S56x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := .none

abbrev stage0_0 : Fin 1 → Memref sig .tc .vmem S56x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S112x16384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S56x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S56x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== QkvProjReferenceIdeal.lean ====
abbrev S56x8192 : Shape := ⟨2, ![56, 8192]⟩
abbrev S8192 : Shape := ⟨1, ![8192]⟩
abbrev S8192x1280 : Shape := ⟨2, ![8192, 1280]⟩
abbrev S256x2560 : Shape := ⟨2, ![256, 2560]⟩
abbrev S1x8192 : Shape := ⟨2, ![1, 8192]⟩
abbrev S56x128 : Shape := ⟨2, ![56, 128]⟩
abbrev S56x2560 : Shape := ⟨2, ![56, 2560]⟩
abbrev S56 : Shape := ⟨1, ![56]⟩
abbrev S56x1 : Shape := ⟨2, ![56, 1]⟩
abbrev S256x1280x2 : Shape := ⟨3, ![256, 1280, 2]⟩
abbrev S256x1280x1 : Shape := ⟨3, ![256, 1280, 1]⟩
abbrev S256x1280 : Shape := ⟨2, ![256, 1280]⟩
abbrev S256x1x1280 : Shape := ⟨3, ![256, 1, 1280]⟩
abbrev S256x32x1280 : Shape := ⟨3, ![256, 32, 1280]⟩
abbrev S56x1280 : Shape := ⟨2, ![56, 1280]⟩
abbrev S56x1280x1 : Shape := ⟨3, ![56, 1280, 1]⟩
abbrev S56x1280x2 : Shape := ⟨3, ![56, 1280, 2]⟩

abbrev nBuf : Space → Nat
  | .hbm => 8
  | .vmem => 7
  | .smem => 0
  | _ => 0

abbrev bufTy : (tb : Table) → Fin (tcTables nBuf tb) → BufTy
  | .hbm, ⟨0, _⟩ => ⟨S56x8192, .bf16⟩
  | .hbm, ⟨1, _⟩ => ⟨S8192, .f32⟩
  | .hbm, ⟨2, _⟩ => ⟨S8192x1280, .i8⟩
  | .hbm, ⟨3, _⟩ => ⟨S256x2560, .i8⟩
  | .hbm, ⟨4, _⟩ => ⟨S1x8192, .f32⟩
  | .hbm, ⟨5, _⟩ => ⟨S56x8192, .fp8e4m3⟩
  | .hbm, ⟨6, _⟩ => ⟨S56x128, .f32⟩
  | .hbm, ⟨7, _⟩ => ⟨S56x2560, .f32⟩
  | .local _ .vmem, ⟨0, _⟩ => ⟨S56x8192, .bf16⟩
  | .local _ .vmem, ⟨1, _⟩ => ⟨S1x8192, .f32⟩
  | .local _ .vmem, ⟨2, _⟩ => ⟨S8192x1280, .i8⟩
  | .local _ .vmem, ⟨3, _⟩ => ⟨S256x2560, .i8⟩
  | .local _ .vmem, ⟨4, _⟩ => ⟨S56x8192, .fp8e4m3⟩
  | .local _ .vmem, ⟨5, _⟩ => ⟨S56x128, .f32⟩
  | .local _ .vmem, ⟨6, _⟩ => ⟨S56x2560, .f32⟩
  | _, _ => ⟨S56x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S56x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Weight.lean ====
/-
  Hand-written, untrusted. ONE WEIGHT, at `Ideal`. The kernel reads an E2M1 code (a nibble of a byte) as the E4M3 pattern whose value is
  the code's times `2^-6`, and an E8M0 scale byte `e` as the bf16 pattern with exponent field `e + 6`, whose value is `2^(e + 6 - 127)`.
  The product is the plain one, the code's value times `2^(e - 127)`, for every `e ≤ 248` (above, the exponent field overflows).
-/
module

public import Idealize.ShloMosaic.Lib.Pointwise

@[expose] public section

noncomputable section

namespace Cert.Proof.Mx

open Idealize.ShloMosaic

/-- Nibble `h` (0: low, 1: high) of a byte, sign-extended, its magnitude bits moved to the top of the E4M3 fraction. -/
def codeByte (h : Nat) (w : BitVec 8) : BitVec 8 :=
  ((((w.setWidth 32 <<< (28 - 4 * h)).sshiftRight 28).setWidth 8) <<< 2) &&& 0x9C#8

/-- The bf16 pattern whose exponent field is `e + 6`. -/
def scaleBits (e : BitVec 8) : BitVec 16 := (e + 6#8).setWidth 16 <<< 7

/-- The weight the kernel multiplies by: nibble `h` of `w`, scaled by `e`. -/
def kernelWeight (h : Nat) (w e : BitVec 8) : EReal :=
  (FloatOps.ofBits .fp8e4m3 (codeByte h w) : Ideal .fp8e4m3) * (FloatOps.ofBits .bf16 (scaleBits e) : Ideal .bf16)

/-- Nibble `h` of a byte, as the word the reference decodes. -/
def nibble (h : Nat) (w : BitVec 8) : BitVec 32 := if h = 0 then w.setWidth 32 &&& 15#32 else (w.setWidth 32).sshiftRight 4

/-- The value of an E2M1 code: one sign bit, and the magnitudes 0, 1/2, 1, 3/2, 2, 3, 4, 6. -/
def e2m1 (n : BitVec 4) : ℝ :=
  (if n.getLsbD 3 then -1 else 1) *
    (if n.getLsbD 2 then (if n.getLsbD 1 then (if n.getLsbD 0 then 6 else 4) else (if n.getLsbD 0 then 3 else 2))
      else (if n.getLsbD 1 then (if n.getLsbD 0 then 3 / 2 else 1) else (if n.getLsbD 0 then 1 / 2 else 0)))

/-- Nibble `h` of a byte. -/
def nib4 (h : Nat) (w : BitVec 8) : BitVec 4 := (w >>> (4 * h)).setWidth 4

theorem codeByte_eq : ∀ (h : Fin 2) (w : BitVec 8),
    codeByte h w = ((nib4 h w).signExtend 8 <<< 2) &&& 0x9C#8 := by decide +kernel

theorem nibble_eq : ∀ (h : Fin 2) (w : BitVec 8), nibble h w = (nib4 h w).setWidth 32 := by decide +kernel

theorem ofBits_code (n : BitVec 4) : (FloatOps.ofBits .fp8e4m3 ((n.signExtend 8 <<< 2) &&& 0x9C#8) : Ideal .fp8e4m3)
    = ((e2m1 n * (2 : ℝ) ^ (-6 : ℤ) : ℝ) : EReal) := by
  show Ideal.e4m3fn _ = _
  obtain ⟨⟨v, hv⟩⟩ := n
  have : v < 16 := hv
  interval_cases v <;> simp [Ideal.e4m3fn, e2m1, BitVec.getLsbD, Nat.testBit, -EReal.coe_mul] <;> norm_num

theorem scaleBits_neg : ∀ e : BitVec 8, (scaleBits e).extractLsb' 15 1 = 0#1 := by decide +kernel
theorem scaleBits_exp : ∀ e : BitVec 8, (scaleBits e).extractLsb' 7 8 = e + 6#8 := by decide +kernel
theorem scaleBits_frac : ∀ e : BitVec 8, (scaleBits e).extractLsb' 0 7 = 0#7 := by decide +kernel

theorem ofBits_scale (e : BitVec 8) (he : e.toNat ≤ 248) :
    (FloatOps.ofBits .bf16 (scaleBits e) : Ideal .bf16) = (((2 : ℝ) ^ ((e.toNat : ℤ) - 121) : ℝ) : EReal) := by
  show Ideal.ieee 8 7 _ = _
  have hx : (e + 6#8).toNat = e.toNat + 6 := by rw [BitVec.toNat_add]; simp; omega
  unfold Ideal.ieee
  simp only [show (8 + 7 : Nat) = 15 from rfl, scaleBits_neg, scaleBits_exp, scaleBits_frac, hx]
  rw [if_neg (by norm_num; omega), if_neg (by omega)]
  congr 1
  rw [if_neg (by decide), one_mul]
  have : (((2 ^ 7 + (0#7).toNat : Nat)) : ℝ) = (2 : ℝ) ^ (7 : ℤ) := by norm_num
  rw [this, ← zpow_add₀ (by norm_num)]
  congr 1
  push_cast
  omega

/-- `2^(e - 127)`, as the reference computes it. -/
theorem exp2_scale (e : BitVec 8) :
    (FloatOps.exp2 (FloatOps.sitofp .f32 (e.setWidth 32 - 127#32) : Ideal .f32) : Ideal .f32)
      = (((2 : ℝ) ^ ((e.toNat : ℤ) - 127) : ℝ) : EReal) := by
  have hi : ∀ e : BitVec 8, (e.setWidth 32 - 127#32).toInt = (e.toNat : ℤ) - 127 := by decide +kernel
  show Ideal.exp2 ((((e.setWidth 32 - 127#32).toInt : ℝ)) : EReal) = _
  rw [hi e, Ideal.exp2_coe]
  congr 1
  exact Real.rpow_intCast 2 _

/-- The kernel's weight is the code's value times `2^(e - 127)`. -/
theorem kernelWeight_eq (h : Fin 2) (w e : BitVec 8) (he : e.toNat ≤ 248) :
    kernelWeight h w e = ((e2m1 (nib4 h w) : ℝ) : EReal) * (((2 : ℝ) ^ ((e.toNat : ℤ) - 127) : ℝ) : EReal) := by
  unfold kernelWeight
  rw [codeByte_eq, ofBits_code, ofBits_scale e he, ← EReal.coe_mul, ← EReal.coe_mul, mul_assoc,
    ← zpow_add₀ (by norm_num : (2 : ℝ) ≠ 0)]
  congr 3
  omega

/-- A code's value as the reference selects it, bit by bit of the nibble's word. -/
def decoded (n : BitVec 32) : EReal :=
  let b0 := IntOp.cmpi .sgt (IntOp.andi n 1#32) 0#32
  let b1 := IntOp.cmpi .sgt (IntOp.andi n 2#32) 0#32
  let b2 := IntOp.cmpi .sgt (IntOp.andi n 4#32) 0#32
  let b3 := IntOp.cmpi .sgt (IntOp.andi n 8#32) 0#32
  let c : BitVec 32 → EReal := fun b => (FloatOps.ofBits .f32 b : Ideal .f32)
  let lo := Scalar.select b1 (Scalar.select b0 (c 0x3FC00000#32) (c 0x3F800000#32)) (Scalar.select b0 (c 0x3F000000#32) (c 0x00000000#32))
  let hi := Scalar.select b1 (Scalar.select b0 (c 0x40C00000#32) (c 0x40800000#32)) (Scalar.select b0 (c 0x40400000#32) (c 0x40000000#32))
  let m := Scalar.select b2 hi lo
  Scalar.select b3 (FloatOps.subf (F := Ideal) (φ := .f32) (c 0x00000000#32) m) m

theorem decoded_eq (n : BitVec 4) : decoded (n.setWidth 32) = ((e2m1 n : ℝ) : EReal) := by
  have c0 : (FloatOps.ofBits .f32 0x00000000#32 : Ideal .f32) = ((0 : ℝ) : EReal) := by
    refine (rfl : _ = Ideal.ieee 8 23 0x00000000#32).trans ?_; simp [Ideal.ieee, -EReal.coe_mul]
  have c1 : (FloatOps.ofBits .f32 0x3F800000#32 : Ideal .f32) = ((1 : ℝ) : EReal) := by
    refine (rfl : _ = Ideal.ieee 8 23 0x3F800000#32).trans ?_; simp [Ideal.ieee, -EReal.coe_mul]; norm_num
  have c2 : (FloatOps.ofBits .f32 0x3FC00000#32 : Ideal .f32) = ((3 / 2 : ℝ) : EReal) := by
    refine (rfl : _ = Ideal.ieee 8 23 0x3FC00000#32).trans ?_; simp [Ideal.ieee, -EReal.coe_mul]; norm_num
  have c3 : (FloatOps.ofBits .f32 0x3F000000#32 : Ideal .f32) = ((1 / 2 : ℝ) : EReal) := by
    refine (rfl : _ = Ideal.ieee 8 23 0x3F000000#32).trans ?_; simp [Ideal.ieee, -EReal.coe_mul]; norm_num
  have c4 : (FloatOps.ofBits .f32 0x40C00000#32 : Ideal .f32) = ((6 : ℝ) : EReal) := by
    refine (rfl : _ = Ideal.ieee 8 23 0x40C00000#32).trans ?_; simp [Ideal.ieee, -EReal.coe_mul]; norm_num
  have c5 : (FloatOps.ofBits .f32 0x40800000#32 : Ideal .f32) = ((4 : ℝ) : EReal) := by
    refine (rfl : _ = Ideal.ieee 8 23 0x40800000#32).trans ?_; simp [Ideal.ieee, -EReal.coe_mul]; norm_num
  have c6 : (FloatOps.ofBits .f32 0x40400000#32 : Ideal .f32) = ((3 : ℝ) : EReal) := by
    refine (rfl : _ = Ideal.ieee 8 23 0x40400000#32).trans ?_; simp [Ideal.ieee, -EReal.coe_mul]; norm_num
  have c7 : (FloatOps.ofBits .f32 0x40000000#32 : Ideal .f32) = ((2 : ℝ) : EReal) := by
    refine (rfl : _ = Ideal.ieee 8 23 0x40000000#32).trans ?_; simp [Ideal.ieee, -EReal.coe_mul]; norm_num
  have sub0 : ∀ r : ℝ, FloatOps.subf (F := Ideal) (φ := .f32) ((0 : ℝ) : EReal) ((r : ℝ) : EReal) = ((-r : ℝ) : EReal) := by
    intro r; show ((0 : ℝ) : EReal) - (r : EReal) = _; rw [← EReal.coe_sub, zero_sub]
  unfold decoded
  simp only [c0, c1, c2, c3, c4, c5, c6, c7]
  obtain ⟨⟨v, hv⟩⟩ := n
  have : v < 16 := hv
  have T : Scalar.select (α := EReal) (1#1) = fun a _ => a := rfl
  have N : Scalar.select (α := EReal) (0#1) = fun _ b => b := rfl
  have ct : ∀ x : BitVec 32, (0#32).slt x = true → IntOp.cmpi .sgt x 0#32 = 1#1 := by
    intro x h; simp [IntOp.cmpi, h]
  have cf : ∀ x : BitVec 32, (0#32).slt x = false → IntOp.cmpi .sgt x 0#32 = 0#1 := by
    intro x h; simp [IntOp.cmpi, h]
  interval_cases v <;>
    (simp only [IntOp.cmpi, IntOp.andi, e2m1]
     simp [T, N, sub0, BitVec.getLsbD, Nat.testBit, -EReal.coe_neg]
     try exact (EReal.coe_neg _).symm)

/-- The kernel's weight is the reference's: the code decoded, times `2^(e - 127)`. -/
theorem kernelWeight_eq_decoded (h : Fin 2) (w e : BitVec 8) (he : e.toNat ≤ 248) :
    kernelWeight h w e
      = decoded (nibble h w) * (FloatOps.exp2 (FloatOps.sitofp .f32 (e.setWidth 32 - 127#32) : Ideal .f32) : Ideal .f32) := by
  rw [kernelWeight_eq h w e he, nibble_eq, decoded_eq, exp2_scale]

/-! ### The scale bytes in words -/

/-- Four bytes in a word, the first lowest. -/
def word4 (b : Fin 4 → BitVec 8) : BitVec 32 := b 3 ++ b 2 ++ b 1 ++ b 0

theorem word4_toNat (b : Fin 4 → BitVec 8) :
    (word4 b).toNat = (b 3).toNat * 16777216 + (b 2).toNat * 65536 + (b 1).toNat * 256 + (b 0).toNat := by
  have h0 := (b 0).isLt; have h1 := (b 1).isLt; have h2 := (b 2).isLt; have h3 := (b 3).isLt
  unfold word4
  simp only [BitVec.toNat_append]
  rw [← Nat.shiftLeft_add_eq_or_of_lt (by omega), ← Nat.shiftLeft_add_eq_or_of_lt (by omega),
    ← Nat.shiftLeft_add_eq_or_of_lt (by omega)]
  simp only [Nat.shiftLeft_eq]
  omega

/-- Adding 6 to every byte of a word at once, when no byte carries. -/
theorem word4_add (b : Fin 4 → BitVec 8) (hb : ∀ p, (b p).toNat ≤ 248) :
    word4 b + 0x06060606#32 = word4 fun p => b p + 6#8 := by
  have h0 := hb 0; have h1 := hb 1; have h2 := hb 2; have h3 := hb 3
  have e : ∀ p, (b p + 6#8).toNat = (b p).toNat + 6 := by
    intro p; have := hb p; rw [BitVec.toNat_add]; simp; omega
  apply BitVec.eq_of_toNat_eq
  rw [BitVec.toNat_add, word4_toNat, word4_toNat, e, e, e, e]
  simp
  omega

/-- Two bf16 patterns in a word, the first low. -/
def pair (lo hi : BitVec 16) : BitVec 32 := hi ++ lo

theorem pair_low (lo hi : BitVec 16) : (pair lo hi).extractLsb' 0 16 = lo := by
  apply BitVec.eq_of_getLsbD_eq; intro i hi'
  rw [BitVec.getLsbD_extractLsb', pair, BitVec.getLsbD_append, Nat.zero_add, if_pos hi']; simp [hi']
theorem pair_high (lo hi : BitVec 16) : (pair lo hi).extractLsb' 16 16 = hi := by
  apply BitVec.eq_of_getLsbD_eq; intro i hi'
  rw [BitVec.getLsbD_extractLsb', pair, BitVec.getLsbD_append, if_neg (by omega), Nat.add_sub_cancel_left]; simp [hi']

/-- Byte `p` of two words, moved to the two exponent fields of a pair: the four shift-and-mask forms of the kernel. -/
theorem scale_pair_0 (x y : Fin 4 → BitVec 8) :
    ((word4 x <<< 7) &&& 0x7F80#32) ||| ((word4 y <<< 23) &&& 0x7F800000#32)
      = pair ((x 0).setWidth 16 <<< 7) ((y 0).setWidth 16 <<< 7) := by
  unfold word4 pair
  apply BitVec.eq_of_getLsbD_eq; intro i hi
  simp only [BitVec.getLsbD_or, BitVec.getLsbD_and, BitVec.getLsbD_shiftLeft, BitVec.getLsbD_ushiftRight, BitVec.getLsbD_append,
    BitVec.getLsbD_setWidth]
  interval_cases i <;> simp

theorem scale_pair_1 (x y : Fin 4 → BitVec 8) :
    ((word4 x >>> 1) &&& 0x7F80#32) ||| ((word4 y <<< 15) &&& 0x7F800000#32)
      = pair ((x 1).setWidth 16 <<< 7) ((y 1).setWidth 16 <<< 7) := by
  unfold word4 pair
  apply BitVec.eq_of_getLsbD_eq; intro i hi
  simp only [BitVec.getLsbD_or, BitVec.getLsbD_and, BitVec.getLsbD_shiftLeft, BitVec.getLsbD_ushiftRight, BitVec.getLsbD_append,
    BitVec.getLsbD_setWidth]
  interval_cases i <;> simp

theorem scale_pair_2 (x y : Fin 4 → BitVec 8) :
    ((word4 x >>> 9) &&& 0x7F80#32) ||| ((word4 y <<< 7) &&& 0x7F800000#32)
      = pair ((x 2).setWidth 16 <<< 7) ((y 2).setWidth 16 <<< 7) := by
  unfold word4 pair
  apply BitVec.eq_of_getLsbD_eq; intro i hi
  simp only [BitVec.getLsbD_or, BitVec.getLsbD_and, BitVec.getLsbD_shiftLeft, BitVec.getLsbD_ushiftRight, BitVec.getLsbD_append,
    BitVec.getLsbD_setWidth]
  interval_cases i <;> simp

theorem scale_pair_3 (x y : Fin 4 → BitVec 8) :
    ((word4 x >>> 17) &&& 0x7F80#32) ||| ((word4 y >>> 1) &&& 0x7F800000#32)
      = pair ((x 3).setWidth 16 <<< 7) ((y 3).setWidth 16 <<< 7) := by
  unfold word4 pair
  apply BitVec.eq_of_getLsbD_eq; intro i hi
  simp only [BitVec.getLsbD_or, BitVec.getLsbD_and, BitVec.getLsbD_shiftLeft, BitVec.getLsbD_ushiftRight, BitVec.getLsbD_append,
    BitVec.getLsbD_setWidth]
  interval_cases i <;> simp

end Cert.Proof.Mx

end
-- ==== Proof.Block.lean ====
/-
  Hand-written, untrusted. THE KERNEL'S VECTOR PIECES AT AN INDEX, each stated once, at shapes of which only the row count may vary:
  one block of 32 packed rows decoded and scaled (`decBlock`), a row of 128 lanes gathered (`wrapGather`), the two halves of a product
  interleaved lane by lane (`interleave`).
-/
module

public import Idealize.ShloMosaic.Lib.Pointwise
public import Idealize.ShloMosaic.Lib.BitcastFour
public import proofs.«01_k».proof.Proof.Weight

@[expose] public section

noncomputable section

namespace Cert.Proof.Mx

open Idealize.ShloMosaic

/-- Rank-2 and rank-3 shapes. -/
abbrev M2 (a b : Nat) : Shape := ⟨2, ![a, b]⟩
abbrev M3 (a b c : Nat) : Shape := ⟨3, ![a, b, c]⟩

/-- The left shift that brings nibble `row % 2` to the top of a word. -/
def shifts : IVec (M2 64 256) 32 :=
  subi (broadcast (M2 64 256) 28#32)
    (muli (broadcast (M2 64 256) 4#32) (andi (iota .tc (M2 64 256) 32 [0] (by decide)) (broadcast (M2 64 256) 1#32)))

theorem shifts_apply (i : Fin 64) (j : Fin 256) : shifts (ix2 i j) = BitVec.ofNat 32 (28 - 4 * (i.val % 2)) := by
  have h : ∀ i : Fin 64, 28#32 - 4#32 * (BitVec.ofNat 32 i.val &&& 1#32) = BitVec.ofNat 32 (28 - 4 * (i.val % 2)) := by
    decide +kernel
  rw [← h i]
  pointwise [shifts]
  rfl

/-- The nibbles of 32 rows of bytes, one to a row of 64, sign-extended. -/
def nibbles (w : IVec (M2 32 256) 8) : IVec (M2 64 256) 8 :=
  trunci 8 (shrsi (shli (shapeCast (M2 64 256) (broadcastTo (M3 32 2 256) (shapeCast (M3 32 1 256)
    (extui 32 w (by decide)) (by decide)) (by decide)) (by decide)) shifts) (broadcast (M2 64 256) 28#32)) (by decide)

/-- The codes of a block, their bytes shifted and masked four at a time in words. -/
def codes8 (x : IVec (M2 64 256) 8) : IVec (M2 64 256) 8 :=
  bitcast (M2 64 256) 8 (andi (shli (bitcast (M2 16 256) 32 x (by decide)) (broadcast (M2 16 256) 2#32))
    (broadcast (M2 16 256) 2627509404#32)) (by decide)

/-- The two scale patterns of a column, down the rows alternately. -/
def scales16 (s : IVec (M3 1 1 256) 32) : IVec (M2 64 256) 16 :=
  bitcast (M2 64 256) 16 (broadcastTo (M2 32 256) (shapeCast (M2 1 256) (shapeCast (M2 1 256) s (by decide)) (by decide))
    (by decide)) (by decide)

/-- One decoded and scaled block. -/
def decBlock (w : IVec (M2 32 256) 8) (s : IVec (M3 1 1 256) 32) : FVec Ideal (M2 64 256) .bf16 :=
  mulf (extf .bf16 (bitcastToFloat .fp8e4m3 (codes8 (nibbles w))) (by decide)) (bitcastToFloat .bf16 (scales16 s))

theorem nibbles_apply (w : IVec (M2 32 256) 8) (i : Fin 64) (j : Fin 256) :
    nibbles w (ix2 i j)
      = (((w (ix2 ⟨i.val / 2, by omega⟩ j)).setWidth 32 <<< (28 - 4 * (i.val % 2))).sshiftRight 28).setWidth 8 := by
  unfold nibbles
  pointwise
  rw [shifts_apply]
  have key : ∀ (x : BitVec 8) (m : Nat), m < 2 →
      BitVec.setWidth 8 (IntOp.shrsi ArithUnit.vector
          (IntOp.shli ArithUnit.vector (BitVec.setWidth 32 x) (BitVec.ofNat 32 (28 - 4 * m))) 28#32)
        = BitVec.setWidth 8 ((BitVec.setWidth 32 x <<< (28 - 4 * m)).sshiftRight 28) := by
    intro x m hm
    interval_cases m <;> simp [IntOp.shli, IntOp.shrsi]
  exact key _ _ (Nat.mod_lt _ Nat.two_pos)

/-- The source index of a bit cast between arrays of rows: the row holding the bits, in the same column. -/
theorem srcIdx_ix2 {R r n v w : Nat} (h : (M2 R n).Bitcasts v (M2 r n) w) (a : Fin r) (l : Fin n) (p : Nat)
    (hp : ∀ b : Fin (M2 R n).rank, b.val + 2 = (M2 R n).rank → p < (M2 R n).size b) (p' : Fin R) (e : p'.val = p) :
    h.srcIdx (ix2 a l) p hp = ix2 p' l := by
  funext c
  match c with
  | ⟨0, _⟩ => exact Fin.ext ((h.srcIdx_row _ _ _ ⟨0, Nat.zero_lt_two⟩ rfl).trans e.symm)
  | ⟨1, _⟩ => exact Fin.ext (h.srcIdx_other _ _ _ ⟨1, Nat.one_lt_two⟩ (by show ¬ 1 + 2 = 2; omega))

theorem codes8_apply (x : IVec (M2 64 256) 8) (i : Fin 64) (j : Fin 256) :
    codes8 x (ix2 i j) = (x (ix2 i j) <<< 2) &&& 0x9C#8 := by
  have hrow : (M2 64 256).row (ix2 i j) = i.val := rfl
  apply BitVec.eq_of_getLsbD_eq
  intro q hq
  unfold codes8
  rw [bitcast_getLsbD _ _ _ q hq (by decide)]
  rw [srcIdx_ix2 _ i j _ _ (⟨i.val / 4, by omega⟩ : Fin 16) (by rw [hrow]; show i.val / 4 = _; omega), hrow]
  have hr : (i.val * 8 + q) % 32 = 8 * (i.val % 4) + q := by omega
  have hb : ∀ t (ht : t < 32) (u : Nat), t = 8 * (i.val % 4) + u → u < 8 →
      (bitcast (M2 16 256) 32 x codes8._proof_1 (ix2 (⟨i.val / 4, by omega⟩ : Fin 16) j)).getLsbD t = (x (ix2 i j)).getLsbD u := by
    intro t ht u e hu
    rw [bitcast_getLsbD x _ _ t ht (by decide)]
    have hrow' : (M2 16 256).row (ix2 (⟨i.val / 4, by omega⟩ : Fin 16) j) = i.val / 4 := rfl
    rw [srcIdx_ix2 _ _ _ _ _ i (by rw [hrow']; omega), hrow']
    congr 1; omega
  have hw : andi (shli (bitcast (M2 16 256) 32 x codes8._proof_1) (broadcast (M2 16 256) 2#32))
        (broadcast (M2 16 256) 2627509404#32) (ix2 (⟨i.val / 4, by omega⟩ : Fin 16) j)
      = (bitcast (M2 16 256) 32 x codes8._proof_1 (ix2 (⟨i.val / 4, by omega⟩ : Fin 16) j) <<< 2) &&& 0x9C9C9C9C#32 := rfl
  rw [hw, hr, BitVec.getLsbD_and, BitVec.getLsbD_and, BitVec.getLsbD_shiftLeft, BitVec.getLsbD_shiftLeft]
  have hm : ∀ p : Fin 4, ∀ q : Fin 8, (0x9C9C9C9C#32).getLsbD (8 * p.val + q.val) = (0x9C#8).getLsbD q.val := by decide
  have hm2 : ∀ q : Fin 8, (0x9C#8).getLsbD q.val = true → 2 ≤ q.val := by decide
  rw [hm ⟨i.val % 4, by omega⟩ ⟨q, hq⟩]
  cases hc : (0x9C#8).getLsbD q with
  | false => simp [hc]
  | true =>
    have h2 : 2 ≤ q := hm2 ⟨q, hq⟩ hc
    rw [hb _ (by omega) (q - 2) (by omega) (by omega)]
    have : ¬ 8 * (i.val % 4) + q < 2 := by omega
    have : ¬ q < 2 := by omega
    have : 8 * (i.val % 4) + q < 32 := by omega
    simp [*]

theorem scales16_apply (s : IVec (M3 1 1 256) 32) (i : Fin 64) (j : Fin 256) :
    scales16 s (ix2 i j) = (s (ix3 0 0 j)).extractLsb' (16 * (i.val % 2)) 16 := by
  unfold scales16
  rw [bitcast_32_16]
  have hrow : (M2 64 256).row (ix2 i j) = i.val := rfl
  rw [srcIdx_ix2 _ i j _ _ (⟨i.val / 2, by omega⟩ : Fin 32) (by rw [hrow]), hrow]
  pointwise

theorem decBlock_apply (w : IVec (M2 32 256) 8) (s : IVec (M3 1 1 256) 32) (i : Fin 64) (j : Fin 256) :
    decBlock w s (ix2 i j)
      = (FloatOps.ofBits .fp8e4m3 (codeByte (i.val % 2) (w (ix2 ⟨i.val / 2, by omega⟩ j))) : Ideal .fp8e4m3)
        * (FloatOps.ofBits .bf16 ((s (ix3 0 0 j)).extractLsb' (16 * (i.val % 2)) 16) : Ideal .bf16) := by
  unfold codeByte
  rw [← nibbles_apply, ← codes8_apply, ← scales16_apply]
  rfl

/-! ### Gathers along 128 lanes -/

/-- `take_along_axis` as it is printed: a negative index wraps, then a gather along the lanes. -/
def wrapGather {α : Type} {R : Nat} (a : (M2 R 128).Idx → α) (idx : IVec (M2 R 128) 32)
    (h1 : (M2 R 128).ShapeCasts (M3 R 128 1)) (h2 : (M3 R 128 1).ShapeCasts (M2 R 128)) : (M2 R 128).Idx → α :=
  dynamicGather 1 a (shapeCast (M2 R 128) (shapeCast (M3 R 128 1)
    (select (cmpi .slt idx (broadcast (M2 R 128) 0#32)) (addi idx (broadcast (M2 R 128) 128#32)) idx) h1) h2)

theorem dynamicGather_apply {α : Type} {R : Nat} (a : (M2 R 128).Idx → α) (idx : IVec (M2 R 128) 32) (r : Fin R) (l n : Fin 128)
    (hn : idx (ix2 r l) = BitVec.ofNat 32 n.val) : dynamicGather 1 a idx (ix2 r l) = a (ix2 r n) := by
  unfold dynamicGather
  congr 1
  funext b
  match b with
  | ⟨0, _⟩ => rfl
  | ⟨1, _⟩ =>
    exact Fin.ext (by
      show (idx (ix2 r l)).toNat % 128 = n.val
      rw [hn]; have := n.isLt; simp only [BitVec.toNat_ofNat]; omega)

theorem wrapGather_apply {α : Type} {R : Nat} (a : (M2 R 128).Idx → α) (idx : IVec (M2 R 128) 32)
    (h1 : (M2 R 128).ShapeCasts (M3 R 128 1)) (h2 : (M3 R 128 1).ShapeCasts (M2 R 128)) (r : Fin R) (l n : Fin 128)
    (hn : idx (ix2 r l) = BitVec.ofNat 32 n.val) : wrapGather a idx h1 h2 (ix2 r l) = a (ix2 r n) := by
  have hc : ∀ n : Fin 128, IntOp.cmpi .slt (BitVec.ofNat 32 n.val) 0#32 = 0#1 := by decide +kernel
  refine dynamicGather_apply a _ r l n ?_
  pointwise
  rw [hn, hc n]
  rfl

/-! ### The interleaved halves of a product -/

/-- The lane number. -/
def lanes : IVec (M2 56 128) 32 := iota .tc (M2 56 128) 32 [1] (by decide)

/-- 128 lanes of the interleaving: even lanes from `a`, odd lanes from `b`, both at half the lane, plus `off`. -/
def mixLanes (a b : FVec Ideal (M2 56 128) .f32) (off : BitVec 32) : FVec Ideal (M2 56 128) .f32 :=
  select (cmpi .eq (andi lanes (broadcast (M2 56 128) 1#32)) (broadcast (M2 56 128) 0#32))
    (wrapGather a (addi (shrsi lanes (broadcast (M2 56 128) 1#32)) (broadcast (M2 56 128) off)) (by decide) (by decide))
    (wrapGather b (addi (shrsi lanes (broadcast (M2 56 128) 1#32)) (broadcast (M2 56 128) off)) (by decide) (by decide))

theorem mixLanes_apply (a b : FVec Ideal (M2 56 128) .f32) (h : Fin 2) (r : Fin 56) (l n : Fin 128)
    (hn : n.val = 64 * h.val + l.val / 2) :
    mixLanes a b (BitVec.ofNat 32 (64 * h.val)) (ix2 r l) = if l.val % 2 = 0 then a (ix2 r n) else b (ix2 r n) := by
  have hi : ∀ (h : Fin 2) (l : Fin 128), IntOp.addi (IntOp.shrsi ArithUnit.vector (BitVec.ofNat 32 l.val) 1#32)
      (BitVec.ofNat 32 (64 * h.val)) = BitVec.ofNat 32 (64 * h.val + l.val / 2) := by decide +kernel
  have hx : (addi (shrsi lanes (broadcast (M2 56 128) 1#32)) (broadcast (M2 56 128) (BitVec.ofNat 32 (64 * h.val)))) (ix2 r l)
      = BitVec.ofNat 32 n.val := by
    rw [hn, ← hi]
    pointwise [lanes]
  have hc : ∀ l : Fin 128, IntOp.cmpi .eq (IntOp.andi (BitVec.ofNat 32 l.val) 1#32) 0#32 = if l.val % 2 = 0 then 1#1 else 0#1 := by
    decide +kernel
  have hs : (cmpi .eq (andi lanes (broadcast (M2 56 128) 1#32)) (broadcast (M2 56 128) 0#32)) (ix2 r l)
      = if l.val % 2 = 0 then 1#1 else 0#1 := by
    rw [← hc]
    pointwise [lanes]
  unfold mixLanes
  rw [show ∀ (c : IVec (M2 56 128) 1) (x y : FVec Ideal (M2 56 128) .f32) i, select c x y i = Scalar.select (c i) (x i) (y i) from
    fun _ _ _ _ => rfl, hs, wrapGather_apply a _ _ _ r l n hx, wrapGather_apply b _ _ _ r l n hx]
  split <;> rfl

theorem conc4 : Shape.Concatenates [M2 56 128, M2 56 128, M2 56 128, M2 56 128] (M2 56 512) 1 := by decide

/-- The product's even rows `y[:56]` and odd rows `y[56:]`, interleaved along the lanes. -/
def interleave (y : FVec Ideal (M2 112 256) .f32) : FVec Ideal (M2 56 512) .f32 :=
  have ye : FVec Ideal (M2 56 256) .f32 := extractStridedSlice (M2 56 256) ![0, 0] y (by decide)
  have yo : FVec Ideal (M2 56 256) .f32 := extractStridedSlice (M2 56 256) ![56, 0] y (by decide)
  have a0 : FVec Ideal (M2 56 128) .f32 := extractStridedSlice (M2 56 128) ![0, 0] ye (by decide)
  have b0 : FVec Ideal (M2 56 128) .f32 := extractStridedSlice (M2 56 128) ![0, 0] yo (by decide)
  have a1 : FVec Ideal (M2 56 128) .f32 := extractStridedSlice (M2 56 128) ![0, 128] ye (by decide)
  have b1 : FVec Ideal (M2 56 128) .f32 := extractStridedSlice (M2 56 128) ![0, 128] yo (by decide)
  concatenate (M2 56 512) 1 [⟨M2 56 128, mixLanes a0 b0 0#32⟩, ⟨M2 56 128, mixLanes a0 b0 64#32⟩,
    ⟨M2 56 128, mixLanes a1 b1 0#32⟩, ⟨M2 56 128, mixLanes a1 b1 64#32⟩] conc4

theorem interleave_apply (y : FVec Ideal (M2 112 256) .f32) (r : Fin 56) (j : Fin 512) :
    interleave y (ix2 r j)
      = y (ix2 (⟨56 * (j.val % 2) + r.val, by omega⟩ : Fin 112) (⟨j.val / 2, by omega⟩ : Fin 256)) := by
  have key : ∀ (c h : Fin 2) (l : Fin 128) (a b : FVec Ideal (M2 56 128) .f32), j.val = 256 * c.val + 128 * h.val + l.val →
      (∀ n : Fin 128, a (ix2 r n) = y (ix2 (⟨r.val, by omega⟩ : Fin 112) (⟨128 * c.val + n.val, by omega⟩ : Fin 256))) →
      (∀ n : Fin 128, b (ix2 r n) = y (ix2 (⟨56 + r.val, by omega⟩ : Fin 112) (⟨128 * c.val + n.val, by omega⟩ : Fin 256))) →
      mixLanes a b (BitVec.ofNat 32 (64 * h.val)) (ix2 r l)
        = y (ix2 (⟨56 * (j.val % 2) + r.val, by omega⟩ : Fin 112) (⟨j.val / 2, by omega⟩ : Fin 256)) := by
    intro c h l a b hj ha hb
    rw [mixLanes_apply a b h r l ⟨64 * h.val + l.val / 2, by omega⟩ rfl, ha, hb]
    have hm : j.val % 2 = l.val % 2 := by omega
    have hd : j.val / 2 = 128 * c.val + (64 * h.val + l.val / 2) := by omega
    split
    · congr 2
      · exact Fin.ext (by simp only; omega)
      · exact Fin.ext hd.symm
    · congr 2
      · exact Fin.ext (by simp only; omega)
      · exact Fin.ext hd.symm
  unfold interleave
  pointwise
  by_cases h1 : j.val < 128
  · rw [dif_pos h1]
    exact key 0 0 ⟨j.val, h1⟩ _ _ (by simp) (fun n => by pointwise) (fun n => by pointwise)
  rw [dif_neg h1]
  by_cases h2 : j.val - 128 < 128
  · rw [dif_pos h2]
    exact key 0 1 ⟨j.val - 128, h2⟩ _ _ (by simp; omega) (fun n => by pointwise) (fun n => by pointwise)
  rw [dif_neg h2]
  by_cases h3 : j.val - 128 - 128 < 128
  · rw [dif_pos h3]
    exact key 1 0 ⟨j.val - 128 - 128, h3⟩ _ _ (by simp; omega) (fun n => by pointwise) (fun n => by pointwise)
  rw [dif_neg h3]
  exact key 1 1 ⟨j.val - 128 - 128 - 128, by omega⟩ _ _ (by simp; omega) (fun n => by pointwise) (fun n => by pointwise)

end Cert.Proof.Mx

end
-- ==== Proof.ScaleWords.lean ====
/-
  Hand-written, untrusted. THE SCALE WORDS. The kernel reads the E8M0 bytes four rows to a word, adds 6 to every byte at once, picks the even
  and the odd columns by gathers, and lays byte `p` of the two words out as a pair of bf16 patterns. At an index that is the pair of the
  patterns of two neighbouring bytes of one row (`scaleChunk_apply`), for bytes up to 248.
-/
module

public import proofs.«01_k».proof.Proof.Block

@[expose] public section

noncomputable section

namespace Cert.Proof.Mx

open Idealize.ShloMosaic

/-- The side conditions of the operations below, at `N` rows of bytes and `R` rows of words. -/
structure ScaleFacts (N R : Nat) : Prop where
  four : N = 4 * R
  bitcasts : (M2 N 512).Bitcasts 8 (M2 R 512) 32
  iotas : (M2 R 128).Iotas .tc 32 [1]
  up : (M2 R 128).ShapeCasts (M3 R 128 1)
  down : (M3 R 128 1).ShapeCasts (M2 R 128)
  lead : (M2 R 128).ShapeCasts (M3 1 R 128)
  slices : ∀ q : Fin 4, (M2 R 512).Slices ![0, 128 * q.val] (M2 R 128)

variable {N R : Nat}

/-- The bytes as words, 6 added to every byte. -/
def words (f : ScaleFacts N R) (e : IVec (M2 N 512) 8) : IVec (M2 R 512) 32 :=
  addi (bitcast (M2 R 512) 32 e f.bitcasts) (broadcast (M2 R 512) 101058054#32)

/-- Lanes `128 q … 128 q + 127` of the words. -/
def wordLanes (f : ScaleFacts N R) (q : Fin 4) (e : IVec (M2 N 512) 8) : IVec (M2 R 128) 32 :=
  extractStridedSlice (M2 R 128) ![0, 128 * q.val] (words f e) (f.slices q)

/-- Twice the lane, modulo 128. -/
def doubled (f : ScaleFacts N R) : IVec (M2 R 128) 32 :=
  andi (muli (broadcast (M2 R 128) 2#32) (iota .tc (M2 R 128) 32 [1] f.iotas)) (broadcast (M2 R 128) 127#32)

/-- Whether the lane is in the first half. -/
def firstHalf (f : ScaleFacts N R) : IVec (M2 R 128) 1 :=
  cmpi .slt (iota .tc (M2 R 128) 32 [1] f.iotas) (broadcast (M2 R 128) 64#32)

/-- The words of the even columns of chunk `c`. -/
def evenWords (f : ScaleFacts N R) (a b : IVec (M2 R 128) 32) : IVec (M2 R 128) 32 :=
  select (firstHalf f) (wrapGather a (doubled f) f.up f.down) (wrapGather b (doubled f) f.up f.down)

/-- The words of the odd columns of chunk `c`. -/
def oddWords (f : ScaleFacts N R) (a b : IVec (M2 R 128) 32) : IVec (M2 R 128) 32 :=
  select (firstHalf f) (wrapGather a (addi (doubled f) (broadcast (M2 R 128) 1#32)) f.up f.down)
    (wrapGather b (addi (doubled f) (broadcast (M2 R 128) 1#32)) f.up f.down)

/-- The pair of patterns of byte `p` of two words. -/
def pairs (f : ScaleFacts N R) (p : Fin 4) (ev od : IVec (M2 R 128) 32) : IVec (M3 1 R 128) 32 :=
  let lo := fun x : IVec (M2 R 128) 32 => andi x (broadcast (M2 R 128) 32640#32)
  let hi := fun x : IVec (M2 R 128) 32 => andi x (broadcast (M2 R 128) 2139095040#32)
  let c := fun k : BitVec 32 => broadcast (M2 R 128) k
  match p with
  | 0 => shapeCast (M3 1 R 128) (ori (lo (shli ev (c 7#32))) (hi (shli od (c 23#32)))) f.lead
  | 1 => shapeCast (M3 1 R 128) (ori (lo (shrui ev (c 1#32))) (hi (shli od (c 15#32)))) f.lead
  | 2 => shapeCast (M3 1 R 128) (ori (lo (shrui ev (c 9#32))) (hi (shli od (c 7#32)))) f.lead
  | 3 => shapeCast (M3 1 R 128) (ori (lo (shrui ev (c 17#32))) (hi (shrui od (c 1#32)))) f.lead

/-- What the kernel stores in plane `p`, lanes `128 c … 128 c + 127`, of its scratch. -/
def scaleChunk (f : ScaleFacts N R) (p : Fin 4) (c : Fin 2) (e : IVec (M2 N 512) 8) : IVec (M3 1 R 128) 32 :=
  let a := wordLanes f ⟨2 * c.val, by omega⟩ e
  let b := wordLanes f ⟨2 * c.val + 1, by omega⟩ e
  pairs f p (evenWords f a b) (oddWords f a b)

/-- The pair of patterns of bytes `2 j` and `2 j + 1` of a row. -/
def scalePair (e : IVec (M2 N 512) 8) (k : Fin N) (j : Fin 256) : BitVec 32 :=
  pair (scaleBits (e (ix2 k (⟨2 * j.val, by omega⟩ : Fin 512)))) (scaleBits (e (ix2 k (⟨2 * j.val + 1, by omega⟩ : Fin 512))))

theorem words_apply (f : ScaleFacts N R) (e : IVec (M2 N 512) 8) (he : ∀ i, (e i).toNat ≤ 248) (r : Fin R) (l : Fin 512) :
    words f e (ix2 r l) = word4 fun p => e (ix2 (⟨4 * r.val + p.val, by have := f.four; omega⟩ : Fin N) l) + 6#8 := by
  have hw : bitcast (M2 R 512) 32 e f.bitcasts (ix2 r l)
      = word4 fun p => e (ix2 (⟨4 * r.val + p.val, by have := f.four; omega⟩ : Fin N) l) := by
    apply BitVec.eq_of_getLsbD_eq
    intro q hq
    rw [bitcast_getLsbD e _ _ q hq (by decide)]
    have hrow : (M2 R 512).row (ix2 r l) = r.val := rfl
    rw [srcIdx_ix2 _ r l _ _ (⟨4 * r.val + q / 8, by have := f.four; omega⟩ : Fin N) (by rw [hrow]; show 4 * r.val + q / 8 = _; omega), hrow,
      show (r.val * 32 + q) % 8 = q % 8 by omega]
    unfold word4
    simp only [BitVec.getLsbD_append]
    by_cases h0 : q < 8
    · simp [h0, show q / 8 = 0 by omega, show q % 8 = q by omega]
    by_cases h1 : q < 16
    · simp [h0, show q / 8 = 1 by omega, show q % 8 = q - 8 by omega, show q - 8 < 8 by omega]
    by_cases h2 : q < 24
    · simp [h0, show q / 8 = 2 by omega, show q % 8 = q - 8 - 8 by omega, show ¬ q - 8 < 8 by omega, show q - 8 - 8 < 8 by omega]
    · simp [h0, show q / 8 = 3 by omega, show q % 8 = q - 8 - 8 - 8 by omega, show ¬ q - 8 < 8 by omega, show ¬ q - 8 - 8 < 8 by omega]
  show bitcast (M2 R 512) 32 e f.bitcasts (ix2 r l) + 0x06060606#32 = _
  rw [hw, word4_add _ fun p => he _]

theorem doubled_apply (f : ScaleFacts N R) (r : Fin R) (l : Fin 128) :
    doubled f (ix2 r l) = BitVec.ofNat 32 (2 * l.val % 128) := by
  have h : ∀ l : Fin 128, IntOp.andi (IntOp.muli 2#32 (BitVec.ofNat 32 l.val)) 127#32 = BitVec.ofNat 32 (2 * l.val % 128) := by decide +kernel
  rw [← h]
  pointwise [doubled]

theorem doubled_succ_apply (f : ScaleFacts N R) (r : Fin R) (l : Fin 128) :
    addi (doubled f) (broadcast (M2 R 128) 1#32) (ix2 r l) = BitVec.ofNat 32 (2 * l.val % 128 + 1) := by
  have h : ∀ l : Fin 128, IntOp.addi (BitVec.ofNat 32 (2 * l.val % 128)) 1#32 = BitVec.ofNat 32 (2 * l.val % 128 + 1) := by decide +kernel
  rw [← h, ← doubled_apply f r l]
  rfl

theorem firstHalf_apply (f : ScaleFacts N R) (r : Fin R) (l : Fin 128) :
    firstHalf f (ix2 r l) = if l.val < 64 then 1#1 else 0#1 := by
  have h : ∀ l : Fin 128, IntOp.cmpi .slt (BitVec.ofNat 32 l.val) 64#32 = if l.val < 64 then 1#1 else 0#1 := by decide +kernel
  rw [← h]
  pointwise [firstHalf]

/-- The chosen lane, of one operand in the first half and of the other in the second. -/
theorem evenWords_apply (f : ScaleFacts N R) (a b : IVec (M2 R 128) 32) (r : Fin R) (l : Fin 128) :
    evenWords f a b (ix2 r l) = (if l.val < 64 then a else b) (ix2 r (⟨2 * l.val % 128, by omega⟩ : Fin 128)) := by
  show Scalar.select (firstHalf f (ix2 r l)) _ _ = _
  rw [firstHalf_apply, wrapGather_apply a _ _ _ r l ⟨2 * l.val % 128, by omega⟩ (doubled_apply f r l),
    wrapGather_apply b _ _ _ r l ⟨2 * l.val % 128, by omega⟩ (doubled_apply f r l)]
  split <;> rfl

theorem oddWords_apply (f : ScaleFacts N R) (a b : IVec (M2 R 128) 32) (r : Fin R) (l : Fin 128) :
    oddWords f a b (ix2 r l) = (if l.val < 64 then a else b) (ix2 r (⟨2 * l.val % 128 + 1, by omega⟩ : Fin 128)) := by
  show Scalar.select (firstHalf f (ix2 r l)) _ _ = _
  rw [firstHalf_apply, wrapGather_apply a _ _ _ r l ⟨2 * l.val % 128 + 1, by omega⟩ (doubled_succ_apply f r l),
    wrapGather_apply b _ _ _ r l ⟨2 * l.val % 128 + 1, by omega⟩ (doubled_succ_apply f r l)]
  split <;> rfl

theorem wordLanes_apply (f : ScaleFacts N R) (q : Fin 4) (e : IVec (M2 N 512) 8) (r : Fin R) (l : Fin 128) :
    wordLanes f q e (ix2 r l) = words f e (ix2 r (⟨128 * q.val + l.val, by omega⟩ : Fin 512)) := by
  unfold wordLanes
  pointwise
  congr 1
  funext b
  match b with
  | ⟨0, _⟩ => exact Fin.ext (Nat.zero_add _)
  | ⟨1, _⟩ => rfl

/-- A leading unit axis. -/
theorem lead_apply {α : Type} (x : (M2 R 128).Idx → α) (h : (M2 R 128).ShapeCasts (M3 1 R 128)) (r : Fin R) (l : Fin 128) :
    shapeCast (M3 1 R 128) x h (ix3 0 r l) = x (ix2 r l) := by
  show x (Shape.reshapeEquiv h _) = _
  congr 1
  apply Shape.reshapeEquiv_eq_of_rowMajor
  rw [rowMajor_val3 _ (R * 128) 128 rfl rfl, rowMajor_val2 _ 128 rfl]
  simp

theorem pairs_apply (f : ScaleFacts N R) (p : Fin 4) (ev od : IVec (M2 R 128) 32) (r : Fin R) (l : Fin 128) (x y : Fin 4 → BitVec 8)
    (hx : ev (ix2 r l) = word4 x) (hy : od (ix2 r l) = word4 y) :
    pairs f p ev od (ix3 0 r l) = pair ((x p).setWidth 16 <<< 7) ((y p).setWidth 16 <<< 7) := by
  match p with
  | 0 => rw [← scale_pair_0, ← hx, ← hy]; unfold pairs; exact lead_apply _ _ r l
  | 1 => rw [← scale_pair_1, ← hx, ← hy]; unfold pairs; exact lead_apply _ _ r l
  | 2 => rw [← scale_pair_2, ← hx, ← hy]; unfold pairs; exact lead_apply _ _ r l
  | 3 => rw [← scale_pair_3, ← hx, ← hy]; unfold pairs; exact lead_apply _ _ r l

theorem scaleChunk_apply (f : ScaleFacts N R) (p : Fin 4) (c : Fin 2) (e : IVec (M2 N 512) 8) (he : ∀ i, (e i).toNat ≤ 248)
    (r : Fin R) (l : Fin 128) :
    scaleChunk f p c e (ix3 0 r l)
      = scalePair e (⟨4 * r.val + p.val, by have := f.four; omega⟩ : Fin N) ⟨128 * c.val + l.val, by omega⟩ := by
  have hev : ∀ (h : Fin 2), (if l.val < 64 then wordLanes f ⟨2 * c.val, by omega⟩ e else wordLanes f ⟨2 * c.val + 1, by omega⟩ e)
      (ix2 r (⟨2 * l.val % 128 + h.val, by omega⟩ : Fin 128))
      = word4 fun p => e (ix2 (⟨4 * r.val + p.val, by have := f.four; omega⟩ : Fin N)
          (⟨2 * (128 * c.val + l.val) + h.val, by omega⟩ : Fin 512)) + 6#8 := by
    intro h
    split
    · rw [wordLanes_apply, words_apply f e he]
      have e1 : (⟨128 * (2 * c.val) + (2 * l.val % 128 + h.val), by omega⟩ : Fin 512) = ⟨2 * (128 * c.val + l.val) + h.val, by omega⟩ :=
        Fin.ext (by simp only; omega)
      simp only [e1]
    · rw [wordLanes_apply, words_apply f e he]
      have e1 : (⟨128 * (2 * c.val + 1) + (2 * l.val % 128 + h.val), by omega⟩ : Fin 512) = ⟨2 * (128 * c.val + l.val) + h.val, by omega⟩ :=
        Fin.ext (by simp only; omega)
      simp only [e1]
  have h0 := hev 0
  have h1 := hev 1
  simp only [Fin.val_zero, Fin.val_one, Nat.add_zero] at h0 h1
  have e := pairs_apply f p (evenWords f (wordLanes f ⟨2 * c.val, by omega⟩ e) (wordLanes f ⟨2 * c.val + 1, by omega⟩ e))
    (oddWords f (wordLanes f ⟨2 * c.val, by omega⟩ e) (wordLanes f ⟨2 * c.val + 1, by omega⟩ e)) r l _ _
    ((evenWords_apply f _ _ r l).trans h0) ((oddWords_apply f _ _ r l).trans h1)
  unfold scaleChunk
  rw [e]
  rfl

end Cert.Proof.Mx

end
-- ==== Proof.Expand.lean ====
/-
  Hand-written, untrusted. THE SPREAD ACTIVATION. The kernel multiplies 128 codes at a time by a 0/1 matrix that spreads them to the even columns
  (rows 0 … 55) or to the odd columns (rows 56 … 111) of a wider array; a product with that array picks the even or the odd rows of the
  other operand (`sum_spread`). No code need be finite: a factor 0 gives 0, and adding 0 changes nothing.
-/
module

public import proofs.«01_k».proof.Proof.Block

@[expose] public section

noncomputable section

namespace Cert.Proof.Mx

open Idealize.ShloMosaic

/-- The 0/1 matrix: row `s`, column `256 h + t` holds 1 when `2 s + h = t`. -/
def spread : FVec Ideal (M2 128 512) .bf16 :=
  truncf .bf16 (select
    (cmpi .eq (addi (muli (broadcast (M2 128 512) 2#32) (iota .tc (M2 128 512) 32 [0] (by decide)))
        (shrsi (iota .tc (M2 128 512) 32 [1] (by decide)) (broadcast (M2 128 512) 8#32)))
      (andi (iota .tc (M2 128 512) 32 [1] (by decide)) (broadcast (M2 128 512) 255#32)))
    (broadcast (M2 128 512) (Scalar.ofBits (F := Ideal) .f32 0x3F800000#32))
    (broadcast (M2 128 512) (Scalar.ofBits (F := Ideal) .f32 0x00000000#32))) (by decide)

theorem spread_apply (s : Fin 128) (h : Fin 2) (t : Fin 256) :
    spread (ix2 s (⟨256 * h.val + t.val, by omega⟩ : Fin 512)) = if 2 * s.val + h.val = t.val then (1 : EReal) else 0 := by
  have hs : ∀ (h : Fin 2) (t : Fin 256), IntOp.shrsi ArithUnit.vector (BitVec.ofNat 32 (256 * h.val + t.val)) 8#32 = BitVec.ofNat 32 h.val := by
    decide +kernel
  have ha : ∀ (h : Fin 2) (t : Fin 256), IntOp.andi (BitVec.ofNat 32 (256 * h.val + t.val)) 255#32 = BitVec.ofNat 32 t.val := by
    decide +kernel
  have hm : IntOp.addi (IntOp.muli 2#32 (BitVec.ofNat 32 s.val)) (BitVec.ofNat 32 h.val) = BitVec.ofNat 32 (2 * s.val + h.val) := by
    apply BitVec.eq_of_toNat_eq
    simp [IntOp.addi, IntOp.muli]
  have hc : IntOp.cmpi .eq (BitVec.ofNat 32 (2 * s.val + h.val)) (BitVec.ofNat 32 t.val)
      = if 2 * s.val + h.val = t.val then 1#1 else 0#1 := by
    have := s.isLt; have := h.isLt; have := t.isLt
    by_cases hh : 2 * s.val + h.val = t.val
    · rw [hh]; simp [IntOp.cmpi]
    · have : BitVec.ofNat 32 (2 * s.val + h.val) ≠ BitVec.ofNat 32 t.val := by
        intro he
        have := congrArg BitVec.toNat he
        simp only [BitVec.toNat_ofNat] at this
        omega
      rw [if_neg hh]
      simp only [IntOp.cmpi]
      rw [beq_eq_false_iff_ne.mpr this]
      rfl
  have h1 : (FloatOps.ofBits .f32 0x3F800000#32 : Ideal .f32) = (1 : EReal) := by
    refine (rfl : _ = Ideal.ieee 8 23 0x3F800000#32).trans ?_; simp [Ideal.ieee, -EReal.coe_mul]; norm_num
  have h0 : (FloatOps.ofBits .f32 0x00000000#32 : Ideal .f32) = (0 : EReal) := by
    refine (rfl : _ = Ideal.ieee 8 23 0x00000000#32).trans ?_; simp [Ideal.ieee, -EReal.coe_mul]
  have hsel : spread (ix2 s (⟨256 * h.val + t.val, by omega⟩ : Fin 512))
      = Scalar.select (IntOp.cmpi .eq (IntOp.addi (IntOp.muli 2#32 (BitVec.ofNat 32 s.val))
          (IntOp.shrsi ArithUnit.vector (BitVec.ofNat 32 (256 * h.val + t.val)) 8#32))
          (IntOp.andi (BitVec.ofNat 32 (256 * h.val + t.val)) 255#32))
          (FloatOps.ofBits .f32 0x3F800000#32 : Ideal .f32) (FloatOps.ofBits .f32 0x00000000#32 : Ideal .f32) := by
    unfold spread
    pointwise
    skip
  rw [hsel, hs, ha, hm, hc, h1, h0]
  split <;> rfl

/-- 128 codes from column `off` on, spread to the columns of parity `h`. -/
def spreadHalf {K : Nat} (codes : FVec Ideal (M2 56 K) .fp8e4m3) (off : Nat) (hs : (M2 56 K).Slices ![0, off] (M2 56 128)) (h : Fin 2) :
    FVec Ideal (M2 56 256) .bf16 :=
  let y : FVec Ideal (M2 56 512) .bf16 := truncf .bf16 (matmul (DotDims.plain 56 128 512) none
    (extf .bf16 (extractStridedSlice (M2 56 128) ![0, off] codes hs) (by decide)) spread (constant (M2 56 512) .f32 0x00000000#32)) (by decide)
  match h with
  | 0 => extractStridedSlice (M2 56 256) ![0, 0] y (by decide)
  | 1 => extractStridedSlice (M2 56 256) ![0, 256] y (by decide)

theorem spreadHalf_apply {K : Nat} (codes : FVec Ideal (M2 56 K) .fp8e4m3) (off : Nat) (hs : (M2 56 K).Slices ![0, off] (M2 56 128))
    (h : Fin 2) (b : Fin 56) (t : Fin 256) (n : Fin K) (hn : n.val = off + t.val / 2) :
    spreadHalf codes off hs h (ix2 b t) = if t.val % 2 = h.val then (codes (ix2 b n) : EReal) else 0 := by
  have hcol : ∀ s : Fin 128, off + s.val < K := by
    intro s
    obtain ⟨_, h2⟩ := hs
    have h3 := h2 1
    have : off + 128 ≤ K := h3
    omega
  have key : spreadHalf codes off hs h (ix2 b t)
      = ∑ s : Fin 128, (codes (ix2 b (⟨off + s.val, hcol s⟩ : Fin K)) : EReal) * spread (ix2 s (⟨256 * h.val + t.val, by omega⟩ : Fin 512)) := by
    match h with
    | 0 =>
      unfold spreadHalf
      pointwise
      refine Finset.sum_congr rfl fun s _ => ?_
      congr 1
      · exact congrArg codes (funext fun a => by fin_cases a <;> exact Fin.ext (by simp [Shape.Idx.norm, ix2]))
    | 1 =>
      unfold spreadHalf
      pointwise
      refine Finset.sum_congr rfl fun s _ => ?_
      congr 1
      · exact congrArg codes (funext fun a => by fin_cases a <;> exact Fin.ext (by simp [Shape.Idx.norm, ix2]))
  rw [key]
  simp only [spread_apply, mul_ite, mul_one, mul_zero]
  split
  · rename_i hp
    rw [Finset.sum_eq_single (⟨t.val / 2, by omega⟩ : Fin 128)]
    · rw [if_pos (by simp only; omega)]
      congr 2
      exact Fin.ext hn.symm
    · intro s _ hsne
      rw [if_neg]
      intro he
      exact hsne (Fin.ext (by simp only; omega))
    · intro hne; exact absurd (Finset.mem_univ _) hne
  · apply Finset.sum_eq_zero
    intro s _
    rw [if_neg (by omega)]

/-- A sum over `2 K` terms, two at a time. -/
theorem sum_pairs {K M : Nat} (hM : M = 2 * K) (f : Fin M → EReal) :
    ∑ u : Fin M, f u = ∑ s : Fin K, (f ⟨2 * s.val, by omega⟩ + f ⟨2 * s.val + 1, by omega⟩) := by
  subst hM
  induction K with
  | zero => simp
  | succ K ih =>
    rw [Fin.sum_univ_castSucc (n := K)]
    have e : ∀ g : Fin (2 * (K + 1)) → EReal, ∑ u, g u
        = (∑ u : Fin (2 * K), g ⟨u.val, by omega⟩) + (g ⟨2 * K, by omega⟩ + g ⟨2 * K + 1, by omega⟩) := by
      intro g
      rw [show (∑ u, g u) = ∑ u : Fin (2 * K + 1 + 1), g ⟨u.val, by omega⟩ from rfl, Fin.sum_univ_castSucc, Fin.sum_univ_castSucc, add_assoc]
      rfl
    rw [e, ih]
    rfl

/-- A product with an array spread to the columns of parity `h`: the other operand's rows of that parity. -/
theorem sum_spread {K M : Nat} (hM : M = 2 * K) (h : Fin 2) (c : Fin K → EReal) (x w : Fin M → EReal)
    (hx : ∀ u : Fin M, x u = if u.val % 2 = h.val then c ⟨u.val / 2, by omega⟩ else 0) :
    ∑ u : Fin M, x u * w u = ∑ s : Fin K, c s * w ⟨2 * s.val + h.val, by omega⟩ := by
  rw [sum_pairs hM]
  refine Finset.sum_congr rfl fun s _ => ?_
  rw [hx, hx]
  have e0 : (⟨2 * s.val / 2, by omega⟩ : Fin K) = s := Fin.ext (by simp only; omega)
  have e1 : (⟨(2 * s.val + 1) / 2, by omega⟩ : Fin K) = s := Fin.ext (by simp only; omega)
  match h with
  | 0 => simp [e0]; try (intro hh; omega)
  | 1 => simp [e1]; try (intro hh; omega)

end Cert.Proof.Mx

end
-- ==== Proof.Linear.lean ====
/-
  Hand-written, untrusted. ONE BLOCK OF 512 OUTPUT COLUMNS of the linear layer, for any number `n` of 64-row weight blocks: the kernel stacks the
  `n` decoded blocks, multiplies the spread activation by them, interleaves the two halves of the product's rows and multiplies by the
  row's scale. Elementwise that is the plain product with the decoded weight (`linBlock_apply`).
-/
module

public import proofs.«01_k».proof.Proof.Block
public import proofs.«01_k».proof.Proof.ScaleWords
public import proofs.«01_k».proof.Proof.Expand
public import Idealize.ShloMosaic.Lib.MatmulPlain
public import Idealize.ShloMosaic.Lib.Pipeline.Value

@[expose] public section

noncomputable section

namespace Cert.Proof.Mx

open Idealize.ShloMosaic

variable {n M : Nat}

/-- The product of the spread activation with the stacked blocks. -/
def stackProduct (x : FVec Ideal (M2 112 M) .bf16) (f : Fin n → FVec Ideal (M2 64 256) .bf16)
    (hc : Shape.Concatenates ((List.ofFn fun kb : Fin n => (⟨M2 64 256, f kb⟩ : (s : Shape) × (s.Idx → Ideal .bf16))).map (·.1)) (M2 M 256) 0) :
    FVec Ideal (M2 112 256) .f32 :=
  matmul (DotDims.plain 112 M 256) none x
    (concatenate (M2 M 256) 0 (List.ofFn fun kb : Fin n => (⟨M2 64 256, f kb⟩ : (s : Shape) × (s.Idx → Ideal .bf16))) hc)
    (constant (M2 112 256) .f32 0x00000000#32)

theorem stackProduct_apply (hM : M = 64 * n) (x : FVec Ideal (M2 112 M) .bf16) (f : Fin n → FVec Ideal (M2 64 256) .bf16) (hc) (i : Fin 112) (j : Fin 256) :
    stackProduct x f hc (ix2 i j)
      = ∑ u : Fin M, (x (ix2 i u) : EReal) * f ⟨u.val / 64, by omega⟩ (ix2 (⟨u.val % 64, by omega⟩ : Fin 64) j) := by
  unfold stackProduct
  refine (Ideal.matmul_plain_apply none x _ (constant (M2 112 256) .f32 0x00000000#32) i j).trans ?_
  refine (congrArg (· + _) (Ideal.ofBits_zero_f32 : (constant (M2 112 256) .f32 0x00000000#32 : FVec Ideal (M2 112 256) .f32) (ix2 i j) = (0 : EReal))).trans ?_
  refine (zero_add _).trans ?_
  refine Finset.sum_congr rfl fun u _ => ?_
  refine congrArg (x (ix2 i u) * ·) ?_
  exact concatenate_ofFn_apply 0 f hc rfl 64 rfl _ ⟨u.val / 64, by omega⟩ rfl _ rfl (fun b hb => by fin_cases b <;> simp_all)

/-- The whole block: product, interleaving, scale. -/
def linBlock (x : FVec Ideal (M2 112 M) .bf16) (f : Fin n → FVec Ideal (M2 64 256) .bf16)
    (hc : Shape.Concatenates ((List.ofFn fun kb : Fin n => (⟨M2 64 256, f kb⟩ : (s : Shape) × (s.Idx → Ideal .bf16))).map (·.1)) (M2 M 256) 0)
    (xs : FVec Ideal (M2 56 1) .f32) :
    FVec Ideal (M2 56 512) .f32 :=
  mulf (interleave (stackProduct x f hc)) (broadcastTo (M2 56 512) (shapeCast (M2 56 1) xs (by decide)) (by decide))

theorem linBlock_apply {K : Nat} (hM : M = 64 * n) (hK : K = 32 * n) (x : FVec Ideal (M2 112 M) .bf16)
    (c : Fin 56 → Fin K → EReal) (xs : FVec Ideal (M2 56 1) .f32)
    (w : IVec (M2 K 256) 8) (e : IVec (M2 n 512) 8)
    (ws : Fin n → IVec (M2 32 256) 8) (ss : Fin n → IVec (M3 1 1 256) 32) (hc)
    (hx : ∀ (h : Fin 2) (b : Fin 56) (u : Fin M), x (ix2 (⟨56 * h.val + b.val, by omega⟩ : Fin 112) u)
      = if u.val % 2 = h.val then c b ⟨u.val / 2, by omega⟩ else 0)
    (hw : ∀ (kb : Fin n) (r : Fin 32) (j : Fin 256), ws kb (ix2 r j) = w (ix2 (⟨32 * kb.val + r.val, by omega⟩ : Fin K) j))
    (hs : ∀ (kb : Fin n) (j : Fin 256), ss kb (ix3 0 0 j) = scalePair e kb j)
    (b : Fin 56) (j : Fin 512) :
    linBlock x (fun kb => decBlock (ws kb) (ss kb)) hc xs (ix2 b j)
      = (∑ s : Fin K, c b s * kernelWeight (j.val % 2) (w (ix2 s (⟨j.val / 2, by omega⟩ : Fin 256)))
          (e (ix2 (⟨s.val / 32, by omega⟩ : Fin n) j))) * xs (ix2 b 0) := by
  have h1 : linBlock x (fun kb => decBlock (ws kb) (ss kb)) hc xs (ix2 b j)
      = interleave (stackProduct x (fun kb => decBlock (ws kb) (ss kb)) hc) (ix2 b j) * xs (ix2 b 0) := by
    unfold linBlock
    pointwise
  rw [h1, interleave_apply, stackProduct_apply hM]
  congr 1
  rw [sum_spread (K := K) (by omega) ⟨j.val % 2, by omega⟩ (c b) _ _ (fun u => hx ⟨j.val % 2, by omega⟩ b u)]
  refine Finset.sum_congr rfl fun s _ => ?_
  congr 1
  have e1 : (⟨(2 * s.val + j.val % 2) / 64, by omega⟩ : Fin n) = ⟨s.val / 32, by omega⟩ := Fin.ext (by simp only; omega)
  have e2 : (⟨(2 * s.val + j.val % 2) % 64 / 2, by omega⟩ : Fin 32) = ⟨s.val % 32, by omega⟩ := Fin.ext (by simp only; omega)
  have e3 : (2 * s.val + j.val % 2) % 64 % 2 = j.val % 2 := by omega
  have e4 : (⟨32 * (s.val / 32) + s.val % 32, by omega⟩ : Fin K) = s := Fin.ext (by simp only; omega)
  simp only [decBlock_apply, e1, e2, e3, hw, hs, e4]
  unfold kernelWeight
  congr 2
  unfold scalePair
  rcases (by omega : j.val % 2 = 0 ∨ j.val % 2 = 1) with h0 | h0
  · have e5 : (⟨2 * (j.val / 2), by omega⟩ : Fin 512) = j := Fin.ext (by simp only; omega)
    simp only [h0, e5, Nat.mul_zero, pair_low]
  · have e5 : (⟨2 * (j.val / 2) + 1, by omega⟩ : Fin 512) = j := Fin.ext (by simp only; omega)
    simp only [h0, e5, Nat.mul_one, pair_high]

end Cert.Proof.Mx

end
-- ==== Proof.Scratch.lean ====
/-
  Hand-written, untrusted. THE SCRATCH OF SCALE PAIRS. The linear kernel stores eight chunks of scale words, byte `p` of the words of half `q` at
  plane `p`, lanes `128 q … 128 q + 127`. Read back, the row of weight block `kb` (plane `kb % 4`, row `kb / 4`) holds the pairs of patterns
  of the scale bytes of row `kb` (`scaleRow_apply`).
-/
module

public import proofs.«01_k».proof.Proof.ScaleWords
public import Idealize.ShloMosaic.Lib.WholeRead
public import Idealize.ShloMosaic.Lib.Pipeline.Value

@[expose] public section

noncomputable section

namespace Cert.Proof.Mx

open Idealize.ShloMosaic

variable {N R : Nat}

theorem scratchChunk_inb (R : Nat) (p : Fin 4) (q : Fin 2) : ∀ a, (![p.val, 0, 128 * q.val] : Fin 3 → Nat) a + (M3 1 R 128).size a ≤ (M3 4 R 256).size a := by
  intro a
  match a with
  | 0 => show p.val + 1 ≤ 4; omega
  | 1 => show 0 + R ≤ R; omega
  | 2 => show 128 * q.val + 128 ≤ 256; omega

/-- Where chunk `q` of byte `p` lies in the scratch. -/
def scratchChunk (R : Nat) (p : Fin 4) (q : Fin 2) : Rect (M3 4 R 256) :=
  Rect.unit (s := M3 4 R 256) ![p.val, 0, 128 * q.val] (M3 1 R 128).size (scratchChunk_inb R p q)

/-- The eight stores, last first. -/
def scratchPieces (f : ScaleFacts N R) (e : IVec (M2 N 512) 8) : List (View.Piece (Elt Ideal) (M3 4 R 256) .i32) :=
  ([(3, 1), (2, 1), (1, 1), (0, 1), (3, 0), (2, 0), (1, 0), (0, 0)] : List (Fin 4 × Fin 2)).map fun pq =>
    ⟨scratchChunk R pq.1 pq.2, scaleChunk f pq.1 pq.2 e⟩

/-- What the scratch holds: at plane `p`, row `r`, lane `j` the pair of patterns of bytes `2 j`, `2 j + 1` of row `4 r + p`. -/
def scratchSpec (f : ScaleFacts N R) (e : IVec (M2 N 512) 8) : Vec Ideal (M3 4 R 256) .i32 := fun y =>
  scalePair e (⟨4 * (y 1).val + (y 0).val, by
    have h1 : (y 1).val < R := (y 1).isLt
    have h0 : (y 0).val < 4 := (y 0).isLt
    have := f.four; omega⟩ : Fin N) (y 2)

theorem scratchChunk_emb (p : Fin 4) (q : Fin 2) (r : Fin R) (l : Fin 128) :
    (scratchChunk R p q).idx (ix3 (0 : Fin 1) r l : (M3 1 R 128).Idx) = ix3 p r (⟨128 * q.val + l.val, by omega⟩ : Fin 256) := by
  funext a; apply Fin.ext
  match a with
  | 0 => show p.val + 1 * 0 = p.val; omega
  | 1 => show 0 + 1 * r.val = r.val; omega
  | 2 => show 128 * q.val + 1 * l.val = 128 * q.val + l.val; omega

theorem scratch_covered (f : ScaleFacts N R) (e : IVec (M2 N 512) 8) (p : Fin 4) (r : Fin R) (j : Fin 256) :
    ∃ pc ∈ scratchPieces f e, (ix3 p r j : (M3 4 R 256).Idx) ∈ pc.1.set := by
  have hm : ∀ (p : Fin 4) (q : Fin 2), (p, q) ∈ ([(3, 1), (2, 1), (1, 1), (0, 1), (3, 0), (2, 0), (1, 0), (0, 0)] : List (Fin 4 × Fin 2)) := by decide
  obtain ⟨q, l, rfl⟩ : ∃ (q : Fin 2) (l : Fin 128), j = ⟨128 * q.val + l.val, by omega⟩ :=
    ⟨⟨j.val / 128, by omega⟩, ⟨j.val % 128, by omega⟩, Fin.ext (by show j.val = 128 * (j.val / 128) + j.val % 128; omega)⟩
  refine ⟨_, List.mem_map.mpr ⟨(p, q), hm _ _, rfl⟩, ?_⟩
  exact scratchChunk_emb p q r l ▸ (scratchChunk R p q).idx_mem (ix3 (0 : Fin 1) r l : (M3 1 R 128).Idx)

/-- What the scratch holds at an index. -/
theorem scratch_apply (f : ScaleFacts N R) (e : IVec (M2 N 512) 8) (he : ∀ i, (e i).toNat ≤ 248) (p : Fin 4) (r : Fin R) (j : Fin 256) :
    View.canon (scratchPieces f e) (ix3 p r j) = scratchSpec f e (ix3 p r j) := by
  refine View.canon_apply_of_pieces (scratchSpec f e) _ ?_ _ (scratch_covered f e p r j)
  intro pc hp x
  obtain ⟨pq, -, rfl⟩ := List.mem_map.mp hp
  obtain ⟨r', l, rfl⟩ : ∃ (r' : Fin R) (l : Fin 128), x = (ix3 (0 : Fin 1) r' l : (M3 1 R 128).Idx) := ⟨x 1, x 2, by
    funext a
    match a with
    | 0 => exact Fin.ext (by have h : (x 0).val < 1 := (x 0).isLt; show (x 0).val = 0; omega)
    | 1 => rfl
    | 2 => rfl⟩
  refine (scaleChunk_apply f pq.1 pq.2 e he r' l).trans ?_
  exact (congrArg (scratchSpec f e) (scratchChunk_emb pq.1 pq.2 r' l)).symm

theorem scaleRow_inb (f : ScaleFacts N R) (kb : Fin N) : ∀ a, (![kb.val % 4, kb.val / 4, 0] : Fin 3 → Nat) a + (M3 1 1 256).size a ≤ (M3 4 R 256).size a := by
  have := f.four
  intro a
  match a with
  | 0 => show kb.val % 4 + 1 ≤ 4; omega
  | 1 => show kb.val / 4 + 1 ≤ R; omega
  | 2 => show 0 + 256 ≤ 256; omega

/-- A load of the row of block `kb`. -/
theorem scaleRow_apply {sig : RefSig} {κ : Kind} {sp : Space} (v : View sig κ sp (M3 4 R 256) .i32) (f : ScaleFacts N R) (e : IVec (M2 N 512) 8)
    (he : ∀ i, (e i).toNat ≤ 248) (kb : Fin N) (j : Fin 256) :
    v.readCov (scratchPieces f e) (Rect.unit (s := M3 4 R 256) ![kb.val % 4, kb.val / 4, 0] (M3 1 1 256).size (scaleRow_inb f kb)).toLoadRect (ix3 0 0 j)
      = scalePair e kb j := by
  have := f.four
  rw [View.readCov_eq_canon']
  have hi : (Rect.unit (s := M3 4 R 256) ![kb.val % 4, kb.val / 4, 0] (M3 1 1 256).size (scaleRow_inb f kb)).toLoadRect.idx (ix3 (0 : Fin 1) (0 : Fin 1) j : (M3 1 1 256).Idx)
      = ix3 (⟨kb.val % 4, by omega⟩ : Fin 4) (⟨kb.val / 4, by omega⟩ : Fin R) j := by
    funext a; apply Fin.ext
    match a with
    | 0 => show kb.val % 4 + 1 * 0 = kb.val % 4; omega
    | 1 => show kb.val / 4 + 1 * 0 = kb.val / 4; omega
    | 2 => show 0 + 1 * j.val = j.val; omega
  refine (congrArg (View.canon (scratchPieces f e)) hi).trans ((scratch_apply f e he _ _ j).trans ?_)
  exact congrArg₂ (scalePair e) (Fin.ext (by show 4 * (kb.val / 4) + kb.val % 4 = kb.val; omega)) rfl

/-- A load of everything reads everything. -/
theorem load_all2 {sig : RefSig} {κ : Kind} {sp : Space} {m k : Nat} {ft : EltTy} (arg : Memref sig κ sp (M2 m k) ft) (harg : arg.IsWhole) (x : Vec Ideal (M2 m k) ft)
    (inb : ∀ a, (![0, 0] : Fin 2 → Nat) a + (M2 m k).size a ≤ (M2 m k).size a) :
    View.readAt (Elt Ideal) arg.view (Rect.unit (s := M2 m k) ![0, 0] (M2 m k).size inb).toLoadRect (harg.unread x) = x := by
  rw [View.readAt_eq_ld, harg.read_unread]
  exact View.ld_unit_zero (funext fun a => by fin_cases a <;> rfl) inb x

theorem weightRows_inb {K : Nat} (hK : K = 32 * N) (kb : Fin N) : ∀ a, (![32 * kb.val, 0] : Fin 2 → Nat) a + (M2 32 256).size a ≤ (M2 K 256).size a := by
  intro a
  match a with
  | 0 => show 32 * kb.val + 32 ≤ K; omega
  | 1 => show 0 + 256 ≤ 256; omega

/-- A load of rows `32 kb … 32 kb + 31` of the weight block. -/
theorem weightRows_apply {sig : RefSig} {κ : Kind} {sp : Space} {K : Nat} (arg : Memref sig κ sp (M2 K 256) .i8) (harg : arg.IsWhole) (x : Vec Ideal (M2 K 256) .i8)
    (hK : K = 32 * N) (kb : Fin N) (r : Fin 32) (j : Fin 256) :
    View.readAt (Elt Ideal) arg.view (Rect.unit (s := M2 K 256) ![32 * kb.val, 0] (M2 32 256).size (weightRows_inb hK kb)).toLoadRect (harg.unread x) (ix2 r j)
      = x (ix2 (⟨32 * kb.val + r.val, by omega⟩ : Fin K) j) := by
  rw [harg.readAt_unread]
  refine congrArg x (funext fun a => Fin.ext ?_)
  match a with
  | 0 => show 32 * kb.val + 1 * r.val = 32 * kb.val + r.val; omega
  | 1 => show 0 + 1 * j.val = j.val; omega

/-- A load of the first lane of the scales. -/
theorem firstLane_apply {sig : RefSig} {κ : Kind} {sp : Space} (arg : Memref sig κ sp (M2 56 128) .f32) (harg : arg.IsWhole) (x : Vec Ideal (M2 56 128) .f32)
    (inb : ∀ a, (![0, 0] : Fin 2 → Nat) a + (M2 56 1).size a ≤ (M2 56 128).size a) (b : Fin 56) :
    View.readAt (Elt Ideal) arg.view (Rect.unit (s := M2 56 128) ![0, 0] (M2 56 1).size inb).toLoadRect (harg.unread x) (ix2 b (0 : Fin 1))
      = x (ix2 b (0 : Fin 128)) := by
  rw [harg.readAt_unread]
  refine congrArg x (funext fun a => Fin.ext ?_)
  match a with
  | 0 => show 0 + 1 * b.val = b.val; omega
  | 1 => rfl

end Cert.Proof.Mx

end
-- ==== Proof.RefLinear.lean ====
/-
  Hand-written, untrusted. THE REFERENCE'S MXFP4 PRODUCT, elementwise, at sizes of which none is fixed: the scale of 32 rows repeated (`refScale`),
  a half product (`refHalf`), the two halves stacked lane by lane and the rows scaled (`refOut`).
-/
module

public import proofs.«01_k».proof.Proof.Block
public import Idealize.ShloMosaic.Lib.MatmulPlain
public import Idealize.ShloMosaic.Lib.Pipeline.Value

@[expose] public section

noncomputable section

namespace Cert.Proof.Mx

open Idealize.ShloMosaic

/-- The reference's shapes: `R` scale rows of 32 weight rows (`K` in all), `H` byte columns, `N = 2H` columns. -/
structure RefShapes (R K H N : Nat) : Prop where
  rows : K = 32 * R
  cols : N = 2 * H
  split : (M2 R N).ShapeCasts (M3 R H 2)
  slice : ∀ h : Fin 2, (M3 R H 2).Slices ![0, 0, h.val] (M3 R H 1)
  drop : (M3 R H 1).ShapeCasts (M2 R H)
  mid : (M2 R H).ShapeCasts (M3 R 1 H)
  rep : (M3 R 1 H).Broadcasts (M3 R 32 H)
  flat : (M3 R 32 H).ShapeCasts (M2 K H)
  last : (M2 56 H).ShapeCasts (M3 56 H 1)
  stack : Shape.Concatenates [M3 56 H 1, M3 56 H 1] (M3 56 H 2) 2
  join : (M3 56 H 2).ShapeCasts (M2 56 N)
  lanes : (M2 56 1).Broadcasts (M2 56 N)

variable {R K H N : Nat} (f : RefShapes R K H N)

/-- A vector of nibbles decoded, bit by bit. -/
def decodeVec (n : IVec (M2 K H) 32) : FVec Ideal (M2 K H) .f32 :=
  have c : BitVec 32 → FVec Ideal (M2 K H) .f32 := fun b => broadcast (M2 K H) (Scalar.ofBits .f32 b)
  have bit : BitVec 32 → IVec (M2 K H) 1 := fun k => cmpi .sgt (andi n (broadcast (M2 K H) k)) (broadcast (M2 K H) 0#32)
  have low := select (bit 2#32) (select (bit 1#32) (c 0x3FC00000#32) (c 0x3F800000#32)) (select (bit 1#32) (c 0x3F000000#32) (c 0x00000000#32))
  have high := select (bit 2#32) (select (bit 1#32) (c 0x40C00000#32) (c 0x40800000#32)) (select (bit 1#32) (c 0x40400000#32) (c 0x40000000#32))
  have mag := select (bit 4#32) high low
  select (bit 8#32) (subf (c 0x00000000#32) mag) mag

theorem decodeVec_apply (n : IVec (M2 K H) 32) (y : (M2 K H).Idx) : (decodeVec n y : EReal) = decoded (n y) := rfl

/-- The scales of one parity of columns, each repeated over its 32 rows. -/
def refScaleWide (e : IVec (M2 R N) 8) (h : Fin 2) : FVec Ideal (M2 K H) .f32 :=
  shapeCast (M2 K H) (broadcastTo (M3 R 32 H) (shapeCast (M3 R 1 H) (exp2 (sitofp (F := Ideal) .f32
    (subi (shapeCast (M2 R H) (extractStridedSlice (M3 R H 1) ![0, 0, h.val] (shapeCast (M3 R H 2) (extui 32 e (by decide)) f.split) (f.slice h)) f.drop)
      (broadcast (M2 R H) 127#32)))) f.mid) f.rep) f.flat

/-- The same, narrowed. -/
def refScale (e : IVec (M2 R N) 8) (h : Fin 2) : FVec Ideal (M2 K H) .bf16 := truncf .bf16 (refScaleWide f e h) (by decide)

theorem refScale_apply (e : IVec (M2 R N) 8) (h : Fin 2) (s : Fin K) (j : Fin H) :
    (refScale f e h (ix2 s j) : EReal)
      = (FloatOps.exp2 (FloatOps.sitofp .f32 ((e (ix2 (⟨s.val / 32, by have := f.rows; omega⟩ : Fin R)
          (⟨2 * j.val + h.val, by have := f.cols; omega⟩ : Fin N))).setWidth 32 - 127#32) : Ideal .f32) : Ideal .f32) := by
  have hR : s.val / 32 < R := by have := f.rows; omega
  have hN : 2 * j.val + h.val < N := by have := f.cols; omega
  show (refScaleWide f e h (ix2 s j) : EReal) = _
  unfold refScaleWide
  refine (shapeCast_apply _ f.flat (ix2 s j) (ix3 (⟨s.val / 32, hR⟩ : Fin R) (⟨s.val % 32, by omega⟩ : Fin 32) j) ?_).trans ?_
  · rw [rowMajor_val3 _ (32 * H) H rfl rfl, rowMajor_val2 _ H rfl]
    show s.val / 32 * (32 * H) + s.val % 32 * H + j.val = s.val * H + j.val
    conv_rhs => rw [← Nat.div_add_mod s.val 32]
    ring
  refine (broadcastTo_apply _ f.rep _ (ix3 (⟨s.val / 32, hR⟩ : Fin R) (0 : Fin 1) j) ?_).trans ?_
  · intro a
    match a with
    | ⟨0, _⟩ =>
      show s.val / 32 = if R = 1 then 0 else s.val / 32
      split_ifs with h1 <;> omega
    | ⟨1, _⟩ => rfl
    | ⟨2, _⟩ =>
      show j.val = if H = 1 then 0 else j.val
      have := j.isLt
      split_ifs with h1 <;> omega
  refine (shapeCast_apply _ f.mid _ (ix2 (⟨s.val / 32, hR⟩ : Fin R) j) ?_).trans ?_
  · rw [rowMajor_val3 _ (1 * H) H rfl rfl, rowMajor_val2 _ H rfl]
    show s.val / 32 * H + j.val = s.val / 32 * (1 * H) + 0 * H + j.val
    ring
  refine congrArg (fun w : BitVec 32 => (FloatOps.exp2 (FloatOps.sitofp .f32 (w - 127#32) : Ideal .f32) : Ideal .f32)) ?_
  refine (shapeCast_apply _ f.drop _ (ix3 (⟨s.val / 32, hR⟩ : Fin R) j (0 : Fin 1)) ?_).trans ?_
  · rw [rowMajor_val3 _ (H * 1) 1 rfl rfl, rowMajor_val2 _ H rfl]
    show s.val / 32 * (H * 1) + j.val * 1 + 0 = s.val / 32 * H + j.val
    ring
  refine (extractStridedSlice_apply _ _ (f.slice h) _ (ix3 (⟨s.val / 32, hR⟩ : Fin R) j h) ?_).trans ?_
  · intro a
    match a with
    | ⟨0, _⟩ => exact (Nat.zero_add _).symm
    | ⟨1, _⟩ => exact (Nat.zero_add _).symm
    | ⟨2, _⟩ => rfl
  refine (shapeCast_apply _ f.split _ (ix2 (⟨s.val / 32, hR⟩ : Fin R) (⟨2 * j.val + h.val, hN⟩ : Fin N)) ?_).trans rfl
  rw [rowMajor_val3 _ (H * 2) 2 rfl rfl, rowMajor_val2 _ N rfl]
  show s.val / 32 * N + (2 * j.val + h.val) = s.val / 32 * (H * 2) + j.val * 2 + h.val
  rw [f.cols]
  ring

/-- A parity of the product: the codes times the decoded, scaled nibbles. -/
def refHalf (x : FVec Ideal (M2 56 K) .bf16) (n : IVec (M2 K H) 32) (e : IVec (M2 R N) 8) (h : Fin 2) : FVec Ideal (M2 56 H) .f32 :=
  matmul (DotDims.plain 56 K H) none x (mulf (truncf .bf16 (decodeVec n) (by decide)) (refScale f e h)) (constant (M2 56 H) .f32 0x00000000#32)

theorem refHalf_apply (x : FVec Ideal (M2 56 K) .bf16) (n : IVec (M2 K H) 32) (e : IVec (M2 R N) 8) (h : Fin 2) (b : Fin 56) (j : Fin H) :
    (refHalf f x n e h (ix2 b j) : EReal) = ∑ s : Fin K, (x (ix2 b s) : EReal) * (decoded (n (ix2 s j)) *
      (FloatOps.exp2 (FloatOps.sitofp .f32 ((e (ix2 (⟨s.val / 32, by have := f.rows; omega⟩ : Fin R)
          (⟨2 * j.val + h.val, by have := f.cols; omega⟩ : Fin N))).setWidth 32 - 127#32) : Ideal .f32) : Ideal .f32)) := by
  unfold refHalf
  refine (Ideal.matmul_plain_apply none x _ (constant (M2 56 H) .f32 0x00000000#32) b j).trans ?_
  refine (congrArg (· + _) (Ideal.ofBits_zero_f32 : (constant (M2 56 H) .f32 0x00000000#32 : FVec Ideal (M2 56 H) .f32) (ix2 b j) = (0 : EReal))).trans ?_
  refine (zero_add _).trans ?_
  refine Finset.sum_congr rfl fun s _ => ?_
  exact congrArg₂ (fun p q : EReal => p * q) rfl (congrArg₂ (fun p q : EReal => p * q) rfl (refScale_apply f e h s j))

/-- The product: the low nibbles give the even columns, the high nibbles the odd ones; the rows scaled. -/
def refOut (x : FVec Ideal (M2 56 K) .bf16) (xs : FVec Ideal (M2 56 1) .f32) (w : IVec (M2 K H) 8) (e : IVec (M2 R N) 8) : FVec Ideal (M2 56 N) .f32 :=
  mulf (shapeCast (M2 56 N) (concatenate (M3 56 H 2) 2
    [⟨M3 56 H 1, shapeCast (M3 56 H 1) (refHalf f x (andi (extui 32 w (by decide)) (broadcast (M2 K H) 15#32)) e 0) f.last⟩,
     ⟨M3 56 H 1, shapeCast (M3 56 H 1) (refHalf f x (shrsi (extui 32 w (by decide)) (broadcast (M2 K H) 4#32)) e 1) f.last⟩] f.stack) f.join)
    (broadcastTo (M2 56 N) xs f.lanes)

theorem nibble_low (w : BitVec 8) : IntOp.andi (w.setWidth 32) 15#32 = nibble 0 w := rfl
theorem nibble_high : ∀ w : BitVec 8, IntOp.shrsi ArithUnit.vector (w.setWidth 32) 4#32 = nibble 1 w := by decide +kernel

theorem refOut_apply (x : FVec Ideal (M2 56 K) .bf16) (xs : FVec Ideal (M2 56 1) .f32) (w : IVec (M2 K H) 8) (e : IVec (M2 R N) 8)
    (b : Fin 56) (n : Fin N) :
    (refOut f x xs w e (ix2 b n) : EReal) = (∑ s : Fin K, (x (ix2 b s) : EReal) *
      (decoded (nibble (n.val % 2) (w (ix2 s (⟨n.val / 2, by have := f.cols; omega⟩ : Fin H)))) *
        (FloatOps.exp2 (FloatOps.sitofp .f32 ((e (ix2 (⟨s.val / 32, by have := f.rows; omega⟩ : Fin R) n)).setWidth 32 - 127#32) : Ideal .f32) : Ideal .f32)))
      * (xs (ix2 b (0 : Fin 1)) : EReal) := by
  have hH : n.val / 2 < H := by have := f.cols; omega
  unfold refOut
  refine congrArg₂ (fun p q : EReal => p * q) ?_ ?_
  · refine (shapeCast_apply _ f.join (ix2 b n) (ix3 b (⟨n.val / 2, hH⟩ : Fin H) (⟨n.val % 2, by omega⟩ : Fin 2)) ?_).trans ?_
    · rw [rowMajor_val3 _ (H * 2) 2 rfl rfl, rowMajor_val2 _ N rfl]
      show b.val * (H * 2) + n.val / 2 * 2 + n.val % 2 = b.val * N + n.val
      have e1 : b.val * N = b.val * (H * 2) := congrArg (b.val * ·) (by have := f.cols; omega)
      omega
    have hl : ∀ z : FVec Ideal (M2 56 H) .f32, shapeCast (M3 56 H 1) z f.last (ix3 b (⟨n.val / 2, hH⟩ : Fin H) (0 : Fin 1)) = z (ix2 b (⟨n.val / 2, hH⟩ : Fin H)) := by
      intro z
      refine shapeCast_apply _ f.last _ _ ?_
      rw [rowMajor_val3 _ (H * 1) 1 rfl rfl, rowMajor_val2 _ H rfl]
      show b.val * H + n.val / 2 = b.val * (H * 1) + n.val / 2 * 1 + 0
      ring
    rcases (by omega : n.val % 2 = 0 ∨ n.val % 2 = 1) with h0 | h0
    · refine (concatenate_pair_apply_left 2 _ _ f.stack _ rfl (ix3 b (⟨n.val / 2, hH⟩ : Fin H) (0 : Fin 1)) ?_).trans ?_
      · intro a
        match a with
        | ⟨0, _⟩ => rfl
        | ⟨1, _⟩ => rfl
        | ⟨2, _⟩ => exact h0.symm
      refine (hl _).trans ((refHalf_apply f x _ e 0 b _).trans (Finset.sum_congr rfl fun s _ => ?_))
      have e1 : (⟨2 * (n.val / 2) + (0 : Fin 2).val, by have := f.cols; omega⟩ : Fin N) = n := Fin.ext (by show 2 * (n.val / 2) + 0 = n.val; omega)
      rw [h0, e1]
      rfl
    · refine (concatenate_pair_apply_right 2 _ _ f.stack _ rfl rfl (ix3 b (⟨n.val / 2, hH⟩ : Fin H) (0 : Fin 1)) ?_ ?_).trans ?_
      · intro a ha
        match a with
        | ⟨0, _⟩ => rfl
        | ⟨1, _⟩ => rfl
        | ⟨2, _⟩ => exact absurd rfl ha
      · exact h0.symm
      refine (hl _).trans ((refHalf_apply f x _ e 1 b _).trans (Finset.sum_congr rfl fun s _ => ?_))
      have e1 : (⟨2 * (n.val / 2) + (1 : Fin 2).val, by have := f.cols; omega⟩ : Fin N) = n := Fin.ext (by show 2 * (n.val / 2) + 1 = n.val; omega)
      rw [h0, e1, ← nibble_high]
      rfl
  · refine broadcastTo_apply _ f.lanes _ (ix2 b (0 : Fin 1)) ?_
    intro a
    match a with
    | ⟨0, _⟩ => rfl
    | ⟨1, _⟩ => rfl

end Cert.Proof.Mx

end
-- ==== Proof.Layer.lean ====
/-
  Hand-written, untrusted. THE LINEAR LAYER'S RESULT, entry by entry (`layerOut`): the product of the codes with the weights as the kernel decodes
  them, each row times its scale. What the kernel's body computes of one block of 512 columns is that block of it (`bodyBlock_apply`,
  `layerOut_block`), and the reference's layer is it too when every scale byte is at most 248 (`refOut_eq`).
-/
module

public import proofs.«01_k».proof.Proof.Linear
public import proofs.«01_k».proof.Proof.Scratch
public import proofs.«01_k».proof.Proof.RefLinear

@[expose] public section

noncomputable section

namespace Cert.Proof.Mx

open Idealize.ShloMosaic

/-- The sizes: `n` blocks of 32 weight rows; two weight columns to a byte. -/
structure LayerSizes (n K H N : Nat) : Prop where
  rows : K = 32 * n
  cols : N = 2 * H

variable {n R K M H N : Nat}

/-- The layer's result. -/
def layerOut (f : LayerSizes n K H N) (codes : FVec Ideal (M2 56 K) .fp8e4m3) (xs : FVec Ideal (M2 56 128) .f32) (w : IVec (M2 K H) 8) (e : IVec (M2 n N) 8) :
    FVec Ideal (M2 56 N) .f32 := fun y =>
  ((∑ s : Fin K, (codes (ix2 (y 0) s) : EReal) * kernelWeight ((y 1).val % 2)
      (w (ix2 s (⟨(y 1).val / 2, by have h : (y 1).val < N := (y 1).isLt; have := f.cols; omega⟩ : Fin H)))
      (e (ix2 (⟨s.val / 32, by have := f.rows; omega⟩ : Fin n) (y 1)))) * (xs (ix2 (y 0) (0 : Fin 128)) : EReal) : EReal)

theorem layerOut_apply (f : LayerSizes n K H N) (codes : FVec Ideal (M2 56 K) .fp8e4m3) (xs : FVec Ideal (M2 56 128) .f32) (w : IVec (M2 K H) 8) (e : IVec (M2 n N) 8)
    (b : Fin 56) (c : Fin N) :
    (layerOut f codes xs w e (ix2 b c) : EReal) = (∑ s : Fin K, (codes (ix2 b s) : EReal) * kernelWeight (c.val % 2)
      (w (ix2 s (⟨c.val / 2, by have := f.cols; omega⟩ : Fin H)))
      (e (ix2 (⟨s.val / 32, by have := f.rows; omega⟩ : Fin n) c))) * (xs (ix2 b (0 : Fin 128)) : EReal) := rfl

/-- The reference's layer is it. -/
theorem refOut_eq (f : LayerSizes n K H N) (g : RefShapes n K H N) (codes : FVec Ideal (M2 56 K) .fp8e4m3) (xs : FVec Ideal (M2 56 128) .f32)
    (x : FVec Ideal (M2 56 K) .bf16) (xs' : FVec Ideal (M2 56 1) .f32) (w : IVec (M2 K H) 8) (e : IVec (M2 n N) 8)
    (hx : ∀ (b : Fin 56) (s : Fin K), (x (ix2 b s) : EReal) = codes (ix2 b s))
    (hs : ∀ b : Fin 56, (xs' (ix2 b (0 : Fin 1)) : EReal) = xs (ix2 b (0 : Fin 128)))
    (he : ∀ i, (e i : BitVec 8).toNat ≤ 248) : refOut g x xs' w e = layerOut f codes xs w e := by
  funext y
  obtain ⟨b, c, rfl⟩ : ∃ (b : Fin 56) (c : Fin N), y = ix2 b c := ⟨y 0, y 1, by funext a; match a with | 0 => rfl | 1 => rfl⟩
  refine (refOut_apply g x xs' w e b c).trans (Eq.trans ?_ (layerOut_apply f codes xs w e b c).symm)
  refine congrArg₂ (fun p q : EReal => p * q) (Finset.sum_congr rfl fun s _ => ?_) (hs b)
  exact congrArg₂ (fun p q : EReal => p * q) (hx b s) (kernelWeight_eq_decoded ⟨c.val % 2, by omega⟩ _ _ (he _)).symm

/-- The shapes of the linear kernel's body over `n` weight blocks. -/
structure BodyShapes (n R K M : Nat) : Prop where
  scales : ScaleFacts n R
  rows : K = 32 * n
  spread : M = 64 * n
  stack : Shape.Concatenates (List.ofFn fun _ : Fin n => M2 64 256) (M2 M 256) 0
  whole : (M2 112 M).ShapeCasts (M2 112 M)

theorem BodyShapes.stacked (f : BodyShapes n R K M) (d : Fin n → FVec Ideal (M2 64 256) .bf16) :
    Shape.Concatenates ((List.ofFn fun kb : Fin n => (⟨M2 64 256, d kb⟩ : (s : Shape) × (s.Idx → Ideal .bf16))).map (·.1)) (M2 M 256) 0 := by
  rw [List.map_ofFn]
  exact f.stack

theorem all_inb2 (m k : Nat) : ∀ a, (![0, 0] : Fin 2 → Nat) a + (M2 m k).size a ≤ (M2 m k).size a := by
  intro a
  match a with
  | 0 => show 0 + m ≤ m; omega
  | 1 => show 0 + k ≤ k; omega

theorem firstLane_inb : ∀ a, (![0, 0] : Fin 2 → Nat) a + (M2 56 1).size a ≤ (M2 56 128).size a := by
  intro a
  match a with
  | 0 => show 0 + 56 ≤ 56; omega
  | 1 => show 0 + 1 ≤ 128; omega

variable {sig : RefSig} (arg1 : Memref sig .tc .vmem (M2 112 M) .bf16) (harg1 : arg1.IsWhole) (arg2 : Memref sig .tc .vmem (M2 K 256) .i8) (harg2 : arg2.IsWhole)
  (arg3 : Memref sig .tc .vmem (M2 n 512) .i8) (harg3 : arg3.IsWhole) (arg4 : Memref sig .tc .vmem (M2 56 128) .f32) (harg4 : arg4.IsWhole)
  (arg6 : Memref sig .tc .vmem (M3 4 R 256) .i32)

/-- The bytes of the scales, as loaded. -/
def loadedScales (x2 : Vec Ideal (M2 n 512) .i8) : IVec (M2 n 512) 8 :=
  View.readAt (Elt Ideal) arg3.view (Rect.unit (s := M2 n 512) ![0, 0] (M2 n 512).size (all_inb2 n 512)).toLoadRect (harg3.unread x2)

/-- What the linear kernel's body stores, from its blocks and the stores `L` it has made to the scratch. -/
def bodyBlock (f : BodyShapes n R K M) (x0 : Vec Ideal (M2 112 M) .bf16) (x1 : Vec Ideal (M2 K 256) .i8) (x3 : Vec Ideal (M2 56 128) .f32)
    (L : List (View.Piece (Elt Ideal) (M3 4 R 256) .i32)) : FVec Ideal (M2 56 512) .f32 :=
  linBlock (shapeCast (M2 112 M) (View.readAt (Elt Ideal) arg1.view (Rect.unit (s := M2 112 M) ![0, 0] (M2 112 M).size (all_inb2 112 M)).toLoadRect (harg1.unread x0)) f.whole)
    (fun kb => decBlock
      (View.readAt (Elt Ideal) arg2.view (Rect.unit (s := M2 K 256) ![32 * kb.val, 0] (M2 32 256).size (weightRows_inb f.rows kb)).toLoadRect (harg2.unread x1))
      (arg6.view.readCov L (Rect.unit (s := M3 4 R 256) ![kb.val % 4, kb.val / 4, 0] (M3 1 1 256).size (scaleRow_inb f.scales kb)).toLoadRect))
    (f.stacked _)
    (View.readAt (Elt Ideal) arg4.view (Rect.unit (s := M2 56 128) ![0, 0] (M2 56 1).size firstLane_inb).toLoadRect (harg4.unread x3))

/-- The body's block, entry by entry, when its first operand is the spread codes. -/
theorem bodyBlock_apply (f : BodyShapes n R K M) (x0 : Vec Ideal (M2 112 M) .bf16) (x1 : Vec Ideal (M2 K 256) .i8) (x2 : Vec Ideal (M2 n 512) .i8)
    (x3 : Vec Ideal (M2 56 128) .f32) (he : ∀ i, (x2 i : BitVec 8).toNat ≤ 248) (codes : FVec Ideal (M2 56 K) .fp8e4m3)
    (hx : ∀ (h : Fin 2) (b : Fin 56) (u : Fin M), (x0 (ix2 (⟨56 * h.val + b.val, by omega⟩ : Fin 112) u) : EReal)
      = if u.val % 2 = h.val then (codes (ix2 b (⟨u.val / 2, by have := f.rows; have := f.spread; omega⟩ : Fin K)) : EReal) else 0)
    (b : Fin 56) (j : Fin 512) :
    (bodyBlock arg1 harg1 arg2 harg2 arg4 harg4 arg6 f x0 x1 x3 (scratchPieces f.scales (loadedScales arg3 harg3 x2)) (ix2 b j) : EReal)
      = (∑ s : Fin K, (codes (ix2 b s) : EReal) * kernelWeight (j.val % 2) (x1 (ix2 s (⟨j.val / 2, by omega⟩ : Fin 256)))
          (x2 (ix2 (⟨s.val / 32, by have := f.rows; omega⟩ : Fin n) j))) * (x3 (ix2 b (0 : Fin 128)) : EReal) := by
  have h3 : loadedScales arg3 harg3 x2 = x2 := load_all2 arg3 harg3 x2 _
  have h0 : shapeCast (M2 112 M) (View.readAt (Elt Ideal) arg1.view (Rect.unit (s := M2 112 M) ![0, 0] (M2 112 M).size (all_inb2 112 M)).toLoadRect (harg1.unread x0)) f.whole = x0 :=
    (shapeCast_self (s := M2 112 M) _ _).trans (load_all2 arg1 harg1 x0 _)
  rw [h3]
  refine (linBlock_apply f.spread f.rows _ (fun b s => (codes (ix2 b s) : EReal)) _ x1 x2 _ _ (f.stacked _) (fun h b u => (congrFun h0 _).trans (hx h b u))
    (fun kb r j => weightRows_apply arg2 harg2 x1 f.rows kb r j) (fun kb j => scaleRow_apply arg6.view f.scales x2 he kb j) b j).trans ?_
  exact congrArg₂ (fun p q : EReal => p * q) rfl (firstLane_apply arg4 harg4 x3 _ b)

/-- The block of columns `512 t … 512 t + 511` of the layer's result, from the blocks of the weights and of the scale bytes. -/
theorem layerOut_block (f : LayerSizes n K H N) (codes : FVec Ideal (M2 56 K) .fp8e4m3) (xs : FVec Ideal (M2 56 128) .f32) (w : IVec (M2 K H) 8) (e : IVec (M2 n N) 8)
    (t : Nat) (ht : 512 * t + 512 ≤ N) (x1 : IVec (M2 K 256) 8) (x2 : IVec (M2 n 512) 8)
    (h1 : ∀ (s : Fin K) (q : Fin 256), x1 (ix2 s q) = w (ix2 s (⟨256 * t + q.val, by have := f.cols; omega⟩ : Fin H)))
    (h2 : ∀ (s : Fin n) (q : Fin 512), x2 (ix2 s q) = e (ix2 s (⟨512 * t + q.val, by omega⟩ : Fin N)))
    (b : Fin 56) (q : Fin 512) :
    (∑ s : Fin K, (codes (ix2 b s) : EReal) * kernelWeight (q.val % 2) (x1 (ix2 s (⟨q.val / 2, by omega⟩ : Fin 256)))
        (x2 (ix2 (⟨s.val / 32, by have := f.rows; omega⟩ : Fin n) q))) * (xs (ix2 b (0 : Fin 128)) : EReal)
      = layerOut f codes xs w e (ix2 b (⟨512 * t + q.val, by omega⟩ : Fin N)) := by
  refine Eq.trans ?_ (layerOut_apply f codes xs w e b _).symm
  refine congrArg₂ (fun p q : EReal => p * q) (Finset.sum_congr rfl fun s _ => ?_) rfl
  have em : q.val % 2 = (512 * t + q.val) % 2 := by omega
  refine congrArg₂ (fun p q : EReal => p * q) rfl (congr (congr (congrArg kernelWeight em) ((h1 s _).trans (congrArg w (congrArg (ix2 s) (Fin.ext ?_))))) (h2 _ q))
  show 256 * t + q.val / 2 = (512 * t + q.val) / 2
  omega

end Cert.Proof.Mx

end
-- ==== Proof.OBody.lean ====
/-
  Hand-written, untrusted. THE LINEAR CALL of `o_proj`: its printed body, of 64 blocks of weight rows, is the generic block of Layer.lean (`body_eq`).
-/
module

public import proofs.«01_k».proof.Proof.Layer
public import proofs.«01_k».proof.Proof.Gen.OProjIdeal.Frame
import all proofs.«01_k».proof.Proof.Gen.OProjIdeal.Frame

@[expose] public section

noncomputable section

namespace Cert.Proof.O

open Idealize.ShloMosaic Cert.OProjIdeal Cert.OProjIdeal.Gen Cert.Proof.Mx

theorem scaleFacts : ScaleFacts 64 16 where
  four := rfl
  bitcasts := by decide
  iotas := by decide
  up := by decide
  down := by decide
  lead := by decide
  slices := by decide

theorem shapes : BodyShapes 64 16 2048 4096 where
  scales := scaleFacts
  rows := rfl
  spread := rfl
  stack := by decide +kernel
  whole := by decide

variable (c : Dev nD) (i : grid1.Coords) (arg1 : Memref sig .tc .vmem S112x4096 .bf16) (harg1 : arg1.IsWhole) (arg2 : Memref sig .tc .vmem S2048x256 .i8) (harg2 : arg2.IsWhole)
  (arg3 : Memref sig .tc .vmem S64x512 .i8) (harg3 : arg3.IsWhole) (arg4 : Memref sig .tc .vmem S56x128 .f32) (harg4 : arg4.IsWhole)
  (arg5 : Memref sig .tc .vmem S56x512 .f32) (harg5 : arg5.IsWhole) (arg6 : Memref sig .tc .vmem S4x16x256 .i32) (harg6 : arg6.IsWhole)
  (x0 : Vec Ideal S112x4096 .bf16) (x1 : Vec Ideal S2048x256 .i8) (x2 : Vec Ideal S64x512 .i8) (x3 : Vec Ideal S56x128 .f32)

/-- The eight stores of the scratch. -/
theorem scratch_eq : kernelRun1_A.sl.HS0_8 (F := Ideal) c arg3 harg3 x2 = scratchPieces scaleFacts (loadedScales arg3 harg3 x2) := by
  sl_kernel_rfl

/-- The printed body is the generic block. -/
theorem body_eq : out1_A_4 (F := Ideal) c i arg1 harg1 arg2 harg2 arg3 harg3 arg4 harg4 arg5 harg5 arg6 harg6 x0 x1 x2 x3
    = bodyBlock arg1 harg1 arg2 harg2 arg4 harg4 arg6 shapes x0 x1 x3 (kernelRun1_A.sl.HS0_8 (F := Ideal) c arg3 harg3 x2) := by
  unfold out1_A_4
  rw [View.read_writes_junk_eq_canon]
  dsimp only [kernelRun1_A]
  refine (View.canon_unit_zero (funext fun a => by fin_cases a <;> rfl) _ _).trans ?_
  sl_kernel_rfl

/-- What the body leaves in the output's block, entry by entry. -/
theorem out_apply (he : ∀ i, (x2 i : BitVec 8).toNat ≤ 248) (codes : FVec Ideal (M2 56 2048) .fp8e4m3)
    (hx : ∀ (h : Fin 2) (b : Fin 56) (u : Fin 4096), (x0 (ix2 (⟨56 * h.val + b.val, by omega⟩ : Fin 112) u) : EReal)
      = if u.val % 2 = h.val then (codes (ix2 b (⟨u.val / 2, by omega⟩ : Fin 2048)) : EReal) else 0)
    (b : Fin 56) (j : Fin 512) :
    (out1_A_4 (F := Ideal) c i arg1 harg1 arg2 harg2 arg3 harg3 arg4 harg4 arg5 harg5 arg6 harg6 x0 x1 x2 x3 (ix2 b j) : EReal)
      = (∑ s : Fin 2048, (codes (ix2 b s) : EReal) * kernelWeight (j.val % 2) (x1 (ix2 s (⟨j.val / 2, by omega⟩ : Fin 256)))
          (x2 (ix2 (⟨s.val / 32, by omega⟩ : Fin 64) j))) * (x3 (ix2 b (0 : Fin 128)) : EReal) := by
  rw [body_eq, scratch_eq]
  exact bodyBlock_apply arg1 harg1 arg2 harg2 arg3 harg3 arg4 harg4 arg6 shapes x0 x1 x2 x3 he codes hx b j

end Cert.Proof.O

end
-- ==== Proof.Spread.lean ====
/-
  Hand-written, untrusted. THE SPREAD ACTIVATION. The quantising kernels store, for each of `n` chunks of 128 codes, the chunk spread over 256
  columns, at the even columns in rows 0 … 55 and at the odd ones in rows 56 … 111. Together the stores leave the codes at the even (odd) columns
  of the upper (lower) half and zero elsewhere (`spreadAll_apply`).
-/
module

public import proofs.«01_k».proof.Proof.Expand
public import Idealize.ShloMosaic.Lib.Pipeline.Value

@[expose] public section

noncomputable section

namespace Cert.Proof.Mx

open Idealize.ShloMosaic

/-- The sizes: `n` chunks of 128 codes, 256 columns each. -/
structure SpreadShapes (n K M : Nat) : Prop where
  codes : K = 128 * n
  cols : M = 256 * n

variable {n K M : Nat}

theorem SpreadShapes.inb (f : SpreadShapes n K M) (q : Fin n) (h : Fin 2) : ∀ a, (![56 * h.val, 256 * q.val] : Fin 2 → Nat) a + (M2 56 256).size a ≤ (M2 112 M).size a := by
  have := f.cols
  intro a
  match a with
  | 0 => show 56 * h.val + 56 ≤ 112; omega
  | 1 => show 256 * q.val + 256 ≤ M; omega

theorem SpreadShapes.slices (f : SpreadShapes n K M) (q : Fin n) : (M2 56 K).Slices ![0, 128 * q.val] (M2 56 128) := by
  have := f.codes
  refine ⟨rfl, fun a => ?_⟩
  match a with
  | 0 => show 0 + 56 ≤ 56; omega
  | 1 => show 128 * q.val + 128 ≤ K; omega

/-- The store of chunk `q`, half `h`. -/
def spreadPiece (f : SpreadShapes n K M) (codes : FVec Ideal (M2 56 K) .fp8e4m3) (q : Fin n) (h : Fin 2) : View.Piece (Elt Ideal) (M2 112 M) .bf16 :=
  ⟨Rect.unit (s := M2 112 M) ![56 * h.val, 256 * q.val] (M2 56 256).size (f.inb q h), spreadHalf codes (128 * q.val) (f.slices q) h⟩

/-- The stores, last first. -/
def spreadPieces (f : SpreadShapes n K M) (codes : FVec Ideal (M2 56 K) .fp8e4m3) : List (View.Piece (Elt Ideal) (M2 112 M) .bf16) :=
  List.ofFn fun i : Fin (2 * n) => spreadPiece f codes ⟨n - 1 - i.val / 2, by omega⟩ ⟨1 - i.val % 2, by omega⟩

/-- What they leave. -/
def spreadSpec (f : SpreadShapes n K M) (codes : FVec Ideal (M2 56 K) .fp8e4m3) : Vec Ideal (M2 112 M) .bf16 := fun y =>
  ((if (y 1).val % 2 = (y 0).val / 56 then (codes (ix2 (⟨(y 0).val % 56, by omega⟩ : Fin 56)
    (⟨(y 1).val / 2, by have h : (y 1).val < M := (y 1).isLt; have := f.cols; have := f.codes; omega⟩ : Fin K)) : EReal) else 0) : EReal)

theorem spreadSpec_apply (f : SpreadShapes n K M) (codes : FVec Ideal (M2 56 K) .fp8e4m3) (h : Fin 2) (b : Fin 56) (u : Fin M) :
    (spreadSpec f codes (ix2 (⟨56 * h.val + b.val, by omega⟩ : Fin 112) u) : EReal)
      = if u.val % 2 = h.val then (codes (ix2 b (⟨u.val / 2, by have := f.cols; have := f.codes; omega⟩ : Fin K)) : EReal) else 0 := by
  have e0 : (56 * h.val + b.val) / 56 = h.val := by omega
  have e1 : (⟨(56 * h.val + b.val) % 56, by omega⟩ : Fin 56) = b := Fin.ext (by simp only; omega)
  show (if u.val % 2 = (56 * h.val + b.val) / 56 then (codes (ix2 (⟨(56 * h.val + b.val) % 56, _⟩ : Fin 56) _) : EReal) else 0) = _
  rw [e0, e1]
  rfl

theorem spreadPiece_idx (f : SpreadShapes n K M) (codes : FVec Ideal (M2 56 K) .fp8e4m3) (q : Fin n) (h : Fin 2) (b : Fin 56) (t : Fin 256) :
    (spreadPiece f codes q h).1.idx (ix2 b t : (M2 56 256).Idx)
      = ix2 (⟨56 * h.val + b.val, by omega⟩ : Fin 112) (⟨256 * q.val + t.val, by have := f.cols; omega⟩ : Fin M) := by
  funext a; apply Fin.ext
  match a with
  | 0 => show 56 * h.val + 1 * b.val = 56 * h.val + b.val; omega
  | 1 => show 256 * q.val + 1 * t.val = 256 * q.val + t.val; omega

theorem spreadPiece_apply (f : SpreadShapes n K M) (codes : FVec Ideal (M2 56 K) .fp8e4m3) (q : Fin n) (h : Fin 2) (x : (M2 56 256).Idx) :
    (spreadPiece f codes q h).2 x = spreadSpec f codes ((spreadPiece f codes q h).1.idx x) := by
  obtain ⟨b, t, rfl⟩ : ∃ (b : Fin 56) (t : Fin 256), x = ix2 b t := ⟨x 0, x 1, by funext a; match a with | 0 => rfl | 1 => rfl⟩
  have hc := f.codes
  refine (spreadHalf_apply codes (128 * q.val) (f.slices q) h b t ⟨128 * q.val + t.val / 2, by omega⟩ rfl).trans ?_
  refine Eq.trans ?_ ((congrArg (spreadSpec f codes) (spreadPiece_idx f codes q h b t)).trans (spreadSpec_apply f codes h b _)).symm
  refine if_congr ?_ (congrArg codes (congrArg (ix2 b) (Fin.ext ?_))) rfl
  · show t.val % 2 = h.val ↔ (256 * q.val + t.val) % 2 = h.val
    omega
  · show 128 * q.val + t.val / 2 = (256 * q.val + t.val) / 2
    omega

theorem spread_covered (f : SpreadShapes n K M) (codes : FVec Ideal (M2 56 K) .fp8e4m3) (h : Fin 2) (b : Fin 56) (u : Fin M) :
    ∃ pc ∈ spreadPieces f codes, (ix2 (⟨56 * h.val + b.val, by omega⟩ : Fin 112) u : (M2 112 M).Idx) ∈ pc.1.set := by
  have hM := f.cols
  obtain ⟨q, t, rfl⟩ : ∃ (q : Fin n) (t : Fin 256), u = ⟨256 * q.val + t.val, by omega⟩ :=
    ⟨⟨u.val / 256, by omega⟩, ⟨u.val % 256, by omega⟩, Fin.ext (by show u.val = 256 * (u.val / 256) + u.val % 256; omega)⟩
  refine ⟨spreadPiece f codes q h, List.mem_ofFn.mpr ⟨⟨2 * (n - 1 - q.val) + (1 - h.val), by omega⟩, ?_⟩, ?_⟩
  · refine congrArg₂ (spreadPiece f codes) (Fin.ext ?_) (Fin.ext ?_)
    · show n - 1 - (2 * (n - 1 - q.val) + (1 - h.val)) / 2 = q.val
      omega
    · show 1 - (2 * (n - 1 - q.val) + (1 - h.val)) % 2 = h.val
      omega
  · exact spreadPiece_idx f codes q h b t ▸ (spreadPiece f codes q h).1.idx_mem (ix2 b t : (M2 56 256).Idx)

/-- The stores together, elementwise. -/
theorem spreadAll_apply (f : SpreadShapes n K M) (codes : FVec Ideal (M2 56 K) .fp8e4m3) (h : Fin 2) (b : Fin 56) (u : Fin M) :
    (View.canon (spreadPieces f codes) (ix2 (⟨56 * h.val + b.val, by omega⟩ : Fin 112) u) : EReal)
      = if u.val % 2 = h.val then (codes (ix2 b (⟨u.val / 2, by have := f.cols; have := f.codes; omega⟩ : Fin K)) : EReal) else 0 := by
  refine Eq.trans ?_ (spreadSpec_apply f codes h b u)
  refine View.canon_apply_of_pieces (spreadSpec f codes) _ ?_ _ (spread_covered f codes h b u)
  intro pc hp x
  obtain ⟨i, rfl⟩ := List.mem_ofFn.mp hp
  exact spreadPiece_apply f codes _ _ x

end Cert.Proof.Mx

end
-- ==== Proof.OQuant.lean ====
/-
  Hand-written, untrusted. THE QUANTISING CALL of `o_proj`: the codes and the scales it leaves, as printed, and the spread activation, which is the
  one of Spread.lean.
-/
module

public import proofs.«01_k».proof.Proof.Spread
public import proofs.«01_k».proof.Proof.Gen.OProjIdeal.Frame
import all proofs.«01_k».proof.Proof.Gen.OProjIdeal.Frame

@[expose] public section

noncomputable section

namespace Cert.Proof.O

open Idealize.ShloMosaic Cert.OProjIdeal Cert.OProjIdeal.Gen Cert.Proof.Mx

theorem spreadShapes : SpreadShapes 16 2048 4096 := ⟨rfl, rfl⟩

/-- The codes of an activation. -/
def codes (x : Vec Ideal S56x2048 .f32) : FVec Ideal (M2 56 2048) .fp8e4m3 := k0_pay2 (F := Ideal) x

/-- Its scales, one per row, repeated over 128 lanes. -/
def scale (x : Vec Ideal S56x2048 .f32) : FVec Ideal (M2 56 128) .f32 := k0_pay3 (F := Ideal) x

variable (x : Vec Ideal S56x2048 .f32)

theorem ld_x : View.ld x r0_0 = x :=
  View.ld_unit_zero (funext fun a => by fin_cases a <;> rfl) _ _

/-- The block of codes the body leaves. -/
theorem codes_block : out0_1 (F := Ideal) x = codes x := by
  unfold out0_1
  rw [ld_x]
  exact View.canon_unit_zero (funext fun a => by fin_cases a <;> rfl) _ _

/-- The block of scales the body leaves. -/
theorem scale_block : out0_2 (F := Ideal) x = scale x := by
  unfold out0_2
  rw [ld_x]
  exact View.canon_unit_zero (funext fun a => by fin_cases a <;> rfl) _ _

/-- The spread activation the body leaves. -/
theorem spread_block : out0_4 (F := Ideal) x = View.canon (spreadPieces spreadShapes (codes x)) := by
  have h : out0_4 (F := Ideal) x = View.canon (spreadPieces spreadShapes (codes (View.ld x r0_0))) := by sl_kernel_rfl
  rw [h, ld_x]

end Cert.Proof.O

end
-- ==== Proof.OArrays.lean ====
/-
  Hand-written, untrusted. THE ARRAYS the two calls of `o_proj` leave: the quantising call's one point writes its whole blocks (`codes_array`,
  `scale_array`, `spread_array`); the linear call's 16 points write 512 columns each of the layer's result (`out_array`).
-/
module

public import proofs.«01_k».proof.Proof.OBody
public import proofs.«01_k».proof.Proof.OQuant
import all proofs.«01_k».proof.Proof.Gen.OProjIdeal.Frame

@[expose] public section

noncomputable section

namespace Cert.Proof.O

open Idealize.ShloMosaic Idealize.ShloMosaic.TcCoe Idealize.SL.Sem Cert.OProjIdeal Cert.OProjIdeal.Gen Cert.Proof.Mx

theorem sizes : LayerSizes 64 2048 4096 8192 := ⟨rfl, rfl⟩

/-- The layer's result from its activation, weights and scale bytes. -/
abbrev layer (x : Vec Ideal S56x2048 .f32) (w : Vec Ideal S2048x4096 .i8) (e : Vec Ideal S64x8192 .i8) : Vec Ideal S56x8192 .f32 :=
  layerOut sizes (codes x) (scale x) w e

variable (V : (c : Dev nD) → (b : Ref sig .tc) → Buf (Elt Ideal) ((c : Thread nD τ).loc b)) (c : Dev nD)

/-! ## The quantising call: one point, whole blocks -/

theorem idx0_0 : ∀ t : Fin cfg0.N, win0_0.index t (0 : Fin 2) = 0 ∧ win0_0.index t (1 : Fin 2) = 0 :=
  (by decide +kernel : ∀ t : Fin grid0.N, _)
theorem emb0_0 (t : Fin cfg0.N) (j : S56x2048.Idx) : ((cfg0.win 0).blk t).view.emb j = j := by
  obtain ⟨e0, e1⟩ := idx0_0 t
  funext a; apply Fin.ext
  match a with
  | ⟨0, _⟩ => show win0_0.index t (0 : Fin 2) * 56 + 1 * (j 0).val = (j 0).val; omega
  | ⟨1, _⟩ => show win0_0.index t (1 : Fin 2) * 2048 + 1 * (j 1).val = (j 1).val; omega

theorem idx0_1 : ∀ t : Fin cfg0.N, win0_1.index t (0 : Fin 2) = 0 ∧ win0_1.index t (1 : Fin 2) = 0 :=
  (by decide +kernel : ∀ t : Fin grid0.N, _)
theorem emb0_1 (t : Fin cfg0.N) (j : S56x2048.Idx) : ((cfg0.win 1).blk t).view.emb j = j := by
  obtain ⟨e0, e1⟩ := idx0_1 t
  funext a; apply Fin.ext
  match a with
  | ⟨0, _⟩ => show win0_1.index t (0 : Fin 2) * 56 + 1 * (j 0).val = (j 0).val; omega
  | ⟨1, _⟩ => show win0_1.index t (1 : Fin 2) * 2048 + 1 * (j 1).val = (j 1).val; omega

theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (j : S56x128.Idx) : ((cfg0.win 2).blk t).view.emb j = j := by
  obtain ⟨e0, e1⟩ := idx0_2 t
  funext a; apply Fin.ext
  match a with
  | ⟨0, _⟩ => show win0_2.index t (0 : Fin 2) * 56 + 1 * (j 0).val = (j 0).val; omega
  | ⟨1, _⟩ => show win0_2.index t (1 : Fin 2) * 128 + 1 * (j 1).val = (j 1).val; omega

theorem idx0_4 : ∀ t : Fin cfg0.N, win0_4.index t (0 : Fin 2) = 0 ∧ win0_4.index t (1 : Fin 2) = 0 :=
  (by decide +kernel : ∀ t : Fin grid0.N, _)
theorem emb0_4 (t : Fin cfg0.N) (j : S112x4096.Idx) : ((cfg0.win 4).blk t).view.emb j = j := by
  obtain ⟨e0, e1⟩ := idx0_4 t
  funext a; apply Fin.ext
  match a with
  | ⟨0, _⟩ => show win0_4.index t (0 : Fin 2) * 112 + 1 * (j 0).val = (j 0).val; omega
  | ⟨1, _⟩ => show win0_4.index t (1 : Fin 2) * 4096 + 1 * (j 1).val = (j 1).val; omega

theorem cut0_1 (t : Fin cfg0.N) (X : Vec Ideal S56x2048 .fp8e4m3) :
    (cfg0.win 1).cut (grid0.coords t) X = ((cfg0.win 1).blk t).view.read (Elt Ideal) X := by
  funext j
  show X j = X (((cfg0.win 1).blk t).view.emb j)
  rw [emb0_1]

theorem covered0_1 (i : S56x2048.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb0_1] at h⟩

theorem cut0_2 (t : Fin cfg0.N) (X : Vec Ideal S56x128 .f32) :
    (cfg0.win 2).cut (grid0.coords t) X = ((cfg0.win 2).blk t).view.read (Elt Ideal) X := by
  funext j
  show X j = X (((cfg0.win 2).blk t).view.emb j)
  rw [emb0_2]

theorem covered0_2 (i : S56x128.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb0_2] at h⟩

theorem cut0_4 (t : Fin cfg0.N) (X : Vec Ideal S112x4096 .bf16) :
    (cfg0.win 4).cut (grid0.coords t) X = ((cfg0.win 4).blk t).view.read (Elt Ideal) X := by
  funext j
  show X j = X (((cfg0.win 4).blk t).view.emb j)
  rw [emb0_4]

theorem covered0_4 (i : S112x4096.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb0_4] at h⟩

theorem iblk0_0 (t : Fin cfg0.N) : iblk0 V c 0 t = V c main_arg0 := by
  funext j; show V c main_arg0 (((cfg0.win 0).blk t).view.emb j) = V c main_arg0 j; rw [emb0_0]

theorem codes_array : (dat0 V c).arrAt 1 cfg0.N = codes (V c main_arg0) :=
  (dat0 V c).arrAt_eq_of_cover 1 (codes (V c main_arg0))
    (fun t _ => by
      show (cfg0.win 1).cut (grid0.coords t) ((dat0 V c).after 1 t) = _
      rw [after0_1, iblk0_0, codes_block]
      exact cut0_1 t _)
    covered0_1

theorem scale_array : (dat0 V c).arrAt 2 cfg0.N = scale (V c main_arg0) :=
  (dat0 V c).arrAt_eq_of_cover 2 (scale (V c main_arg0))
    (fun t _ => by
      show (cfg0.win 2).cut (grid0.coords t) ((dat0 V c).after 2 t) = _
      rw [after0_2, iblk0_0, scale_block]
      exact cut0_2 t _)
    covered0_2

theorem spread_array : (dat0 V c).arrAt 4 cfg0.N = View.canon (spreadPieces spreadShapes (codes (V c main_arg0))) :=
  (dat0 V c).arrAt_eq_of_cover 4 (View.canon (spreadPieces spreadShapes (codes (V c main_arg0))))
    (fun t _ => by
      show (cfg0.win 4).cut (grid0.coords t) ((dat0 V c).after 4 t) = _
      rw [after0_4, iblk0_0, spread_block]
      exact cut0_4 t _)
    covered0_4

/-! ## The linear call: point `t` reads columns 256 t … of the weights and 512 t … of the scale bytes and writes columns 512 t … 512 t + 511 -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)

theorem lt_points (t : Fin cfg1.N) : t.val < 16 := by
  have h : ∀ t : Fin grid1.N, t.val < 16 := by decide +kernel
  exact h t

theorem emb1_0 (t : Fin cfg1.N) (j : S112x4096.Idx) : ((cfg1.win 0).blk t).view.emb j = j := by
  obtain ⟨e0, e1⟩ := idx1_0 t
  funext a; apply Fin.ext
  match a with
  | ⟨0, _⟩ => show win1_0.index t (0 : Fin 2) * 112 + 1 * (j 0).val = (j 0).val; omega
  | ⟨1, _⟩ => show win1_0.index t (1 : Fin 2) * 4096 + 1 * (j 1).val = (j 1).val; omega
theorem emb1_3 (t : Fin cfg1.N) (j : S56x128.Idx) : ((cfg1.win 3).blk t).view.emb j = j := by
  obtain ⟨e0, e1⟩ := idx1_3 t
  funext a; apply Fin.ext
  match a with
  | ⟨0, _⟩ => show win1_3.index t (0 : Fin 2) * 56 + 1 * (j 0).val = (j 0).val; omega
  | ⟨1, _⟩ => show win1_3.index t (1 : Fin 2) * 128 + 1 * (j 1).val = (j 1).val; omega
theorem emb1_1 (t : Fin cfg1.N) (s : Fin 2048) (q : Fin 256) :
    ((cfg1.win 1).blk t).view.emb (ix2 s q) = ix2 s (⟨256 * t.val + q.val, by have := lt_points t; omega⟩ : Fin 4096) := by
  obtain ⟨e0, e1⟩ := idx1_1 t
  funext a; apply Fin.ext
  match a with
  | ⟨0, _⟩ => show win1_1.index t (0 : Fin 2) * 2048 + 1 * s.val = s.val; omega
  | ⟨1, _⟩ => show win1_1.index t (1 : Fin 2) * 256 + 1 * q.val = 256 * t.val + q.val; omega
theorem emb1_2 (t : Fin cfg1.N) (s : Fin 64) (q : Fin 512) :
    ((cfg1.win 2).blk t).view.emb (ix2 s q) = ix2 s (⟨512 * t.val + q.val, by have := lt_points t; omega⟩ : Fin 8192) := by
  obtain ⟨e0, e1⟩ := idx1_2 t
  funext a; apply Fin.ext
  match a with
  | ⟨0, _⟩ => show win1_2.index t (0 : Fin 2) * 64 + 1 * s.val = s.val; omega
  | ⟨1, _⟩ => show win1_2.index t (1 : Fin 2) * 512 + 1 * q.val = 512 * t.val + q.val; omega
theorem emb1_4 (t : Fin cfg1.N) (s : Fin 56) (q : Fin 512) :
    ((cfg1.win 4).blk t).view.emb (ix2 s q) = ix2 s (⟨512 * t.val + q.val, by have := lt_points t; omega⟩ : Fin 8192) := by
  obtain ⟨e0, e1⟩ := idx1_4 t
  funext a; apply Fin.ext
  match a with
  | ⟨0, _⟩ => show win1_4.index t (0 : Fin 2) * 56 + 1 * s.val = s.val; omega
  | ⟨1, _⟩ => show win1_4.index t (1 : Fin 2) * 512 + 1 * q.val = 512 * t.val + q.val; omega

theorem covered1_4 (i : S56x8192.Idx) : ∃ t : Fin cfg1.N, (cfg1.win 4).flush t = true ∧ i ∈ ((cfg1.win 4).blk t).view.set := by
  obtain ⟨b, n, rfl⟩ : ∃ (b : Fin 56) (n : Fin 8192), i = ix2 b n := ⟨i 0, i 1, by funext a; fin_cases a <;> rfl⟩
  obtain ⟨t, ht⟩ : ∃ t : Fin cfg1.N, t.val = n.val / 512 := ⟨⟨n.val / 512, by show n.val / 512 < 16; omega⟩, rfl⟩
  have h : (ix2 b (⟨512 * t.val + n.val % 512, by have := lt_points t; omega⟩ : Fin 8192) : S56x8192.Idx) ∈ ((cfg1.win 4).blk t).view.set :=
    emb1_4 t b (⟨n.val % 512, by omega⟩ : Fin 512) ▸ ((cfg1.win 4).blk t).view.emb_mem_set (ix2 b (⟨n.val % 512, by omega⟩ : Fin 512))
  have e : (⟨512 * t.val + n.val % 512, by have := lt_points t; omega⟩ : Fin 8192) = n := Fin.ext (by show 512 * t.val + n.val % 512 = n.val; omega)
  refine ⟨t, flush1_4 t, ?_⟩
  rw [← e]
  exact h

theorem cut1_4 (t : Fin cfg1.N) (Y : Vec Ideal S56x512 .f32) (X : Vec Ideal S56x8192 .f32)
    (h : ∀ (b : Fin 56) (q : Fin 512), Y (ix2 b q) = X (ix2 b (⟨512 * t.val + q.val, by have := lt_points t; omega⟩ : Fin 8192))) :
    (cfg1.win 4).cut (grid1.coords t) Y = ((cfg1.win 4).blk t).view.read (Elt Ideal) X := by
  funext j
  obtain ⟨b, q, rfl⟩ : ∃ (b : Fin 56) (q : Fin 512), j = ix2 b q := ⟨j 0, j 1, by funext a; fin_cases a <;> rfl⟩
  show Y (ix2 b q) = X (((cfg1.win 4).blk t).view.emb (ix2 b q))
  rw [emb1_4]
  exact h b q

theorem iblk1_0 (t : Fin cfg1.N) : iblk1 V c 0 t = V c main_v0_3 := by
  funext j; show V c main_v0_3 (((cfg1.win 0).blk t).view.emb j) = V c main_v0_3 j; rw [emb1_0]
theorem iblk1_3 (t : Fin cfg1.N) : iblk1 V c 3 t = V c main_v0_1 := by
  funext j; show V c main_v0_1 (((cfg1.win 3).blk t).view.emb j) = V c main_v0_1 j; rw [emb1_3]

theorem iblk1_1 (t : Fin cfg1.N) (s : Fin 2048) (q : Fin 256) :
    (iblk1 V c 1 t : Vec Ideal S2048x256 .i8) (ix2 s q) = V c main_arg1 (ix2 s (⟨256 * t.val + q.val, by have := lt_points t; omega⟩ : Fin 4096)) :=
  congrArg (V c main_arg1) (emb1_1 t s q)
theorem iblk1_2 (t : Fin cfg1.N) (s : Fin 64) (q : Fin 512) :
    (iblk1 V c 2 t : Vec Ideal S64x512 .i8) (ix2 s q) = V c main_arg2 (ix2 s (⟨512 * t.val + q.val, by have := lt_points t; omega⟩ : Fin 8192)) :=
  congrArg (V c main_arg2) (emb1_2 t s q)
theorem scales_small (he : ∀ i, ((V c main_arg2 : Vec Ideal S64x8192 .i8) i : BitVec 8).toNat ≤ 248) (t : Fin cfg1.N) (i : S64x512.Idx) :
    ((iblk1 V c 2 t : Vec Ideal S64x512 .i8) i : BitVec 8).toNat ≤ 248 := he _

/-- The linear call's array, when it finds the spread codes and the scales of an activation in its operands. -/
theorem out_array (x : Vec Ideal S56x2048 .f32) (h3 : V c main_v0_3 = View.canon (spreadPieces spreadShapes (codes x))) (h1 : V c main_v0_1 = scale x)
    (he : ∀ i, ((V c main_arg2 : Vec Ideal S64x8192 .i8) i : BitVec 8).toNat ≤ 248) :
    (dat1 V c).arrAt 4 cfg1.N = layer x (V c main_arg1) (V c main_arg2) :=
  (dat1 V c).arrAt_eq_of_cover 4 (layer x (V c main_arg1) (V c main_arg2))
    (fun t _ => by
      show (cfg1.win 4).cut (grid1.coords t) ((dat1 V c).after 4 t) = _
      rw [after1_4]
      refine cut1_4 t _ _ fun b q => ?_
      have ht := lt_points t
      unfold outsAt1
      rw [iblk1_0, iblk1_3, h3, h1]
      refine (out_apply c _ _ _ _ _ _ _ _ _ _ _ _ _ _ _ _ _ (scales_small V c he t) (codes x) (spreadAll_apply spreadShapes (codes x)) b q).trans ?_
      exact layerOut_block sizes (codes x) (scale x) (V c main_arg1) (V c main_arg2) t.val (by omega) (iblk1 V c 1 t) (iblk1 V c 2 t)
          (iblk1_1 V c t) (iblk1_2 V c t) b q)
    covered1_4

end Cert.Proof.O

end
-- ==== Proof.OTail.lean ====
/-
  Hand-written, untrusted. THE ARRAYS the last two calls of `o_proj` leave: the layer's result plus its LoRA delta (`delta_array`), and the residual plus that
  (`total_array`), each at one point over whole blocks.
-/
module

public import proofs.«01_k».proof.Proof.OArrays
import all proofs.«01_k».proof.Proof.Gen.OProjIdeal.Frame

@[expose] public section

noncomputable section

namespace Cert.Proof.O

open Idealize.ShloMosaic Idealize.ShloMosaic.TcCoe Idealize.SL.Sem Cert.OProjIdeal Cert.OProjIdeal.Gen Cert.Proof.Mx

/-- The layer's result plus its delta. -/
def withDelta (y d : Vec Ideal S56x8192 .f32) : Vec Ideal S56x8192 .f32 := addf (F := Ideal) (φ := .f32) y d

/-- The residual plus that. -/
def residual (x : Vec Ideal S56x8192 .bf16) (y : Vec Ideal S56x8192 .f32) : Vec Ideal S56x8192 .f32 :=
  addf (F := Ideal) (φ := .f32) (extf (F := Ideal) (φ := .bf16) .f32 x (by decide)) y

theorem cast_self (z : Vec Ideal S56x8192 .f32) : shapeCast S56x8192 z shapeCasts_S56x8192_S56x8192 = z := by funext i; pointwise

variable (V : (c : Dev nD) → (b : Ref sig .tc) → Buf (Elt Ideal) ((c : Thread nD τ).loc b)) (c : Dev nD)

theorem ld2 (x : Vec Ideal S56x8192 .f32) : View.ld x r2_0 = x :=
  View.ld_unit_zero (funext fun a => by fin_cases a <;> rfl) _ _

theorem delta_block (y d : Vec Ideal S56x8192 .f32) : out2_2 (F := Ideal) y d = withDelta y d := by
  unfold out2_2
  rw [ld2, ld2]
  refine (View.canon_unit_zero (funext fun a => by fin_cases a <;> rfl) _ _).trans ?_
  unfold k2_pay1 withDelta
  dsimp only
  rw [cast_self]

theorem ld3 (x : Vec Ideal S56x8192 .f32) : View.ld x r3_0 = x :=
  View.ld_unit_zero (funext fun a => by fin_cases a <;> rfl) _ _

theorem ld3_x (x : Vec Ideal S56x8192 .bf16) : View.ld x r3_0 = x :=
  View.ld_unit_zero (funext fun a => by fin_cases a <;> rfl) _ _

theorem residual_block (x : Vec Ideal S56x8192 .bf16) (y : Vec Ideal S56x8192 .f32) : out3_2 (F := Ideal) x y = residual x y := by
  unfold out3_2
  rw [ld3, ld3_x]
  refine (View.canon_unit_zero (funext fun a => by fin_cases a <;> rfl) _ _).trans ?_
  unfold k3_pay1 residual
  dsimp only
  rw [cast_self]

theorem idx2_0 : ∀ t : Fin cfg2.N, win2_0.index t (0 : Fin 2) = 0 ∧ win2_0.index t (1 : Fin 2) = 0 :=
  (by decide +kernel : ∀ t : Fin grid2.N, _)
theorem emb2_0 (t : Fin cfg2.N) (j : S56x8192.Idx) : ((cfg2.win 0).blk t).view.emb j = j := by
  obtain ⟨e0, e1⟩ := idx2_0 t
  funext a; apply Fin.ext
  match a with
  | ⟨0, _⟩ => show win2_0.index t (0 : Fin 2) * 56 + 1 * (j 0).val = (j 0).val; omega
  | ⟨1, _⟩ => show win2_0.index t (1 : Fin 2) * 8192 + 1 * (j 1).val = (j 1).val; omega

theorem iblk2_0 (t : Fin cfg2.N) : iblk2 V c 0 t = V c main_v1 := by
  funext j; show V c main_v1 (((cfg2.win 0).blk t).view.emb j) = V c main_v1 j; rw [emb2_0]

theorem idx2_1 : ∀ t : Fin cfg2.N, win2_1.index t (0 : Fin 2) = 0 ∧ win2_1.index t (1 : Fin 2) = 0 :=
  (by decide +kernel : ∀ t : Fin grid2.N, _)
theorem emb2_1 (t : Fin cfg2.N) (j : S56x8192.Idx) : ((cfg2.win 1).blk t).view.emb j = j := by
  obtain ⟨e0, e1⟩ := idx2_1 t
  funext a; apply Fin.ext
  match a with
  | ⟨0, _⟩ => show win2_1.index t (0 : Fin 2) * 56 + 1 * (j 0).val = (j 0).val; omega
  | ⟨1, _⟩ => show win2_1.index t (1 : Fin 2) * 8192 + 1 * (j 1).val = (j 1).val; omega

theorem iblk2_1 (t : Fin cfg2.N) : iblk2 V c 1 t = V c main_arg4 := by
  funext j; show V c main_arg4 (((cfg2.win 1).blk t).view.emb j) = V c main_arg4 j; rw [emb2_1]

theorem idx2_2 : ∀ t : Fin cfg2.N, win2_2.index t (0 : Fin 2) = 0 ∧ win2_2.index t (1 : Fin 2) = 0 :=
  (by decide +kernel : ∀ t : Fin grid2.N, _)
theorem emb2_2 (t : Fin cfg2.N) (j : S56x8192.Idx) : ((cfg2.win 2).blk t).view.emb j = j := by
  obtain ⟨e0, e1⟩ := idx2_2 t
  funext a; apply Fin.ext
  match a with
  | ⟨0, _⟩ => show win2_2.index t (0 : Fin 2) * 56 + 1 * (j 0).val = (j 0).val; omega
  | ⟨1, _⟩ => show win2_2.index t (1 : Fin 2) * 8192 + 1 * (j 1).val = (j 1).val; omega

theorem cut2_2 (t : Fin cfg2.N) (X : Vec Ideal S56x8192 .f32) :
    (cfg2.win 2).cut (grid2.coords t) X = ((cfg2.win 2).blk t).view.read (Elt Ideal) X := by
  funext j
  show X j = X (((cfg2.win 2).blk t).view.emb j)
  rw [emb2_2]

theorem covered2_2 (i : S56x8192.Idx) : ∃ t : Fin cfg2.N, (cfg2.win 2).flush t = true ∧ i ∈ ((cfg2.win 2).blk t).view.set :=
  ⟨(⟨0, by decide⟩ : Fin cfg2.N), flush2_2 _, by
    have h := ((cfg2.win 2).blk (⟨0, by decide⟩ : Fin cfg2.N)).view.emb_mem_set i; rwa [emb2_2] at h⟩

theorem delta_array : (dat2 V c).arrAt 2 cfg2.N = withDelta (V c main_v1) (V c main_arg4) :=
  (dat2 V c).arrAt_eq_of_cover 2 (withDelta (V c main_v1) (V c main_arg4))
    (fun t _ => by
      show (cfg2.win 2).cut (grid2.coords t) ((dat2 V c).after 2 t) = _
      rw [after2_2, iblk2_0, iblk2_1, delta_block]
      exact cut2_2 t _)
    covered2_2

theorem idx3_0 : ∀ t : Fin cfg3.N, win3_0.index t (0 : Fin 2) = 0 ∧ win3_0.index t (1 : Fin 2) = 0 :=
  (by decide +kernel : ∀ t : Fin grid3.N, _)
theorem emb3_0 (t : Fin cfg3.N) (j : S56x8192.Idx) : ((cfg3.win 0).blk t).view.emb j = j := by
  obtain ⟨e0, e1⟩ := idx3_0 t
  funext a; apply Fin.ext
  match a with
  | ⟨0, _⟩ => show win3_0.index t (0 : Fin 2) * 56 + 1 * (j 0).val = (j 0).val; omega
  | ⟨1, _⟩ => show win3_0.index t (1 : Fin 2) * 8192 + 1 * (j 1).val = (j 1).val; omega

theorem iblk3_0 (t : Fin cfg3.N) : iblk3 V c 0 t = V c main_arg3 := by
  funext j; show V c main_arg3 (((cfg3.win 0).blk t).view.emb j) = V c main_arg3 j; rw [emb3_0]

theorem idx3_1 : ∀ t : Fin cfg3.N, win3_1.index t (0 : Fin 2) = 0 ∧ win3_1.index t (1 : Fin 2) = 0 :=
  (by decide +kernel : ∀ t : Fin grid3.N, _)
theorem emb3_1 (t : Fin cfg3.N) (j : S56x8192.Idx) : ((cfg3.win 1).blk t).view.emb j = j := by
  obtain ⟨e0, e1⟩ := idx3_1 t
  funext a; apply Fin.ext
  match a with
  | ⟨0, _⟩ => show win3_1.index t (0 : Fin 2) * 56 + 1 * (j 0).val = (j 0).val; omega
  | ⟨1, _⟩ => show win3_1.index t (1 : Fin 2) * 8192 + 1 * (j 1).val = (j 1).val; omega

theorem iblk3_1 (t : Fin cfg3.N) : iblk3 V c 1 t = V c main_v2 := by
  funext j; show V c main_v2 (((cfg3.win 1).blk t).view.emb j) = V c main_v2 j; rw [emb3_1]

theorem idx3_2 : ∀ t : Fin cfg3.N, win3_2.index t (0 : Fin 2) = 0 ∧ win3_2.index t (1 : Fin 2) = 0 :=
  (by decide +kernel : ∀ t : Fin grid3.N, _)
theorem emb3_2 (t : Fin cfg3.N) (j : S56x8192.Idx) : ((cfg3.win 2).blk t).view.emb j = j := by
  obtain ⟨e0, e1⟩ := idx3_2 t
  funext a; apply Fin.ext
  match a with
  | ⟨0, _⟩ => show win3_2.index t (0 : Fin 2) * 56 + 1 * (j 0).val = (j 0).val; omega
  | ⟨1, _⟩ => show win3_2.index t (1 : Fin 2) * 8192 + 1 * (j 1).val = (j 1).val; omega

theorem cut3_2 (t : Fin cfg3.N) (X : Vec Ideal S56x8192 .f32) :
    (cfg3.win 2).cut (grid3.coords t) X = ((cfg3.win 2).blk t).view.read (Elt Ideal) X := by
  funext j
  show X j = X (((cfg3.win 2).blk t).view.emb j)
  rw [emb3_2]

theorem covered3_2 (i : S56x8192.Idx) : ∃ t : Fin cfg3.N, (cfg3.win 2).flush t = true ∧ i ∈ ((cfg3.win 2).blk t).view.set :=
  ⟨(⟨0, by decide⟩ : Fin cfg3.N), flush3_2 _, by
    have h := ((cfg3.win 2).blk (⟨0, by decide⟩ : Fin cfg3.N)).view.emb_mem_set i; rwa [emb3_2] at h⟩

theorem residual_array : (dat3 V c).arrAt 2 cfg3.N = residual (V c main_arg3) (V c main_v2) :=
  (dat3 V c).arrAt_eq_of_cover 2 (residual (V c main_arg3) (V c main_v2))
    (fun t _ => by
      show (cfg3.win 2).cut (grid3.coords t) ((dat3 V c).after 2 t) = _
      rw [after3_2, iblk3_0, iblk3_1, residual_block]
      exact cut3_2 t _)
    covered3_2

end Cert.Proof.O

end
-- ==== Proof.ORun.lean ====
/-
  Hand-written, untrusted. THE RUN OF `o_proj` WITH ITS RESULTS: the generated frame's launch over the four calls, its last thread state read at
  the result arrays as well; each is what OArrays.lean and OTail.lean find in it.
-/
module

public import proofs.«01_k».proof.Proof.OTail
public import Idealize.ShloMosaic.Lib.Claim
import all proofs.«01_k».proof.Proof.Gen.OProjIdeal.Frame

@[expose] public section

noncomputable section

namespace Cert.Proof.O

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.OProjIdeal Cert.OProjIdeal.Gen Cert.Proof.Mx
open Idealize.ShloMosaic.Pipeline (Dat)

variable (m : (ℓ : Loc nD τ sig) → Buf (Elt Ideal) ℓ) (ρ : Dev nD → PrngReg)

theorem entry_codes (c : Dev nD) : W1 m ρ c (Proc.devRef .tc main_v0_0) = codes (m ((c : Thread nD τ).loc main_arg0)) :=
  (W1_arr m ρ c 1).trans (codes_array (V0 m ρ) c)

theorem entry_scale (c : Dev nD) : W1 m ρ c (Proc.devRef .tc main_v0_1) = scale (m ((c : Thread nD τ).loc main_arg0)) :=
  (W1_arr m ρ c 2).trans (scale_array (V0 m ρ) c)

theorem entry_spread (c : Dev nD) : W1 m ρ c (Proc.devRef .tc main_v0_3) = View.canon (spreadPieces spreadShapes (codes (m ((c : Thread nD τ).loc main_arg0)))) :=
  (W1_arr m ρ c 4).trans (spread_array (V0 m ρ) c)

theorem entry_linear (c : Dev nD) (he : ∀ i, ((m ((c : Thread nD τ).loc main_arg2) : Vec Ideal S64x8192 .i8) i : BitVec 8).toNat ≤ 248) :
    W2 m ρ c (Proc.devRef .tc main_v1) = layer (m ((c : Thread nD τ).loc main_arg0)) (m ((c : Thread nD τ).loc main_arg1)) (m ((c : Thread nD τ).loc main_arg2)) := by
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have h := out_array (V1 m ρ) c (m ((c : Thread nD τ).loc main_arg0)) (entry_spread m ρ c) (entry_scale m ρ c)
    (fun i => by rw [a2]; exact he i)
  rw [a1, a2] at h
  exact (W2_arr m ρ c 4).trans h

theorem entry_delta (c : Dev nD) (he : ∀ i, ((m ((c : Thread nD τ).loc main_arg2) : Vec Ideal S64x8192 .i8) i : BitVec 8).toNat ≤ 248) :
    W3 m ρ c (Proc.devRef .tc main_v2) = withDelta (layer (m ((c : Thread nD τ).loc main_arg0)) (m ((c : Thread nD τ).loc main_arg1)) (m ((c : Thread nD τ).loc main_arg2))) (m ((c : Thread nD τ).loc main_arg4)) := by
  have a4 : V2 m ρ c main_arg4 = m ((c : Thread nD τ).loc main_arg4) := W2_args m ρ c main_arg4 (by decide)
  have y : V2 m ρ c main_v1 = layer (m ((c : Thread nD τ).loc main_arg0)) (m ((c : Thread nD τ).loc main_arg1)) (m ((c : Thread nD τ).loc main_arg2)) := entry_linear m ρ c he
  have h := delta_array (V2 m ρ) c
  rw [a4, y] at h
  exact (W3_arr m ρ c 2).trans h

theorem end_out (c : Dev nD) (he : ∀ i, ((m ((c : Thread nD τ).loc main_arg2) : Vec Ideal S64x8192 .i8) i : BitVec 8).toNat ≤ 248) :
    W4 m ρ c (Proc.devRef .tc main_v3) = residual (m ((c : Thread nD τ).loc main_arg3)) (withDelta (layer (m ((c : Thread nD τ).loc main_arg0)) (m ((c : Thread nD τ).loc main_arg1)) (m ((c : Thread nD τ).loc main_arg2))) (m ((c : Thread nD τ).loc main_arg4))) := by
  have a3 : V3 m ρ c main_arg3 = m ((c : Thread nD τ).loc main_arg3) := W3_args m ρ c main_arg3 (by decide)
  have y : V3 m ρ c main_v2 = withDelta (layer (m ((c : Thread nD τ).loc main_arg0)) (m ((c : Thread nD τ).loc main_arg1)) (m ((c : Thread nD τ).loc main_arg2))) (m ((c : Thread nD τ).loc main_arg4)) := entry_delta m ρ c he
  have h := residual_array (V3 m ρ) c
  rw [a3, y] at h
  exact (W4_arr m ρ c 2).trans h

set_option backward.isDefEq.respectTransparency.types false in
/-- Every weakly fair execution ends with the codes, the scales and the new residual in the result arrays and the arguments as launched. -/
theorem run (he : ∀ (c : Dev nD) (i), ((m ((c : Thread nD τ).loc main_arg2) : Vec Ideal S64x8192 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v0_0) = codes (m ((c.tc : Thread nD τ).loc main_arg0))
      ∧ r.2.mem ((c.tc : Thread nD τ).loc main_v0_1) = scale (m ((c.tc : Thread nD τ).loc main_arg0))
      ∧ r.2.mem ((c.tc : Thread nD τ).loc main_v3) = residual (m ((c.tc : Thread nD τ).loc main_arg3)) (withDelta (layer (m ((c.tc : Thread nD τ).loc main_arg0)) (m ((c.tc : Thread nD τ).loc main_arg1)) (m ((c.tc : Thread nD τ).loc main_arg2))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v0_0 (by decide))).trans ((W4_of m ρ c main_v0_0 (by decide +kernel)).trans ((W3_of m ρ c main_v0_0 (by decide +kernel)).trans ((W2_of m ρ c main_v0_0 (by decide +kernel)).trans (entry_codes m ρ c)))),
       (h c _ (mem_uc main_v0_1 (by decide))).trans ((W4_of m ρ c main_v0_1 (by decide +kernel)).trans ((W3_of m ρ c main_v0_1 (by decide +kernel)).trans ((W2_of m ρ c main_v0_1 (by decide +kernel)).trans (entry_scale m ρ c)))),
       (h c _ (mem_uc main_v3 (by decide))).trans (end_out m ρ c (he c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Proof.O

end
-- ==== Proof.ORef.lean ====
/-
  Hand-written, untrusted. THE REFERENCE OF `o_proj` GIVES THE KERNEL'S RESULTS: its quantiser's codes and scales are the kernel's, and its product is
  the kernel's layer when every scale byte is at most 248 (Layer.lean); the two sums after it are the kernel's.
-/
module

public import proofs.«01_k».proof.Proof.ORun
public import proofs.«01_k».proof.Proof.Gen.OProjReferenceIdeal.Value
import all proofs.«01_k».proof.Proof.Gen.OProjReferenceIdeal.Frame
import all proofs.«01_k».proof.Proof.Gen.OProjReferenceIdeal.Value

@[expose] public section

noncomputable section

namespace Cert.Proof.O.Ref

open Idealize.ShloMosaic Idealize.ShloMosaic.TcCoe Idealize.SL.Sem Cert.Proof.Mx
open Cert.OProjReferenceIdeal Cert.OProjReferenceIdeal.Gen Cert.OProjReferenceIdeal.Value

theorem shapes : RefShapes 64 2048 4096 8192 where
  rows := rfl
  cols := rfl
  split := shapeCasts_S64x8192_S64x4096x2
  slice := fun h => match h with
    | 0 => slices_S64x4096x2_o0_0_0_S64x4096x1
    | 1 => slices_S64x4096x2_o0_0_1_S64x4096x1
  drop := shapeCasts_S64x4096x1_S64x4096
  mid := shapeCasts_S64x4096_S64x1x4096
  rep := broadcasts_S64x1x4096_S64x32x4096
  flat := shapeCasts_S64x32x4096_S2048x4096
  last := shapeCasts_S56x4096_S56x4096x1
  stack := concatenates_S56x4096x1_S56x4096x1_S56x4096x2_d2
  join := shapeCasts_S56x4096x2_S56x8192
  lanes := broadcasts_S56x1_S56x8192

variable (x : Vec Ideal S56x2048 .f32) (w : Vec Ideal S2048x4096 .i8) (e : Vec Ideal S64x8192 .i8)
  (r : Vec Ideal S56x8192 .bf16) (d : Vec Ideal S56x8192 .f32)

theorem codes_eq : G5 (F := Ideal) x w e r d = codes x := by
  sl_kernel_rfl

theorem scale_eq : G6 (F := Ideal) x w e r d = scale x := by
  sl_kernel_rfl

theorem ld_x : View.ld x r0_0 = x :=
  View.ld_unit_zero (funext fun a => by fin_cases a <;> rfl) _ _

theorem product_eq : G7 (F := Ideal) x w e r d = residual r (withDelta (refOut shapes (k0_pay5 (F := Ideal) (View.ld x r0_0)) (k0_pay2 (F := Ideal) x) w e) d) := by
  sl_kernel_rfl

theorem code_plain (b : Fin 56) (s : Fin 2048) : (k0_pay5 (F := Ideal) x (ix2 b s) : EReal) = codes x (ix2 b s) := rfl

theorem scale_lane (b : Fin 56) : (k0_pay2 (F := Ideal) x (ix2 b (0 : Fin 1)) : EReal) = (scale x (ix2 b (0 : Fin 128)) : EReal) := by
  have h : scale x = broadcastTo (M2 56 128) (shapeCast (M2 56 1) (k0_pay2 (F := Ideal) x) (by decide)) (by decide) := by sl_kernel_rfl
  rw [h]
  generalize k0_pay2 (F := Ideal) x = z
  pointwise

theorem out_eq (he : ∀ i, (e i : BitVec 8).toNat ≤ 248) : G7 (F := Ideal) x w e r d = residual r (withDelta (layer x w e) d) := by
  rw [product_eq, ld_x]
  refine congrArg (fun y => residual r (withDelta y d)) ?_
  exact refOut_eq sizes shapes (codes x) (scale x) (k0_pay5 (F := Ideal) x) (k0_pay2 (F := Ideal) x) w e (code_plain x) (scale_lane x) he

variable (m : (ℓ : Loc nD τ sig) → Buf (Elt Ideal) ℓ) (ρ : Dev nD → PrngReg)

/-- Every weakly fair execution of the reference ends with the kernel's codes, scales and residual in its result arrays and the arguments as launched. -/
theorem run (he : ∀ (c : Dev nD) (i), (((m ((c.tc : Thread nD τ).loc main_arg2)) : Vec Ideal S64x8192 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v0_0) = codes (m ((c.tc : Thread nD τ).loc main_arg0))
      ∧ r.2.mem ((c.tc : Thread nD τ).loc main_v0_1) = scale (m ((c.tc : Thread nD τ).loc main_arg0))
      ∧ r.2.mem ((c.tc : Thread nD τ).loc main_v0_2) = residual (m ((c.tc : Thread nD τ).loc main_arg3)) (withDelta (layer (m ((c.tc : Thread nD τ).loc main_arg0)) (m ((c.tc : Thread nD τ).loc main_arg1)) (m ((c.tc : Thread nD τ).loc main_arg2))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (Cert.OProjReferenceIdeal.Value.run m ρ)
  obtain ⟨h0, h1, h2, k⟩ := h c
  exact ⟨h0.trans (codes_eq _ _ _ _ _), h1.trans (scale_eq _ _ _ _ _), h2.trans (out_eq _ _ _ _ _ (he c)), k⟩

end Cert.Proof.O.Ref

end
-- ==== Proof.GuBody.lean ====
/-
  Hand-written, untrusted. THE LINEAR CALL of `gu_proj`: its printed body, of 256 blocks of weight rows, is the generic block of Layer.lean (`body_eq`).
-/
module

public import proofs.«01_k».proof.Proof.Layer
public import proofs.«01_k».proof.Proof.Gen.GuProjIdeal.Frame
import all proofs.«01_k».proof.Proof.Gen.GuProjIdeal.Frame

@[expose] public section

noncomputable section

namespace Cert.Proof.Gu

open Idealize.ShloMosaic Cert.GuProjIdeal Cert.GuProjIdeal.Gen Cert.Proof.Mx

theorem scaleFacts : ScaleFacts 256 64 where
  four := rfl
  bitcasts := by decide
  iotas := by decide
  up := by decide
  down := by decide
  lead := by decide
  slices := by decide

theorem shapes : BodyShapes 256 64 8192 16384 where
  scales := scaleFacts
  rows := rfl
  spread := rfl
  stack := by decide +kernel
  whole := by decide

variable (c : Dev nD) (i : grid1.Coords) (arg1 : Memref sig .tc .vmem S112x16384 .bf16) (harg1 : arg1.IsWhole) (arg2 : Memref sig .tc .vmem S8192x256 .i8) (harg2 : arg2.IsWhole)
  (arg3 : Memref sig .tc .vmem S256x512 .i8) (harg3 : arg3.IsWhole) (arg4 : Memref sig .tc .vmem S56x128 .f32) (harg4 : arg4.IsWhole)
  (arg5 : Memref sig .tc .vmem S56x512 .f32) (harg5 : arg5.IsWhole) (arg6 : Memref sig .tc .vmem S4x64x256 .i32) (harg6 : arg6.IsWhole)
  (x0 : Vec Ideal S112x16384 .bf16) (x1 : Vec Ideal S8192x256 .i8) (x2 : Vec Ideal S256x512 .i8) (x3 : Vec Ideal S56x128 .f32)

/-- The eight stores of the scratch. -/
theorem scratch_eq : kernelRun1_A.sl.HS0_8 (F := Ideal) c arg3 harg3 x2 = scratchPieces scaleFacts (loadedScales arg3 harg3 x2) := by
  sl_kernel_rfl

/-- The printed body is the generic block. -/
theorem body_eq : out1_A_4 (F := Ideal) c i arg1 harg1 arg2 harg2 arg3 harg3 arg4 harg4 arg5 harg5 arg6 harg6 x0 x1 x2 x3
    = bodyBlock arg1 harg1 arg2 harg2 arg4 harg4 arg6 shapes x0 x1 x3 (kernelRun1_A.sl.HS0_8 (F := Ideal) c arg3 harg3 x2) := by
  unfold out1_A_4
  rw [View.read_writes_junk_eq_canon]
  dsimp only [kernelRun1_A]
  refine (View.canon_unit_zero (funext fun a => by fin_cases a <;> rfl) _ _).trans ?_
  sl_kernel_rfl

/-- What the body leaves in the output's block, entry by entry. -/
theorem out_apply (he : ∀ i, (x2 i : BitVec 8).toNat ≤ 248) (codes : FVec Ideal (M2 56 8192) .fp8e4m3)
    (hx : ∀ (h : Fin 2) (b : Fin 56) (u : Fin 16384), (x0 (ix2 (⟨56 * h.val + b.val, by omega⟩ : Fin 112) u) : EReal)
      = if u.val % 2 = h.val then (codes (ix2 b (⟨u.val / 2, by omega⟩ : Fin 8192)) : EReal) else 0)
    (b : Fin 56) (j : Fin 512) :
    (out1_A_4 (F := Ideal) c i arg1 harg1 arg2 harg2 arg3 harg3 arg4 harg4 arg5 harg5 arg6 harg6 x0 x1 x2 x3 (ix2 b j) : EReal)
      = (∑ s : Fin 8192, (codes (ix2 b s) : EReal) * kernelWeight (j.val % 2) (x1 (ix2 s (⟨j.val / 2, by omega⟩ : Fin 256)))
          (x2 (ix2 (⟨s.val / 32, by omega⟩ : Fin 256) j))) * (x3 (ix2 b (0 : Fin 128)) : EReal) := by
  rw [body_eq, scratch_eq]
  exact bodyBlock_apply arg1 harg1 arg2 harg2 arg3 harg3 arg4 harg4 arg6 shapes x0 x1 x2 x3 he codes hx b j

end Cert.Proof.Gu

end
-- ==== Proof.GuQuant.lean ====
/-
  Hand-written, untrusted. THE QUANTISING CALL of `gu_proj`: the codes and the scales it leaves, as printed, and the spread activation, which is the
  one of Spread.lean.
-/
module

public import proofs.«01_k».proof.Proof.Spread
public import proofs.«01_k».proof.Proof.Gen.GuProjIdeal.Frame
import all proofs.«01_k».proof.Proof.Gen.GuProjIdeal.Frame

@[expose] public section

noncomputable section

namespace Cert.Proof.Gu

open Idealize.ShloMosaic Cert.GuProjIdeal Cert.GuProjIdeal.Gen Cert.Proof.Mx

theorem spreadShapes : SpreadShapes 64 8192 16384 := ⟨rfl, rfl⟩

/-- The codes of an activation. -/
def codes (x : Vec Ideal S56x8192 .f32) (g : Vec Ideal S1x8192 .f32) : FVec Ideal (M2 56 8192) .fp8e4m3 := k0_pay6 (F := Ideal) x g

/-- Its scales, one per row, repeated over 128 lanes. -/
def scale (x : Vec Ideal S56x8192 .f32) (g : Vec Ideal S1x8192 .f32) : FVec Ideal (M2 56 128) .f32 := k0_pay7 (F := Ideal) x g

variable (x : Vec Ideal S56x8192 .f32) (g : Vec Ideal S1x8192 .f32)

theorem ld_x : View.ld x r0_0 = x :=
  View.ld_unit_zero (funext fun a => by fin_cases a <;> rfl) _ _

theorem ld_g (g : Vec Ideal S1x8192 .f32) : View.ld g r0_1 = g :=
  View.ld_unit_zero (funext fun a => by fin_cases a <;> rfl) _ _

/-- The block of codes the body leaves. -/
theorem codes_block : out0_2 (F := Ideal) x g = codes x g := by
  unfold out0_2
  rw [ld_x, ld_g]
  exact View.canon_unit_zero (funext fun a => by fin_cases a <;> rfl) _ _

/-- The block of scales the body leaves. -/
theorem scale_block : out0_3 (F := Ideal) x g = scale x g := by
  unfold out0_3
  rw [ld_x, ld_g]
  exact View.canon_unit_zero (funext fun a => by fin_cases a <;> rfl) _ _

/-- The spread activation the body leaves. -/
theorem spread_block : out0_5 (F := Ideal) x g = View.canon (spreadPieces spreadShapes (codes x g)) := by
  have h : out0_5 (F := Ideal) x g = View.canon (spreadPieces spreadShapes (codes (View.ld x r0_0) (View.ld g r0_1))) := by sl_kernel_rfl
  rw [h, ld_x, ld_g]

end Cert.Proof.Gu

end
-- ==== Proof.GuArrays.lean ====
/-
  Hand-written, untrusted. THE ARRAYS the two calls of `gu_proj` leave: the quantising call's one point writes its whole blocks (`codes_array`,
  `scale_array`, `spread_array`); the linear call's 28 points write 512 columns each of the layer's result (`out_array`).
-/
module

public import proofs.«01_k».proof.Proof.GuBody
public import proofs.«01_k».proof.Proof.GuQuant
import all proofs.«01_k».proof.Proof.Gen.GuProjIdeal.Frame

@[expose] public section

noncomputable section

namespace Cert.Proof.Gu

open Idealize.ShloMosaic Idealize.ShloMosaic.TcCoe Idealize.SL.Sem Cert.GuProjIdeal Cert.GuProjIdeal.Gen Cert.Proof.Mx

theorem sizes : LayerSizes 256 8192 7168 14336 := ⟨rfl, rfl⟩

/-- The layer's result from its activation, weights and scale bytes. -/
abbrev layer (x : Vec Ideal S56x8192 .f32) (g : Vec Ideal S1x8192 .f32) (w : Vec Ideal S8192x7168 .i8) (e : Vec Ideal S256x14336 .i8) : Vec Ideal S56x14336 .f32 :=
  layerOut sizes (codes x g) (scale x g) w e

variable (V : (c : Dev nD) → (b : Ref sig .tc) → Buf (Elt Ideal) ((c : Thread nD τ).loc b)) (c : Dev nD)

/-! ## The quantising call: one point, whole blocks -/

theorem idx0_0 : ∀ t : Fin cfg0.N, win0_0.index t (0 : Fin 2) = 0 ∧ win0_0.index t (1 : Fin 2) = 0 :=
  (by decide +kernel : ∀ t : Fin grid0.N, _)
theorem emb0_0 (t : Fin cfg0.N) (j : S56x8192.Idx) : ((cfg0.win 0).blk t).view.emb j = j := by
  obtain ⟨e0, e1⟩ := idx0_0 t
  funext a; apply Fin.ext
  match a with
  | ⟨0, _⟩ => show win0_0.index t (0 : Fin 2) * 56 + 1 * (j 0).val = (j 0).val; omega
  | ⟨1, _⟩ => show win0_0.index t (1 : Fin 2) * 8192 + 1 * (j 1).val = (j 1).val; omega

theorem idx0_1 : ∀ t : Fin cfg0.N, win0_1.index t (0 : Fin 2) = 0 ∧ win0_1.index t (1 : Fin 2) = 0 :=
  (by decide +kernel : ∀ t : Fin grid0.N, _)
theorem emb0_1 (t : Fin cfg0.N) (j : S1x8192.Idx) : ((cfg0.win 1).blk t).view.emb j = j := by
  obtain ⟨e0, e1⟩ := idx0_1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (j : S56x8192.Idx) : ((cfg0.win 2).blk t).view.emb j = j := by
  obtain ⟨e0, e1⟩ := idx0_2 t
  funext a; apply Fin.ext
  match a with
  | ⟨0, _⟩ => show win0_2.index t (0 : Fin 2) * 56 + 1 * (j 0).val = (j 0).val; omega
  | ⟨1, _⟩ => show win0_2.index t (1 : Fin 2) * 8192 + 1 * (j 1).val = (j 1).val; omega

theorem idx0_3 : ∀ t : Fin cfg0.N, win0_3.index t (0 : Fin 2) = 0 ∧ win0_3.index t (1 : Fin 2) = 0 :=
  (by decide +kernel : ∀ t : Fin grid0.N, _)
theorem emb0_3 (t : Fin cfg0.N) (j : S56x128.Idx) : ((cfg0.win 3).blk t).view.emb j = j := by
  obtain ⟨e0, e1⟩ := idx0_3 t
  funext a; apply Fin.ext
  match a with
  | ⟨0, _⟩ => show win0_3.index t (0 : Fin 2) * 56 + 1 * (j 0).val = (j 0).val; omega
  | ⟨1, _⟩ => show win0_3.index t (1 : Fin 2) * 128 + 1 * (j 1).val = (j 1).val; omega

theorem idx0_5 : ∀ t : Fin cfg0.N, win0_5.index t (0 : Fin 2) = 0 ∧ win0_5.index t (1 : Fin 2) = 0 :=
  (by decide +kernel : ∀ t : Fin grid0.N, _)
theorem emb0_5 (t : Fin cfg0.N) (j : S112x16384.Idx) : ((cfg0.win 5).blk t).view.emb j = j := by
  obtain ⟨e0, e1⟩ := idx0_5 t
  funext a; apply Fin.ext
  match a with
  | ⟨0, _⟩ => show win0_5.index t (0 : Fin 2) * 112 + 1 * (j 0).val = (j 0).val; omega
  | ⟨1, _⟩ => show win0_5.index t (1 : Fin 2) * 16384 + 1 * (j 1).val = (j 1).val; omega

theorem cut0_2 (t : Fin cfg0.N) (X : Vec Ideal S56x8192 .fp8e4m3) :
    (cfg0.win 2).cut (grid0.coords t) X = ((cfg0.win 2).blk t).view.read (Elt Ideal) X := by
  funext j
  show X j = X (((cfg0.win 2).blk t).view.emb j)
  rw [emb0_2]

theorem covered0_2 (i : S56x8192.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb0_2] at h⟩

theorem cut0_3 (t : Fin cfg0.N) (X : Vec Ideal S56x128 .f32) :
    (cfg0.win 3).cut (grid0.coords t) X = ((cfg0.win 3).blk t).view.read (Elt Ideal) X := by
  funext j
  show X j = X (((cfg0.win 3).blk t).view.emb j)
  rw [emb0_3]

theorem covered0_3 (i : S56x128.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb0_3] at h⟩

theorem cut0_5 (t : Fin cfg0.N) (X : Vec Ideal S112x16384 .bf16) :
    (cfg0.win 5).cut (grid0.coords t) X = ((cfg0.win 5).blk t).view.read (Elt Ideal) X := by
  funext j
  show X j = X (((cfg0.win 5).blk t).view.emb j)
  rw [emb0_5]

theorem covered0_5 (i : S112x16384.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb0_5] at h⟩

theorem iblk0_0 (t : Fin cfg0.N) : iblk0 V c 0 t = V c main_arg0 := by
  funext j; show V c main_arg0 (((cfg0.win 0).blk t).view.emb j) = V c main_arg0 j; rw [emb0_0]

theorem iblk0_1 (t : Fin cfg0.N) : iblk0 V c 1 t = V c main_v0 := by
  funext j; show V c main_v0 (((cfg0.win 1).blk t).view.emb j) = V c main_v0 j; rw [emb0_1]

theorem codes_array : (dat0 V c).arrAt 2 cfg0.N = codes (V c main_arg0) (V c main_v0) :=
  (dat0 V c).arrAt_eq_of_cover 2 (codes (V c main_arg0) (V c main_v0))
    (fun t _ => by
      show (cfg0.win 2).cut (grid0.coords t) ((dat0 V c).after 2 t) = _
      rw [after0_2, iblk0_0, iblk0_1, codes_block]
      exact cut0_2 t _)
    covered0_2

theorem scale_array : (dat0 V c).arrAt 3 cfg0.N = scale (V c main_arg0) (V c main_v0) :=
  (dat0 V c).arrAt_eq_of_cover 3 (scale (V c main_arg0) (V c main_v0))
    (fun t _ => by
      show (cfg0.win 3).cut (grid0.coords t) ((dat0 V c).after 3 t) = _
      rw [after0_3, iblk0_0, iblk0_1, scale_block]
      exact cut0_3 t _)
    covered0_3

theorem spread_array : (dat0 V c).arrAt 5 cfg0.N = View.canon (spreadPieces spreadShapes (codes (V c main_arg0) (V c main_v0))) :=
  (dat0 V c).arrAt_eq_of_cover 5 (View.canon (spreadPieces spreadShapes (codes (V c main_arg0) (V c main_v0))))
    (fun t _ => by
      show (cfg0.win 5).cut (grid0.coords t) ((dat0 V c).after 5 t) = _
      rw [after0_5, iblk0_0, iblk0_1, spread_block]
      exact cut0_5 t _)
    covered0_5

/-! ## The linear call: point `t` reads columns 256 t … of the weights and 512 t … of the scale bytes and writes columns 512 t … 512 t + 511 -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)

theorem lt_points (t : Fin cfg1.N) : t.val < 28 := by
  have h : ∀ t : Fin grid1.N, t.val < 28 := by decide +kernel
  exact h t

theorem emb1_0 (t : Fin cfg1.N) (j : S112x16384.Idx) : ((cfg1.win 0).blk t).view.emb j = j := by
  obtain ⟨e0, e1⟩ := idx1_0 t
  funext a; apply Fin.ext
  match a with
  | ⟨0, _⟩ => show win1_0.index t (0 : Fin 2) * 112 + 1 * (j 0).val = (j 0).val; omega
  | ⟨1, _⟩ => show win1_0.index t (1 : Fin 2) * 16384 + 1 * (j 1).val = (j 1).val; omega
theorem emb1_3 (t : Fin cfg1.N) (j : S56x128.Idx) : ((cfg1.win 3).blk t).view.emb j = j := by
  obtain ⟨e0, e1⟩ := idx1_3 t
  funext a; apply Fin.ext
  match a with
  | ⟨0, _⟩ => show win1_3.index t (0 : Fin 2) * 56 + 1 * (j 0).val = (j 0).val; omega
  | ⟨1, _⟩ => show win1_3.index t (1 : Fin 2) * 128 + 1 * (j 1).val = (j 1).val; omega
theorem emb1_1 (t : Fin cfg1.N) (s : Fin 8192) (q : Fin 256) :
    ((cfg1.win 1).blk t).view.emb (ix2 s q) = ix2 s (⟨256 * t.val + q.val, by have := lt_points t; omega⟩ : Fin 7168) := by
  obtain ⟨e0, e1⟩ := idx1_1 t
  funext a; apply Fin.ext
  match a with
  | ⟨0, _⟩ => show win1_1.index t (0 : Fin 2) * 8192 + 1 * s.val = s.val; omega
  | ⟨1, _⟩ => show win1_1.index t (1 : Fin 2) * 256 + 1 * q.val = 256 * t.val + q.val; omega
theorem emb1_2 (t : Fin cfg1.N) (s : Fin 256) (q : Fin 512) :
    ((cfg1.win 2).blk t).view.emb (ix2 s q) = ix2 s (⟨512 * t.val + q.val, by have := lt_points t; omega⟩ : Fin 14336) := by
  obtain ⟨e0, e1⟩ := idx1_2 t
  funext a; apply Fin.ext
  match a with
  | ⟨0, _⟩ => show win1_2.index t (0 : Fin 2) * 256 + 1 * s.val = s.val; omega
  | ⟨1, _⟩ => show win1_2.index t (1 : Fin 2) * 512 + 1 * q.val = 512 * t.val + q.val; omega
theorem emb1_4 (t : Fin cfg1.N) (s : Fin 56) (q : Fin 512) :
    ((cfg1.win 4).blk t).view.emb (ix2 s q) = ix2 s (⟨512 * t.val + q.val, by have := lt_points t; omega⟩ : Fin 14336) := by
  obtain ⟨e0, e1⟩ := idx1_4 t
  funext a; apply Fin.ext
  match a with
  | ⟨0, _⟩ => show win1_4.index t (0 : Fin 2) * 56 + 1 * s.val = s.val; omega
  | ⟨1, _⟩ => show win1_4.index t (1 : Fin 2) * 512 + 1 * q.val = 512 * t.val + q.val; omega

theorem covered1_4 (i : S56x14336.Idx) : ∃ t : Fin cfg1.N, (cfg1.win 4).flush t = true ∧ i ∈ ((cfg1.win 4).blk t).view.set := by
  obtain ⟨b, n, rfl⟩ : ∃ (b : Fin 56) (n : Fin 14336), i = ix2 b n := ⟨i 0, i 1, by funext a; fin_cases a <;> rfl⟩
  obtain ⟨t, ht⟩ : ∃ t : Fin cfg1.N, t.val = n.val / 512 := ⟨⟨n.val / 512, by show n.val / 512 < 28; omega⟩, rfl⟩
  have h : (ix2 b (⟨512 * t.val + n.val % 512, by have := lt_points t; omega⟩ : Fin 14336) : S56x14336.Idx) ∈ ((cfg1.win 4).blk t).view.set :=
    emb1_4 t b (⟨n.val % 512, by omega⟩ : Fin 512) ▸ ((cfg1.win 4).blk t).view.emb_mem_set (ix2 b (⟨n.val % 512, by omega⟩ : Fin 512))
  have e : (⟨512 * t.val + n.val % 512, by have := lt_points t; omega⟩ : Fin 14336) = n := Fin.ext (by show 512 * t.val + n.val % 512 = n.val; omega)
  refine ⟨t, flush1_4 t, ?_⟩
  rw [← e]
  exact h

theorem cut1_4 (t : Fin cfg1.N) (Y : Vec Ideal S56x512 .f32) (X : Vec Ideal S56x14336 .f32)
    (h : ∀ (b : Fin 56) (q : Fin 512), Y (ix2 b q) = X (ix2 b (⟨512 * t.val + q.val, by have := lt_points t; omega⟩ : Fin 14336))) :
    (cfg1.win 4).cut (grid1.coords t) Y = ((cfg1.win 4).blk t).view.read (Elt Ideal) X := by
  funext j
  obtain ⟨b, q, rfl⟩ : ∃ (b : Fin 56) (q : Fin 512), j = ix2 b q := ⟨j 0, j 1, by funext a; fin_cases a <;> rfl⟩
  show Y (ix2 b q) = X (((cfg1.win 4).blk t).view.emb (ix2 b q))
  rw [emb1_4]
  exact h b q

theorem iblk1_0 (t : Fin cfg1.N) : iblk1 V c 0 t = V c main_v1_3 := by
  funext j; show V c main_v1_3 (((cfg1.win 0).blk t).view.emb j) = V c main_v1_3 j; rw [emb1_0]
theorem iblk1_3 (t : Fin cfg1.N) : iblk1 V c 3 t = V c main_v1_1 := by
  funext j; show V c main_v1_1 (((cfg1.win 3).blk t).view.emb j) = V c main_v1_1 j; rw [emb1_3]

theorem iblk1_1 (t : Fin cfg1.N) (s : Fin 8192) (q : Fin 256) :
    (iblk1 V c 1 t : Vec Ideal S8192x256 .i8) (ix2 s q) = V c main_arg2 (ix2 s (⟨256 * t.val + q.val, by have := lt_points t; omega⟩ : Fin 7168)) :=
  congrArg (V c main_arg2) (emb1_1 t s q)
theorem iblk1_2 (t : Fin cfg1.N) (s : Fin 256) (q : Fin 512) :
    (iblk1 V c 2 t : Vec Ideal S256x512 .i8) (ix2 s q) = V c main_arg3 (ix2 s (⟨512 * t.val + q.val, by have := lt_points t; omega⟩ : Fin 14336)) :=
  congrArg (V c main_arg3) (emb1_2 t s q)
theorem scales_small (he : ∀ i, ((V c main_arg3 : Vec Ideal S256x14336 .i8) i : BitVec 8).toNat ≤ 248) (t : Fin cfg1.N) (i : S256x512.Idx) :
    ((iblk1 V c 2 t : Vec Ideal S256x512 .i8) i : BitVec 8).toNat ≤ 248 := he _

/-- The linear call's array, when it finds the spread codes and the scales of an activation in its operands. -/
theorem out_array (x : Vec Ideal S56x8192 .f32) (g : Vec Ideal S1x8192 .f32) (h3 : V c main_v1_3 = View.canon (spreadPieces spreadShapes (codes x g))) (h1 : V c main_v1_1 = scale x g)
    (he : ∀ i, ((V c main_arg3 : Vec Ideal S256x14336 .i8) i : BitVec 8).toNat ≤ 248) :
    (dat1 V c).arrAt 4 cfg1.N = layer x g (V c main_arg2) (V c main_arg3) :=
  (dat1 V c).arrAt_eq_of_cover 4 (layer x g (V c main_arg2) (V c main_arg3))
    (fun t _ => by
      show (cfg1.win 4).cut (grid1.coords t) ((dat1 V c).after 4 t) = _
      rw [after1_4]
      refine cut1_4 t _ _ fun b q => ?_
      have ht := lt_points t
      unfold outsAt1
      rw [iblk1_0, iblk1_3, h3, h1]
      refine (out_apply c _ _ _ _ _ _ _ _ _ _ _ _ _ _ _ _ _ (scales_small V c he t) (codes x g) (spreadAll_apply spreadShapes (codes x g)) b q).trans ?_
      exact layerOut_block sizes (codes x g) (scale x g) (V c main_arg2) (V c main_arg3) t.val (by omega) (iblk1 V c 1 t) (iblk1 V c 2 t)
          (iblk1_1 V c t) (iblk1_2 V c t) b q)
    covered1_4

end Cert.Proof.Gu

end
-- ==== Proof.GuTail.lean ====
/-
  Hand-written, untrusted. THE ARRAY the last call of `gu_proj` leaves: its one point reads the layer's result and the two LoRA deltas whole and writes the gated
  activation (`gated_array`).
-/
module

public import proofs.«01_k».proof.Proof.GuArrays
import all proofs.«01_k».proof.Proof.Gen.GuProjIdeal.Frame

@[expose] public section

noncomputable section

namespace Cert.Proof.Gu

open Idealize.ShloMosaic Idealize.ShloMosaic.TcCoe Idealize.SL.Sem Cert.GuProjIdeal Cert.GuProjIdeal.Gen Cert.Proof.Mx

/-- The gated activation: of the layer's result the left half, plus its delta, through SiLU, times the right half plus its delta. -/
def gated (y : Vec Ideal S56x14336 .f32) (a b : Vec Ideal S56x7168 .f32) : Vec Ideal S56x7168 .f32 :=
  have gate : FVec Ideal S56x7168 .f32 := addf (F := Ideal) (φ := .f32) (extractStridedSlice S56x7168 ![0, 0] y (by decide)) a
  have up : FVec Ideal S56x7168 .f32 := addf (F := Ideal) (φ := .f32) (extractStridedSlice S56x7168 ![0, 7168] y (by decide)) b
  mulf (mulf gate (logistic gate)) up

theorem cast_self (z : Vec Ideal S56x7168 .f32) : shapeCast S56x7168 z shapeCasts_S56x7168_S56x7168 = z := by funext i; pointwise

variable (V : (c : Dev nD) → (b : Ref sig .tc) → Buf (Elt Ideal) ((c : Thread nD τ).loc b)) (c : Dev nD)

theorem ld2 (x : Vec Ideal S56x7168 .f32) : View.ld x r2_1 = x :=
  View.ld_unit_zero (funext fun a => by fin_cases a <;> rfl) _ _

theorem ld2_left (y : Vec Ideal S56x14336 .f32) : View.ld y r2_0 = extractStridedSlice S56x7168 ![0, 0] y (by decide) := by
  funext i
  exact congrArg y (by funext a; apply Fin.ext; fin_cases a <;> exact congrArg (_ + ·) (Nat.one_mul _))

theorem ld2_right (y : Vec Ideal S56x14336 .f32) : View.ld y r2_2 = extractStridedSlice S56x7168 ![0, 7168] y (by decide) := by
  funext i
  exact congrArg y (by funext a; apply Fin.ext; fin_cases a <;> exact congrArg (_ + ·) (Nat.one_mul _))

theorem gated_block (y : Vec Ideal S56x14336 .f32) (a b : Vec Ideal S56x7168 .f32) : out2_3 (F := Ideal) y a b = gated y a b := by
  unfold out2_3
  rw [ld2, ld2, ld2_left, ld2_right]
  refine (View.canon_unit_zero (funext fun a => by fin_cases a <;> rfl) _ _).trans ?_
  unfold k2_pay1 gated
  dsimp only
  rw [cast_self, cast_self]

theorem idx2_0 : ∀ t : Fin cfg2.N, win2_0.index t (0 : Fin 2) = 0 ∧ win2_0.index t (1 : Fin 2) = 0 :=
  (by decide +kernel : ∀ t : Fin grid2.N, _)
theorem emb2_0 (t : Fin cfg2.N) (j : S56x14336.Idx) : ((cfg2.win 0).blk t).view.emb j = j := by
  obtain ⟨e0, e1⟩ := idx2_0 t
  funext a; apply Fin.ext
  match a with
  | ⟨0, _⟩ => show win2_0.index t (0 : Fin 2) * 56 + 1 * (j 0).val = (j 0).val; omega
  | ⟨1, _⟩ => show win2_0.index t (1 : Fin 2) * 14336 + 1 * (j 1).val = (j 1).val; omega

theorem iblk2_0 (t : Fin cfg2.N) : iblk2 V c 0 t = V c main_v2 := by
  funext j; show V c main_v2 (((cfg2.win 0).blk t).view.emb j) = V c main_v2 j; rw [emb2_0]

theorem idx2_1 : ∀ t : Fin cfg2.N, win2_1.index t (0 : Fin 2) = 0 ∧ win2_1.index t (1 : Fin 2) = 0 :=
  (by decide +kernel : ∀ t : Fin grid2.N, _)
theorem emb2_1 (t : Fin cfg2.N) (j : S56x7168.Idx) : ((cfg2.win 1).blk t).view.emb j = j := by
  obtain ⟨e0, e1⟩ := idx2_1 t
  funext a; apply Fin.ext
  match a with
  | ⟨0, _⟩ => show win2_1.index t (0 : Fin 2) * 56 + 1 * (j 0).val = (j 0).val; omega
  | ⟨1, _⟩ => show win2_1.index t (1 : Fin 2) * 7168 + 1 * (j 1).val = (j 1).val; omega

theorem iblk2_1 (t : Fin cfg2.N) : iblk2 V c 1 t = V c main_arg4 := by
  funext j; show V c main_arg4 (((cfg2.win 1).blk t).view.emb j) = V c main_arg4 j; rw [emb2_1]

theorem idx2_2 : ∀ t : Fin cfg2.N, win2_2.index t (0 : Fin 2) = 0 ∧ win2_2.index t (1 : Fin 2) = 0 :=
  (by decide +kernel : ∀ t : Fin grid2.N, _)
theorem emb2_2 (t : Fin cfg2.N) (j : S56x7168.Idx) : ((cfg2.win 2).blk t).view.emb j = j := by
  obtain ⟨e0, e1⟩ := idx2_2 t
  funext a; apply Fin.ext
  match a with
  | ⟨0, _⟩ => show win2_2.index t (0 : Fin 2) * 56 + 1 * (j 0).val = (j 0).val; omega
  | ⟨1, _⟩ => show win2_2.index t (1 : Fin 2) * 7168 + 1 * (j 1).val = (j 1).val; omega

theorem iblk2_2 (t : Fin cfg2.N) : iblk2 V c 2 t = V c main_arg5 := by
  funext j; show V c main_arg5 (((cfg2.win 2).blk t).view.emb j) = V c main_arg5 j; rw [emb2_2]

theorem idx2_3 : ∀ t : Fin cfg2.N, win2_3.index t (0 : Fin 2) = 0 ∧ win2_3.index t (1 : Fin 2) = 0 :=
  (by decide +kernel : ∀ t : Fin grid2.N, _)
theorem emb2_3 (t : Fin cfg2.N) (j : S56x7168.Idx) : ((cfg2.win 3).blk t).view.emb j = j := by
  obtain ⟨e0, e1⟩ := idx2_3 t
  funext a; apply Fin.ext
  match a with
  | ⟨0, _⟩ => show win2_3.index t (0 : Fin 2) * 56 + 1 * (j 0).val = (j 0).val; omega
  | ⟨1, _⟩ => show win2_3.index t (1 : Fin 2) * 7168 + 1 * (j 1).val = (j 1).val; omega

theorem cut2_3 (t : Fin cfg2.N) (X : Vec Ideal S56x7168 .f32) :
    (cfg2.win 3).cut (grid2.coords t) X = ((cfg2.win 3).blk t).view.read (Elt Ideal) X := by
  funext j
  show X j = X (((cfg2.win 3).blk t).view.emb j)
  rw [emb2_3]

theorem covered2_3 (i : S56x7168.Idx) : ∃ t : Fin cfg2.N, (cfg2.win 3).flush t = true ∧ i ∈ ((cfg2.win 3).blk t).view.set :=
  ⟨(⟨0, by decide⟩ : Fin cfg2.N), flush2_3 _, by
    have h := ((cfg2.win 3).blk (⟨0, by decide⟩ : Fin cfg2.N)).view.emb_mem_set i; rwa [emb2_3] at h⟩

theorem gated_array : (dat2 V c).arrAt 3 cfg2.N = gated (V c main_v2) (V c main_arg4) (V c main_arg5) :=
  (dat2 V c).arrAt_eq_of_cover 3 (gated (V c main_v2) (V c main_arg4) (V c main_arg5))
    (fun t _ => by
      show (cfg2.win 3).cut (grid2.coords t) ((dat2 V c).after 3 t) = _
      rw [after2_3, iblk2_0, iblk2_1, iblk2_2, gated_block]
      exact cut2_3 t _)
    covered2_3

end Cert.Proof.Gu

end
-- ==== Proof.GuRun.lean ====
/-
  Hand-written, untrusted. THE RUN OF `gu_proj` WITH ITS RESULTS: the generated frame's launch over the three calls, its last thread state read at
  the result arrays as well; each is what GuArrays.lean and GuTail.lean find in it.
-/
module

public import proofs.«01_k».proof.Proof.GuTail
public import Idealize.ShloMosaic.Lib.Claim
import all proofs.«01_k».proof.Proof.Gen.GuProjIdeal.Frame

@[expose] public section

noncomputable section

namespace Cert.Proof.Gu

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.GuProjIdeal Cert.GuProjIdeal.Gen Cert.Proof.Mx
open Idealize.ShloMosaic.Pipeline (Dat)

/-- The gains as a row, as the host lays them out for the call. -/
def gain (g : Vec Ideal S8192 .f32) : Vec Ideal S1x8192 .f32 := shapeCast S1x8192 g shapeCasts_S8192_S1x8192

variable (m : (ℓ : Loc nD τ sig) → Buf (Elt Ideal) ℓ) (ρ : Dev nD → PrngReg)

theorem entry_gain (c : Dev nD) : V1 m ρ c main_v0 = gain (m ((c : Thread nD τ).loc main_arg1)) := by
  unfold_abbrev_sides
  after_results
  rfl

theorem entry_x (c : Dev nD) : V1 m ρ c main_arg0 = (m ((c : Thread nD τ).loc main_arg0)) := W1_args m ρ c main_arg0 (by decide)

theorem entry_codes (c : Dev nD) : W2 m ρ c (Proc.devRef .tc main_v1_0) = codes (m ((c : Thread nD τ).loc main_arg0)) (gain (m ((c : Thread nD τ).loc main_arg1))) := by
  have h := codes_array (V1 m ρ) c
  rw [entry_x, entry_gain] at h
  exact (W2_arr m ρ c 2).trans h

theorem entry_scale (c : Dev nD) : W2 m ρ c (Proc.devRef .tc main_v1_1) = scale (m ((c : Thread nD τ).loc main_arg0)) (gain (m ((c : Thread nD τ).loc main_arg1))) := by
  have h := scale_array (V1 m ρ) c
  rw [entry_x, entry_gain] at h
  exact (W2_arr m ρ c 3).trans h

theorem entry_spread (c : Dev nD) : W2 m ρ c (Proc.devRef .tc main_v1_3) = View.canon (spreadPieces spreadShapes (codes (m ((c : Thread nD τ).loc main_arg0)) (gain (m ((c : Thread nD τ).loc main_arg1))))) := by
  have h := spread_array (V1 m ρ) c
  rw [entry_x, entry_gain] at h
  exact (W2_arr m ρ c 5).trans h

theorem entry_linear (c : Dev nD) (he : ∀ i, ((m ((c : Thread nD τ).loc main_arg3) : Vec Ideal S256x14336 .i8) i : BitVec 8).toNat ≤ 248) :
    W3 m ρ c (Proc.devRef .tc main_v2) = layer (m ((c : Thread nD τ).loc main_arg0)) (gain (m ((c : Thread nD τ).loc main_arg1))) (m ((c : Thread nD τ).loc main_arg2)) (m ((c : Thread nD τ).loc main_arg3)) := by
  have a1 : V2 m ρ c main_arg2 = m ((c : Thread nD τ).loc main_arg2) := W2_args m ρ c main_arg2 (by decide)
  have a2 : V2 m ρ c main_arg3 = m ((c : Thread nD τ).loc main_arg3) := W2_args m ρ c main_arg3 (by decide)
  have h := out_array (V2 m ρ) c (m ((c : Thread nD τ).loc main_arg0)) (gain (m ((c : Thread nD τ).loc main_arg1))) (entry_spread m ρ c) (entry_scale m ρ c)
    (fun i => by rw [a2]; exact he i)
  rw [a1, a2] at h
  exact (W3_arr m ρ c 4).trans h

theorem end_out (c : Dev nD) (he : ∀ i, ((m ((c : Thread nD τ).loc main_arg3) : Vec Ideal S256x14336 .i8) i : BitVec 8).toNat ≤ 248) :
    W4 m ρ c (Proc.devRef .tc main_v3) = gated (layer (m ((c : Thread nD τ).loc main_arg0)) (gain (m ((c : Thread nD τ).loc main_arg1))) (m ((c : Thread nD τ).loc main_arg2)) (m ((c : Thread nD τ).loc main_arg3))) (m ((c : Thread nD τ).loc main_arg4)) (m ((c : Thread nD τ).loc main_arg5)) := by
  have a4 : V3 m ρ c main_arg4 = m ((c : Thread nD τ).loc main_arg4) := W3_args m ρ c main_arg4 (by decide)
  have a5 : V3 m ρ c main_arg5 = m ((c : Thread nD τ).loc main_arg5) := W3_args m ρ c main_arg5 (by decide)
  have y : V3 m ρ c main_v2 = layer (m ((c : Thread nD τ).loc main_arg0)) (gain (m ((c : Thread nD τ).loc main_arg1))) (m ((c : Thread nD τ).loc main_arg2)) (m ((c : Thread nD τ).loc main_arg3)) := entry_linear m ρ c he
  have h := gated_array (V3 m ρ) c
  rw [a4, a5, y] at h
  exact (W4_arr m ρ c 3).trans h

set_option backward.isDefEq.respectTransparency.types false in
/-- Every weakly fair execution ends with the codes, the scales and the gated activation in the result arrays and the arguments as launched. -/
theorem run (he : ∀ (c : Dev nD) (i), ((m ((c : Thread nD τ).loc main_arg3) : Vec Ideal S256x14336 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v1_0) = codes (m ((c.tc : Thread nD τ).loc main_arg0)) (gain (m ((c.tc : Thread nD τ).loc main_arg1)))
      ∧ r.2.mem ((c.tc : Thread nD τ).loc main_v1_1) = scale (m ((c.tc : Thread nD τ).loc main_arg0)) (gain (m ((c.tc : Thread nD τ).loc main_arg1)))
      ∧ r.2.mem ((c.tc : Thread nD τ).loc main_v3) = gated (layer (m ((c.tc : Thread nD τ).loc main_arg0)) (gain (m ((c.tc : Thread nD τ).loc main_arg1))) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v1_0 (by decide))).trans ((W4_of m ρ c main_v1_0 (by decide +kernel)).trans ((W3_of m ρ c main_v1_0 (by decide +kernel)).trans (entry_codes m ρ c))),
       (h c _ (mem_uc main_v1_1 (by decide))).trans ((W4_of m ρ c main_v1_1 (by decide +kernel)).trans ((W3_of m ρ c main_v1_1 (by decide +kernel)).trans (entry_scale m ρ c))),
       (h c _ (mem_uc main_v3 (by decide))).trans (end_out m ρ c (he c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Proof.Gu

end
-- ==== Proof.GuRef.lean ====
/-
  Hand-written, untrusted. THE REFERENCE OF `gu_proj` GIVES THE KERNEL'S RESULTS: its quantiser's codes and scales are the kernel's, and its product is
  the kernel's layer when every scale byte is at most 248 (Layer.lean); the gated activation after it is the kernel's.
-/
module

public import proofs.«01_k».proof.Proof.GuRun
public import proofs.«01_k».proof.Proof.Gen.GuProjReferenceIdeal.Value
import all proofs.«01_k».proof.Proof.Gen.GuProjReferenceIdeal.Frame
import all proofs.«01_k».proof.Proof.Gen.GuProjReferenceIdeal.Value

@[expose] public section

noncomputable section

namespace Cert.Proof.Gu.Ref

open Idealize.ShloMosaic Idealize.ShloMosaic.TcCoe Idealize.SL.Sem Cert.Proof.Mx
open Cert.GuProjReferenceIdeal Cert.GuProjReferenceIdeal.Gen Cert.GuProjReferenceIdeal.Value

theorem shapes : RefShapes 256 8192 7168 14336 where
  rows := rfl
  cols := rfl
  split := shapeCasts_S256x14336_S256x7168x2
  slice := fun h => match h with
    | 0 => slices_S256x7168x2_o0_0_0_S256x7168x1
    | 1 => slices_S256x7168x2_o0_0_1_S256x7168x1
  drop := shapeCasts_S256x7168x1_S256x7168
  mid := shapeCasts_S256x7168_S256x1x7168
  rep := broadcasts_S256x1x7168_S256x32x7168
  flat := shapeCasts_S256x32x7168_S8192x7168
  last := shapeCasts_S56x7168_S56x7168x1
  stack := concatenates_S56x7168x1_S56x7168x1_S56x7168x2_d2
  join := shapeCasts_S56x7168x2_S56x14336
  lanes := broadcasts_S56x1_S56x14336

/-! ## The quantiser and the product, block by block -/

section
variable (x : Vec Ideal S56x8192 .f32) (g : Vec Ideal S1x8192 .f32) (w : Vec Ideal S8192x7168 .i8) (e : Vec Ideal S256x14336 .i8)
  (a b : Vec Ideal S56x7168 .f32)

theorem ld_x : View.ld x r0_0 = x :=
  View.ld_unit_zero (funext fun a => by fin_cases a <;> rfl) _ _

theorem ld_g : View.ld g r0_1 = g :=
  View.ld_unit_zero (funext fun a => by fin_cases a <;> rfl) _ _

theorem ld_w : View.ld w r0_2 = w :=
  View.ld_unit_zero (funext fun a => by fin_cases a <;> rfl) _ _

theorem ld_e : View.ld e r0_3 = e :=
  View.ld_unit_zero (funext fun a => by fin_cases a <;> rfl) _ _

theorem ld_a : View.ld a r0_5 = a :=
  View.ld_unit_zero (funext fun a => by fin_cases a <;> rfl) _ _

theorem codes_eq : k0_pay4 (F := Ideal) x g = codes x g := by
  sl_kernel_rfl

theorem scale_eq : k0_pay5 (F := Ideal) x g = scale x g := by
  sl_kernel_rfl

theorem codes_block : out0_6 (F := Ideal) x g w e a b = codes x g := by
  unfold out0_6
  rw [ld_x, ld_g]
  exact (View.canon_unit_zero (funext fun a => by fin_cases a <;> rfl) _ _).trans (codes_eq x g)

theorem scale_block : out0_7 (F := Ideal) x g w e a b = scale x g := by
  unfold out0_7
  rw [ld_x, ld_g]
  exact (View.canon_unit_zero (funext fun a => by fin_cases a <;> rfl) _ _).trans (scale_eq x g)

theorem product_block : out0_8 (F := Ideal) x g w e a b = View.canon [⟨r0_5, gated (refOut shapes (k0_pay6 (F := Ideal) (k0_pay4 (F := Ideal) (View.ld x r0_0) (View.ld g r0_1)))
    (k0_pay3 (F := Ideal) (View.ld x r0_0) (View.ld g r0_1)) (View.ld w r0_2) (View.ld e r0_3)) (View.ld a r0_5) (View.ld b r0_5)⟩] := by
  sl_kernel_rfl

theorem code_plain (b : Fin 56) (s : Fin 8192) : (k0_pay6 (F := Ideal) (codes x g) (ix2 b s) : EReal) = codes x g (ix2 b s) := rfl

theorem scale_lane (b : Fin 56) : (k0_pay3 (F := Ideal) x g (ix2 b (0 : Fin 1)) : EReal) = (scale x g (ix2 b (0 : Fin 128)) : EReal) := by
  have h : scale x g = broadcastTo (M2 56 128) (shapeCast (M2 56 1) (k0_pay3 (F := Ideal) x g) (by decide)) (by decide) := by sl_kernel_rfl
  rw [h]
  generalize k0_pay3 (F := Ideal) x g = z
  pointwise

theorem out_block (he : ∀ i, (e i : BitVec 8).toNat ≤ 248) : out0_8 (F := Ideal) x g w e a b = gated (layer x g w e) a b := by
  rw [product_block, ld_x, ld_g, ld_w, ld_e, ld_a, ld_a]
  refine (View.canon_unit_zero (funext fun a => by fin_cases a <;> rfl) _ _).trans ?_
  rw [codes_eq]
  refine congrArg (fun y => gated y a b) ?_
  exact refOut_eq sizes shapes (codes x g) (scale x g) (k0_pay6 (F := Ideal) (codes x g)) (k0_pay3 (F := Ideal) x g) w e (code_plain x g) (scale_lane x g) he

end

/-! ## The arrays: one point, whole blocks -/

variable (m : (ℓ : Loc nD τ sig) → Buf (Elt Ideal) ℓ) (ρ : Dev nD → PrngReg) (c : Dev nD)

theorem idx0 : ∀ t : Fin cfg0.N, win0_0.index t (0 : Fin 2) = 0 ∧ win0_0.index t (1 : Fin 2) = 0 :=
  (by decide +kernel : ∀ t : Fin grid0.N, _)

theorem emb0 (t : Fin cfg0.N) (j : S56x8192.Idx) : ((cfg0.win 0).blk t).view.emb j = j := by
  obtain ⟨e0, e1⟩ := idx0 t
  funext a; apply Fin.ext
  match a with
  | ⟨0, _⟩ => show win0_0.index t (0 : Fin 2) * 56 + 1 * (j 0).val = (j 0).val; omega
  | ⟨1, _⟩ => show win0_0.index t (1 : Fin 2) * 8192 + 1 * (j 1).val = (j 1).val; omega

theorem iblk0 (t : Fin cfg0.N) : iblk m c 0 t = V m c main_arg0 := by
  funext j; show V m c main_arg0 (((cfg0.win 0).blk t).view.emb j) = V m c main_arg0 j; rw [emb0]

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S1x8192.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem iblk1 (t : Fin cfg0.N) : iblk m c 1 t = V m c main_v0 := by
  funext j; show V m c main_v0 (((cfg0.win 1).blk t).view.emb j) = V m c main_v0 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S8192x7168.Idx) : ((cfg0.win 2).blk t).view.emb j = j := by
  obtain ⟨e0, e1⟩ := idx2 t
  funext a; apply Fin.ext
  match a with
  | ⟨0, _⟩ => show win0_2.index t (0 : Fin 2) * 8192 + 1 * (j 0).val = (j 0).val; omega
  | ⟨1, _⟩ => show win0_2.index t (1 : Fin 2) * 7168 + 1 * (j 1).val = (j 1).val; omega

theorem iblk2 (t : Fin cfg0.N) : iblk m c 2 t = V m c main_arg2 := by
  funext j; show V m c main_arg2 (((cfg0.win 2).blk t).view.emb j) = V m c main_arg2 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S256x14336.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 14336 + 1 * (j 1).val = (j 1).val; omega

theorem iblk3 (t : Fin cfg0.N) : iblk m c 3 t = V m c main_arg3 := by
  funext j; show V m c main_arg3 (((cfg0.win 3).blk t).view.emb j) = V m c main_arg3 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S56x7168.Idx) : ((cfg0.win 4).blk t).view.emb j = j := by
  obtain ⟨e0, e1⟩ := idx4 t
  funext a; apply Fin.ext
  match a with
  | ⟨0, _⟩ => show win0_4.index t (0 : Fin 2) * 56 + 1 * (j 0).val = (j 0).val; omega
  | ⟨1, _⟩ => show win0_4.index t (1 : Fin 2) * 7168 + 1 * (j 1).val = (j 1).val; omega

theorem iblk4 (t : Fin cfg0.N) : iblk m c 4 t = V m c main_arg4 := by
  funext j; show V m c main_arg4 (((cfg0.win 4).blk t).view.emb j) = V m c main_arg4 j; rw [emb4]

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S56x7168.Idx) : ((cfg0.win 5).blk t).view.emb j = j := by
  obtain ⟨e0, e1⟩ := idx5 t
  funext a; apply Fin.ext
  match a with
  | ⟨0, _⟩ => show win0_5.index t (0 : Fin 2) * 56 + 1 * (j 0).val = (j 0).val; omega
  | ⟨1, _⟩ => show win0_5.index t (1 : Fin 2) * 7168 + 1 * (j 1).val = (j 1).val; omega

theorem iblk5 (t : Fin cfg0.N) : iblk m c 5 t = V m c main_arg5 := by
  funext j; show V m c main_arg5 (((cfg0.win 5).blk t).view.emb j) = V m c main_arg5 j; rw [emb5]

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S56x8192.Idx) : ((cfg0.win 6).blk t).view.emb j = j := by
  obtain ⟨e0, e1⟩ := idx6 t
  funext a; apply Fin.ext
  match a with
  | ⟨0, _⟩ => show win0_6.index t (0 : Fin 2) * 56 + 1 * (j 0).val = (j 0).val; omega
  | ⟨1, _⟩ => show win0_6.index t (1 : Fin 2) * 8192 + 1 * (j 1).val = (j 1).val; omega

theorem cut6 (t : Fin cfg0.N) (X : Vec Ideal S56x8192 .fp8e4m3) :
    (cfg0.win 6).cut (grid0.coords t) X = ((cfg0.win 6).blk t).view.read (Elt Ideal) X := by
  funext j
  show X j = X (((cfg0.win 6).blk t).view.emb j)
  rw [emb6]

theorem covered6 (i : S56x8192.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem idx7 : ∀ t : Fin cfg0.N, win0_7.index t (0 : Fin 2) = 0 ∧ win0_7.index t (1 : Fin 2) = 0 :=
  (by decide +kernel : ∀ t : Fin grid0.N, _)

theorem emb7 (t : Fin cfg0.N) (j : S56x128.Idx) : ((cfg0.win 7).blk t).view.emb j = j := by
  obtain ⟨e0, e1⟩ := idx7 t
  funext a; apply Fin.ext
  match a with
  | ⟨0, _⟩ => show win0_7.index t (0 : Fin 2) * 56 + 1 * (j 0).val = (j 0).val; omega
  | ⟨1, _⟩ => show win0_7.index t (1 : Fin 2) * 128 + 1 * (j 1).val = (j 1).val; omega

theorem cut7 (t : Fin cfg0.N) (X : Vec Ideal S56x128 .f32) :
    (cfg0.win 7).cut (grid0.coords t) X = ((cfg0.win 7).blk t).view.read (Elt Ideal) X := by
  funext j
  show X j = X (((cfg0.win 7).blk t).view.emb j)
  rw [emb7]

theorem covered7 (i : S56x128.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem idx8 : ∀ t : Fin cfg0.N, win0_8.index t (0 : Fin 2) = 0 ∧ win0_8.index t (1 : Fin 2) = 0 :=
  (by decide +kernel : ∀ t : Fin grid0.N, _)

theorem emb8 (t : Fin cfg0.N) (j : S56x7168.Idx) : ((cfg0.win 8).blk t).view.emb j = j := by
  obtain ⟨e0, e1⟩ := idx8 t
  funext a; apply Fin.ext
  match a with
  | ⟨0, _⟩ => show win0_8.index t (0 : Fin 2) * 56 + 1 * (j 0).val = (j 0).val; omega
  | ⟨1, _⟩ => show win0_8.index t (1 : Fin 2) * 7168 + 1 * (j 1).val = (j 1).val; omega

theorem cut8 (t : Fin cfg0.N) (X : Vec Ideal S56x7168 .f32) :
    (cfg0.win 8).cut (grid0.coords t) X = ((cfg0.win 8).blk t).view.read (Elt Ideal) X := by
  funext j
  show X j = X (((cfg0.win 8).blk t).view.emb j)
  rw [emb8]

theorem covered8 (i : S56x7168.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem entry_gain : V m c main_v0 = gain (m ((c : Thread nD τ).loc main_arg1)) := by
  unfold_abbrev_sides
  after_results
  rfl

theorem codes_array : (dats m 0 c).arrAt 6 cfg0.N = codes (m ((c : Thread nD τ).loc main_arg0)) (gain (m ((c : Thread nD τ).loc main_arg1))) :=
  (dats m 0 c).arrAt_eq_of_cover 6 (codes (m ((c : Thread nD τ).loc main_arg0)) (gain (m ((c : Thread nD τ).loc main_arg1))))
    (fun t _ => by
      show (cfg0.win 6).cut (grid0.coords t) ((dats m 0 c).after 6 t) = _
      rw [after0_6, iblk0, iblk1, iblk2, iblk3, iblk4, iblk5, entry_gain, V_main_arg0, V_main_arg2, V_main_arg3, V_main_arg4, V_main_arg5, codes_block]
      exact cut6 t _)
    covered6

theorem scale_array : (dats m 0 c).arrAt 7 cfg0.N = scale (m ((c : Thread nD τ).loc main_arg0)) (gain (m ((c : Thread nD τ).loc main_arg1))) :=
  (dats m 0 c).arrAt_eq_of_cover 7 (scale (m ((c : Thread nD τ).loc main_arg0)) (gain (m ((c : Thread nD τ).loc main_arg1))))
    (fun t _ => by
      show (cfg0.win 7).cut (grid0.coords t) ((dats m 0 c).after 7 t) = _
      rw [after0_7, iblk0, iblk1, iblk2, iblk3, iblk4, iblk5, entry_gain, V_main_arg0, V_main_arg2, V_main_arg3, V_main_arg4, V_main_arg5, scale_block]
      exact cut7 t _)
    covered7

theorem out_array (he : ∀ i, (((m ((c : Thread nD τ).loc main_arg3)) : Vec Ideal S256x14336 .i8) i : BitVec 8).toNat ≤ 248) : (dats m 0 c).arrAt 8 cfg0.N = gated (layer (m ((c : Thread nD τ).loc main_arg0)) (gain (m ((c : Thread nD τ).loc main_arg1))) (m ((c : Thread nD τ).loc main_arg2)) (m ((c : Thread nD τ).loc main_arg3))) (m ((c : Thread nD τ).loc main_arg4)) (m ((c : Thread nD τ).loc main_arg5)) :=
  (dats m 0 c).arrAt_eq_of_cover 8 (gated (layer (m ((c : Thread nD τ).loc main_arg0)) (gain (m ((c : Thread nD τ).loc main_arg1))) (m ((c : Thread nD τ).loc main_arg2)) (m ((c : Thread nD τ).loc main_arg3))) (m ((c : Thread nD τ).loc main_arg4)) (m ((c : Thread nD τ).loc main_arg5)))
    (fun t _ => by
      show (cfg0.win 8).cut (grid0.coords t) ((dats m 0 c).after 8 t) = _
      rw [after0_8, iblk0, iblk1, iblk2, iblk3, iblk4, iblk5, entry_gain, V_main_arg0, V_main_arg2, V_main_arg3, V_main_arg4, V_main_arg5, out_block _ _ _ _ _ _ he]
      exact cut8 t _)
    covered8

/-- Every weakly fair execution of the reference ends with the kernel's codes, scales and gated activation in its result arrays and the arguments as launched. -/
theorem run (he : ∀ (c : Dev nD) (i), (((m ((c.tc : Thread nD τ).loc main_arg3)) : Vec Ideal S256x14336 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v1_0) = codes (m ((c.tc : Thread nD τ).loc main_arg0)) (gain (m ((c.tc : Thread nD τ).loc main_arg1)))
      ∧ r.2.mem ((c.tc : Thread nD τ).loc main_v1_1) = scale (m ((c.tc : Thread nD τ).loc main_arg0)) (gain (m ((c.tc : Thread nD τ).loc main_arg1)))
      ∧ r.2.mem ((c.tc : Thread nD τ).loc main_v1_2) = gated (layer (m ((c.tc : Thread nD τ).loc main_arg0)) (gain (m ((c.tc : Thread nD τ).loc main_arg1))) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (Cert.GuProjReferenceIdeal.Value.run_blocks m ρ)
  obtain ⟨h0, h1, h2, k⟩ := h c
  exact ⟨h0.trans (codes_array m c), h1.trans (scale_array m c), h2.trans (out_array m c (he c)), k⟩

end Cert.Proof.Gu.Ref

end
-- ==== Proof.DownBody.lean ====
/-
  Hand-written, untrusted. THE LINEAR CALL of `down_proj`: its printed body, of 224 blocks of weight rows, is the generic block of Layer.lean (`body_eq`).
-/
module

public import proofs.«01_k».proof.Proof.Layer
public import proofs.«01_k».proof.Proof.Gen.DownProjIdeal.Frame
import all proofs.«01_k».proof.Proof.Gen.DownProjIdeal.Frame

@[expose] public section

noncomputable section

namespace Cert.Proof.Down

open Idealize.ShloMosaic Cert.DownProjIdeal Cert.DownProjIdeal.Gen Cert.Proof.Mx

theorem scaleFacts : ScaleFacts 224 56 where
  four := rfl
  bitcasts := by decide
  iotas := by decide
  up := by decide
  down := by decide
  lead := by decide
  slices := by decide

theorem shapes : BodyShapes 224 56 7168 14336 where
  scales := scaleFacts
  rows := rfl
  spread := rfl
  stack := by decide +kernel
  whole := by decide

variable (c : Dev nD) (i : grid1.Coords) (arg1 : Memref sig .tc .vmem S112x14336 .bf16) (harg1 : arg1.IsWhole) (arg2 : Memref sig .tc .vmem S7168x256 .i8) (harg2 : arg2.IsWhole)
  (arg3 : Memref sig .tc .vmem S224x512 .i8) (harg3 : arg3.IsWhole) (arg4 : Memref sig .tc .vmem S56x128 .f32) (harg4 : arg4.IsWhole)
  (arg5 : Memref sig .tc .vmem S56x512 .f32) (harg5 : arg5.IsWhole) (arg6 : Memref sig .tc .vmem S4x56x256 .i32) (harg6 : arg6.IsWhole)
  (x0 : Vec Ideal S112x14336 .bf16) (x1 : Vec Ideal S7168x256 .i8) (x2 : Vec Ideal S224x512 .i8) (x3 : Vec Ideal S56x128 .f32)

/-- The eight stores of the scratch. -/
theorem scratch_eq : kernelRun1_A.sl.HS0_8 (F := Ideal) c arg3 harg3 x2 = scratchPieces scaleFacts (loadedScales arg3 harg3 x2) := by
  sl_kernel_rfl

/-- The printed body is the generic block. -/
theorem body_eq : out1_A_4 (F := Ideal) c i arg1 harg1 arg2 harg2 arg3 harg3 arg4 harg4 arg5 harg5 arg6 harg6 x0 x1 x2 x3
    = bodyBlock arg1 harg1 arg2 harg2 arg4 harg4 arg6 shapes x0 x1 x3 (kernelRun1_A.sl.HS0_8 (F := Ideal) c arg3 harg3 x2) := by
  unfold out1_A_4
  rw [View.read_writes_junk_eq_canon]
  dsimp only [kernelRun1_A]
  refine (View.canon_unit_zero (funext fun a => by fin_cases a <;> rfl) _ _).trans ?_
  sl_kernel_rfl

/-- What the body leaves in the output's block, entry by entry. -/
theorem out_apply (he : ∀ i, (x2 i : BitVec 8).toNat ≤ 248) (codes : FVec Ideal (M2 56 7168) .fp8e4m3)
    (hx : ∀ (h : Fin 2) (b : Fin 56) (u : Fin 14336), (x0 (ix2 (⟨56 * h.val + b.val, by omega⟩ : Fin 112) u) : EReal)
      = if u.val % 2 = h.val then (codes (ix2 b (⟨u.val / 2, by omega⟩ : Fin 7168)) : EReal) else 0)
    (b : Fin 56) (j : Fin 512) :
    (out1_A_4 (F := Ideal) c i arg1 harg1 arg2 harg2 arg3 harg3 arg4 harg4 arg5 harg5 arg6 harg6 x0 x1 x2 x3 (ix2 b j) : EReal)
      = (∑ s : Fin 7168, (codes (ix2 b s) : EReal) * kernelWeight (j.val % 2) (x1 (ix2 s (⟨j.val / 2, by omega⟩ : Fin 256)))
          (x2 (ix2 (⟨s.val / 32, by omega⟩ : Fin 224) j))) * (x3 (ix2 b (0 : Fin 128)) : EReal) := by
  rw [body_eq, scratch_eq]
  exact bodyBlock_apply arg1 harg1 arg2 harg2 arg3 harg3 arg4 harg4 arg6 shapes x0 x1 x2 x3 he codes hx b j

end Cert.Proof.Down

end
-- ==== Proof.DownQuant.lean ====
/-
  Hand-written, untrusted. THE QUANTISING CALL of `down_proj`: the codes and the scales it leaves, as printed, and the spread activation, which is the
  one of Spread.lean.
-/
module

public import proofs.«01_k».proof.Proof.Spread
public import proofs.«01_k».proof.Proof.Gen.DownProjIdeal.Frame
import all proofs.«01_k».proof.Proof.Gen.DownProjIdeal.Frame

@[expose] public section

noncomputable section

namespace Cert.Proof.Down

open Idealize.ShloMosaic Cert.DownProjIdeal Cert.DownProjIdeal.Gen Cert.Proof.Mx

theorem spreadShapes : SpreadShapes 56 7168 14336 := ⟨rfl, rfl⟩

/-- The codes of an activation. -/
def codes (x : Vec Ideal S56x7168 .f32) : FVec Ideal (M2 56 7168) .fp8e4m3 := k0_pay5 (F := Ideal) x

/-- Its scales, one per row, repeated over 128 lanes. -/
def scale (x : Vec Ideal S56x7168 .f32) : FVec Ideal (M2 56 128) .f32 := k0_pay6 (F := Ideal) x

variable (x : Vec Ideal S56x7168 .f32)

theorem ld_x : View.ld x r0_0 = x :=
  View.ld_unit_zero (funext fun a => by fin_cases a <;> rfl) _ _

/-- The block of codes the body leaves. -/
theorem codes_block : out0_1 (F := Ideal) x = codes x := by
  unfold out0_1
  rw [ld_x]
  exact View.canon_unit_zero (funext fun a => by fin_cases a <;> rfl) _ _

/-- The block of scales the body leaves. -/
theorem scale_block : out0_2 (F := Ideal) x = scale x := by
  unfold out0_2
  rw [ld_x]
  exact View.canon_unit_zero (funext fun a => by fin_cases a <;> rfl) _ _

/-- The spread activation the body leaves. -/
theorem spread_block : out0_4 (F := Ideal) x = View.canon (spreadPieces spreadShapes (codes x)) := by
  have h : out0_4 (F := Ideal) x = View.canon (spreadPieces spreadShapes (codes (View.ld x r0_0))) := by sl_kernel_rfl
  rw [h, ld_x]

end Cert.Proof.Down

end
-- ==== Proof.DownArrays.lean ====
/-
  Hand-written, untrusted. THE ARRAYS the two calls of `down_proj` leave: the quantising call's one point writes its whole blocks (`codes_array`,
  `scale_array`, `spread_array`); the linear call's 16 points write 512 columns each of the layer's result (`out_array`).
-/
module

public import proofs.«01_k».proof.Proof.DownBody
public import proofs.«01_k».proof.Proof.DownQuant
import all proofs.«01_k».proof.Proof.Gen.DownProjIdeal.Frame

@[expose] public section

noncomputable section

namespace Cert.Proof.Down

open Idealize.ShloMosaic Idealize.ShloMosaic.TcCoe Idealize.SL.Sem Cert.DownProjIdeal Cert.DownProjIdeal.Gen Cert.Proof.Mx

theorem sizes : LayerSizes 224 7168 4096 8192 := ⟨rfl, rfl⟩

/-- The layer's result from its activation, weights and scale bytes. -/
abbrev layer (x : Vec Ideal S56x7168 .f32) (w : Vec Ideal S7168x4096 .i8) (e : Vec Ideal S224x8192 .i8) : Vec Ideal S56x8192 .f32 :=
  layerOut sizes (codes x) (scale x) w e

variable (V : (c : Dev nD) → (b : Ref sig .tc) → Buf (Elt Ideal) ((c : Thread nD τ).loc b)) (c : Dev nD)

/-! ## The quantising call: one point, whole blocks -/

theorem idx0_0 : ∀ t : Fin cfg0.N, win0_0.index t (0 : Fin 2) = 0 ∧ win0_0.index t (1 : Fin 2) = 0 :=
  (by decide +kernel : ∀ t : Fin grid0.N, _)
theorem emb0_0 (t : Fin cfg0.N) (j : S56x7168.Idx) : ((cfg0.win 0).blk t).view.emb j = j := by
  obtain ⟨e0, e1⟩ := idx0_0 t
  funext a; apply Fin.ext
  match a with
  | ⟨0, _⟩ => show win0_0.index t (0 : Fin 2) * 56 + 1 * (j 0).val = (j 0).val; omega
  | ⟨1, _⟩ => show win0_0.index t (1 : Fin 2) * 7168 + 1 * (j 1).val = (j 1).val; omega

theorem idx0_1 : ∀ t : Fin cfg0.N, win0_1.index t (0 : Fin 2) = 0 ∧ win0_1.index t (1 : Fin 2) = 0 :=
  (by decide +kernel : ∀ t : Fin grid0.N, _)
theorem emb0_1 (t : Fin cfg0.N) (j : S56x7168.Idx) : ((cfg0.win 1).blk t).view.emb j = j := by
  obtain ⟨e0, e1⟩ := idx0_1 t
  funext a; apply Fin.ext
  match a with
  | ⟨0, _⟩ => show win0_1.index t (0 : Fin 2) * 56 + 1 * (j 0).val = (j 0).val; omega
  | ⟨1, _⟩ => show win0_1.index t (1 : Fin 2) * 7168 + 1 * (j 1).val = (j 1).val; omega

theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (j : S56x128.Idx) : ((cfg0.win 2).blk t).view.emb j = j := by
  obtain ⟨e0, e1⟩ := idx0_2 t
  funext a; apply Fin.ext
  match a with
  | ⟨0, _⟩ => show win0_2.index t (0 : Fin 2) * 56 + 1 * (j 0).val = (j 0).val; omega
  | ⟨1, _⟩ => show win0_2.index t (1 : Fin 2) * 128 + 1 * (j 1).val = (j 1).val; omega

theorem idx0_4 : ∀ t : Fin cfg0.N, win0_4.index t (0 : Fin 2) = 0 ∧ win0_4.index t (1 : Fin 2) = 0 :=
  (by decide +kernel : ∀ t : Fin grid0.N, _)
theorem emb0_4 (t : Fin cfg0.N) (j : S112x14336.Idx) : ((cfg0.win 4).blk t).view.emb j = j := by
  obtain ⟨e0, e1⟩ := idx0_4 t
  funext a; apply Fin.ext
  match a with
  | ⟨0, _⟩ => show win0_4.index t (0 : Fin 2) * 112 + 1 * (j 0).val = (j 0).val; omega
  | ⟨1, _⟩ => show win0_4.index t (1 : Fin 2) * 14336 + 1 * (j 1).val = (j 1).val; omega

theorem cut0_1 (t : Fin cfg0.N) (X : Vec Ideal S56x7168 .fp8e4m3) :
    (cfg0.win 1).cut (grid0.coords t) X = ((cfg0.win 1).blk t).view.read (Elt Ideal) X := by
  funext j
  show X j = X (((cfg0.win 1).blk t).view.emb j)
  rw [emb0_1]

theorem covered0_1 (i : S56x7168.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb0_1] at h⟩

theorem cut0_2 (t : Fin cfg0.N) (X : Vec Ideal S56x128 .f32) :
    (cfg0.win 2).cut (grid0.coords t) X = ((cfg0.win 2).blk t).view.read (Elt Ideal) X := by
  funext j
  show X j = X (((cfg0.win 2).blk t).view.emb j)
  rw [emb0_2]

theorem covered0_2 (i : S56x128.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb0_2] at h⟩

theorem cut0_4 (t : Fin cfg0.N) (X : Vec Ideal S112x14336 .bf16) :
    (cfg0.win 4).cut (grid0.coords t) X = ((cfg0.win 4).blk t).view.read (Elt Ideal) X := by
  funext j
  show X j = X (((cfg0.win 4).blk t).view.emb j)
  rw [emb0_4]

theorem covered0_4 (i : S112x14336.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb0_4] at h⟩

theorem iblk0_0 (t : Fin cfg0.N) : iblk0 V c 0 t = V c main_arg2 := by
  funext j; show V c main_arg2 (((cfg0.win 0).blk t).view.emb j) = V c main_arg2 j; rw [emb0_0]

theorem codes_array : (dat0 V c).arrAt 1 cfg0.N = codes (V c main_arg2) :=
  (dat0 V c).arrAt_eq_of_cover 1 (codes (V c main_arg2))
    (fun t _ => by
      show (cfg0.win 1).cut (grid0.coords t) ((dat0 V c).after 1 t) = _
      rw [after0_1, iblk0_0, codes_block]
      exact cut0_1 t _)
    covered0_1

theorem scale_array : (dat0 V c).arrAt 2 cfg0.N = scale (V c main_arg2) :=
  (dat0 V c).arrAt_eq_of_cover 2 (scale (V c main_arg2))
    (fun t _ => by
      show (cfg0.win 2).cut (grid0.coords t) ((dat0 V c).after 2 t) = _
      rw [after0_2, iblk0_0, scale_block]
      exact cut0_2 t _)
    covered0_2

theorem spread_array : (dat0 V c).arrAt 4 cfg0.N = View.canon (spreadPieces spreadShapes (codes (V c main_arg2))) :=
  (dat0 V c).arrAt_eq_of_cover 4 (View.canon (spreadPieces spreadShapes (codes (V c main_arg2))))
    (fun t _ => by
      show (cfg0.win 4).cut (grid0.coords t) ((dat0 V c).after 4 t) = _
      rw [after0_4, iblk0_0, spread_block]
      exact cut0_4 t _)
    covered0_4

/-! ## The linear call: point `t` reads columns 256 t … of the weights and 512 t … of the scale bytes and writes columns 512 t … 512 t + 511 -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)

theorem lt_points (t : Fin cfg1.N) : t.val < 16 := by
  have h : ∀ t : Fin grid1.N, t.val < 16 := by decide +kernel
  exact h t

theorem emb1_0 (t : Fin cfg1.N) (j : S112x14336.Idx) : ((cfg1.win 0).blk t).view.emb j = j := by
  obtain ⟨e0, e1⟩ := idx1_0 t
  funext a; apply Fin.ext
  match a with
  | ⟨0, _⟩ => show win1_0.index t (0 : Fin 2) * 112 + 1 * (j 0).val = (j 0).val; omega
  | ⟨1, _⟩ => show win1_0.index t (1 : Fin 2) * 14336 + 1 * (j 1).val = (j 1).val; omega
theorem emb1_3 (t : Fin cfg1.N) (j : S56x128.Idx) : ((cfg1.win 3).blk t).view.emb j = j := by
  obtain ⟨e0, e1⟩ := idx1_3 t
  funext a; apply Fin.ext
  match a with
  | ⟨0, _⟩ => show win1_3.index t (0 : Fin 2) * 56 + 1 * (j 0).val = (j 0).val; omega
  | ⟨1, _⟩ => show win1_3.index t (1 : Fin 2) * 128 + 1 * (j 1).val = (j 1).val; omega
theorem emb1_1 (t : Fin cfg1.N) (s : Fin 7168) (q : Fin 256) :
    ((cfg1.win 1).blk t).view.emb (ix2 s q) = ix2 s (⟨256 * t.val + q.val, by have := lt_points t; omega⟩ : Fin 4096) := by
  obtain ⟨e0, e1⟩ := idx1_1 t
  funext a; apply Fin.ext
  match a with
  | ⟨0, _⟩ => show win1_1.index t (0 : Fin 2) * 7168 + 1 * s.val = s.val; omega
  | ⟨1, _⟩ => show win1_1.index t (1 : Fin 2) * 256 + 1 * q.val = 256 * t.val + q.val; omega
theorem emb1_2 (t : Fin cfg1.N) (s : Fin 224) (q : Fin 512) :
    ((cfg1.win 2).blk t).view.emb (ix2 s q) = ix2 s (⟨512 * t.val + q.val, by have := lt_points t; omega⟩ : Fin 8192) := by
  obtain ⟨e0, e1⟩ := idx1_2 t
  funext a; apply Fin.ext
  match a with
  | ⟨0, _⟩ => show win1_2.index t (0 : Fin 2) * 224 + 1 * s.val = s.val; omega
  | ⟨1, _⟩ => show win1_2.index t (1 : Fin 2) * 512 + 1 * q.val = 512 * t.val + q.val; omega
theorem emb1_4 (t : Fin cfg1.N) (s : Fin 56) (q : Fin 512) :
    ((cfg1.win 4).blk t).view.emb (ix2 s q) = ix2 s (⟨512 * t.val + q.val, by have := lt_points t; omega⟩ : Fin 8192) := by
  obtain ⟨e0, e1⟩ := idx1_4 t
  funext a; apply Fin.ext
  match a with
  | ⟨0, _⟩ => show win1_4.index t (0 : Fin 2) * 56 + 1 * s.val = s.val; omega
  | ⟨1, _⟩ => show win1_4.index t (1 : Fin 2) * 512 + 1 * q.val = 512 * t.val + q.val; omega

theorem covered1_4 (i : S56x8192.Idx) : ∃ t : Fin cfg1.N, (cfg1.win 4).flush t = true ∧ i ∈ ((cfg1.win 4).blk t).view.set := by
  obtain ⟨b, n, rfl⟩ : ∃ (b : Fin 56) (n : Fin 8192), i = ix2 b n := ⟨i 0, i 1, by funext a; fin_cases a <;> rfl⟩
  obtain ⟨t, ht⟩ : ∃ t : Fin cfg1.N, t.val = n.val / 512 := ⟨⟨n.val / 512, by show n.val / 512 < 16; omega⟩, rfl⟩
  have h : (ix2 b (⟨512 * t.val + n.val % 512, by have := lt_points t; omega⟩ : Fin 8192) : S56x8192.Idx) ∈ ((cfg1.win 4).blk t).view.set :=
    emb1_4 t b (⟨n.val % 512, by omega⟩ : Fin 512) ▸ ((cfg1.win 4).blk t).view.emb_mem_set (ix2 b (⟨n.val % 512, by omega⟩ : Fin 512))
  have e : (⟨512 * t.val + n.val % 512, by have := lt_points t; omega⟩ : Fin 8192) = n := Fin.ext (by show 512 * t.val + n.val % 512 = n.val; omega)
  refine ⟨t, flush1_4 t, ?_⟩
  rw [← e]
  exact h

theorem cut1_4 (t : Fin cfg1.N) (Y : Vec Ideal S56x512 .f32) (X : Vec Ideal S56x8192 .f32)
    (h : ∀ (b : Fin 56) (q : Fin 512), Y (ix2 b q) = X (ix2 b (⟨512 * t.val + q.val, by have := lt_points t; omega⟩ : Fin 8192))) :
    (cfg1.win 4).cut (grid1.coords t) Y = ((cfg1.win 4).blk t).view.read (Elt Ideal) X := by
  funext j
  obtain ⟨b, q, rfl⟩ : ∃ (b : Fin 56) (q : Fin 512), j = ix2 b q := ⟨j 0, j 1, by funext a; fin_cases a <;> rfl⟩
  show Y (ix2 b q) = X (((cfg1.win 4).blk t).view.emb (ix2 b q))
  rw [emb1_4]
  exact h b q

theorem iblk1_0 (t : Fin cfg1.N) : iblk1 V c 0 t = V c main_v0_3 := by
  funext j; show V c main_v0_3 (((cfg1.win 0).blk t).view.emb j) = V c main_v0_3 j; rw [emb1_0]
theorem iblk1_3 (t : Fin cfg1.N) : iblk1 V c 3 t = V c main_v0_1 := by
  funext j; show V c main_v0_1 (((cfg1.win 3).blk t).view.emb j) = V c main_v0_1 j; rw [emb1_3]

theorem iblk1_1 (t : Fin cfg1.N) (s : Fin 7168) (q : Fin 256) :
    (iblk1 V c 1 t : Vec Ideal S7168x256 .i8) (ix2 s q) = V c main_arg3 (ix2 s (⟨256 * t.val + q.val, by have := lt_points t; omega⟩ : Fin 4096)) :=
  congrArg (V c main_arg3) (emb1_1 t s q)
theorem iblk1_2 (t : Fin cfg1.N) (s : Fin 224) (q : Fin 512) :
    (iblk1 V c 2 t : Vec Ideal S224x512 .i8) (ix2 s q) = V c main_arg4 (ix2 s (⟨512 * t.val + q.val, by have := lt_points t; omega⟩ : Fin 8192)) :=
  congrArg (V c main_arg4) (emb1_2 t s q)
theorem scales_small (he : ∀ i, ((V c main_arg4 : Vec Ideal S224x8192 .i8) i : BitVec 8).toNat ≤ 248) (t : Fin cfg1.N) (i : S224x512.Idx) :
    ((iblk1 V c 2 t : Vec Ideal S224x512 .i8) i : BitVec 8).toNat ≤ 248 := he _

/-- The linear call's array, when it finds the spread codes and the scales of an activation in its operands. -/
theorem out_array (x : Vec Ideal S56x7168 .f32) (h3 : V c main_v0_3 = View.canon (spreadPieces spreadShapes (codes x))) (h1 : V c main_v0_1 = scale x)
    (he : ∀ i, ((V c main_arg4 : Vec Ideal S224x8192 .i8) i : BitVec 8).toNat ≤ 248) :
    (dat1 V c).arrAt 4 cfg1.N = layer x (V c main_arg3) (V c main_arg4) :=
  (dat1 V c).arrAt_eq_of_cover 4 (layer x (V c main_arg3) (V c main_arg4))
    (fun t _ => by
      show (cfg1.win 4).cut (grid1.coords t) ((dat1 V c).after 4 t) = _
      rw [after1_4]
      refine cut1_4 t _ _ fun b q => ?_
      have ht := lt_points t
      unfold outsAt1
      rw [iblk1_0, iblk1_3, h3, h1]
      refine (out_apply c _ _ _ _ _ _ _ _ _ _ _ _ _ _ _ _ _ (scales_small V c he t) (codes x) (spreadAll_apply spreadShapes (codes x)) b q).trans ?_
      exact layerOut_block sizes (codes x) (scale x) (V c main_arg3) (V c main_arg4) t.val (by omega) (iblk1 V c 1 t) (iblk1 V c 2 t)
          (iblk1_1 V c t) (iblk1_2 V c t) b q)
    covered1_4

end Cert.Proof.Down

end
-- ==== Proof.DownFinal.lean ====
/-
  Hand-written, untrusted. THE ARRAY the last call of `down_proj` leaves: its one point reads the residual, the layer's result and the LoRA delta whole
  and writes their sum (`total_array`).
-/
module

public import proofs.«01_k».proof.Proof.DownArrays
import all proofs.«01_k».proof.Proof.Gen.DownProjIdeal.Frame

@[expose] public section

noncomputable section

namespace Cert.Proof.Down

open Idealize.ShloMosaic Idealize.ShloMosaic.TcCoe Idealize.SL.Sem Cert.DownProjIdeal Cert.DownProjIdeal.Gen Cert.Proof.Mx

/-- The residual plus the layer's result and its delta, in bf16. -/
def total (r y d : Vec Ideal S56x8192 .f32) : Vec Ideal S56x8192 .bf16 :=
  truncf .bf16 (addf (F := Ideal) (φ := .f32) r (addf (F := Ideal) (φ := .f32) y d)) (by decide)

variable (V : (c : Dev nD) → (b : Ref sig .tc) → Buf (Elt Ideal) ((c : Thread nD τ).loc b)) (c : Dev nD)

theorem idx2_0 : ∀ t : Fin cfg2.N, win2_0.index t (0 : Fin 2) = 0 ∧ win2_0.index t (1 : Fin 2) = 0 :=
  (by decide +kernel : ∀ t : Fin grid2.N, _)
theorem emb2_0 (t : Fin cfg2.N) (j : S56x8192.Idx) : ((cfg2.win 0).blk t).view.emb j = j := by
  obtain ⟨e0, e1⟩ := idx2_0 t
  funext a; apply Fin.ext
  match a with
  | ⟨0, _⟩ => show win2_0.index t (0 : Fin 2) * 56 + 1 * (j 0).val = (j 0).val; omega
  | ⟨1, _⟩ => show win2_0.index t (1 : Fin 2) * 8192 + 1 * (j 1).val = (j 1).val; omega

theorem iblk2_0 (t : Fin cfg2.N) : iblk2 V c 0 t = V c main_arg0 := by
  funext j; show V c main_arg0 (((cfg2.win 0).blk t).view.emb j) = V c main_arg0 j; rw [emb2_0]

theorem idx2_1 : ∀ t : Fin cfg2.N, win2_1.index t (0 : Fin 2) = 0 ∧ win2_1.index t (1 : Fin 2) = 0 :=
  (by decide +kernel : ∀ t : Fin grid2.N, _)
theorem emb2_1 (t : Fin cfg2.N) (j : S56x8192.Idx) : ((cfg2.win 1).blk t).view.emb j = j := by
  obtain ⟨e0, e1⟩ := idx2_1 t
  funext a; apply Fin.ext
  match a with
  | ⟨0, _⟩ => show win2_1.index t (0 : Fin 2) * 56 + 1 * (j 0).val = (j 0).val; omega
  | ⟨1, _⟩ => show win2_1.index t (1 : Fin 2) * 8192 + 1 * (j 1).val = (j 1).val; omega

theorem iblk2_1 (t : Fin cfg2.N) : iblk2 V c 1 t = V c main_v1 := by
  funext j; show V c main_v1 (((cfg2.win 1).blk t).view.emb j) = V c main_v1 j; rw [emb2_1]

theorem idx2_2 : ∀ t : Fin cfg2.N, win2_2.index t (0 : Fin 2) = 0 ∧ win2_2.index t (1 : Fin 2) = 0 :=
  (by decide +kernel : ∀ t : Fin grid2.N, _)
theorem emb2_2 (t : Fin cfg2.N) (j : S56x8192.Idx) : ((cfg2.win 2).blk t).view.emb j = j := by
  obtain ⟨e0, e1⟩ := idx2_2 t
  funext a; apply Fin.ext
  match a with
  | ⟨0, _⟩ => show win2_2.index t (0 : Fin 2) * 56 + 1 * (j 0).val = (j 0).val; omega
  | ⟨1, _⟩ => show win2_2.index t (1 : Fin 2) * 8192 + 1 * (j 1).val = (j 1).val; omega

theorem iblk2_2 (t : Fin cfg2.N) : iblk2 V c 2 t = V c main_arg1 := by
  funext j; show V c main_arg1 (((cfg2.win 2).blk t).view.emb j) = V c main_arg1 j; rw [emb2_2]

theorem idx2_3 : ∀ t : Fin cfg2.N, win2_3.index t (0 : Fin 2) = 0 ∧ win2_3.index t (1 : Fin 2) = 0 :=
  (by decide +kernel : ∀ t : Fin grid2.N, _)
theorem emb2_3 (t : Fin cfg2.N) (j : S56x8192.Idx) : ((cfg2.win 3).blk t).view.emb j = j := by
  obtain ⟨e0, e1⟩ := idx2_3 t
  funext a; apply Fin.ext
  match a with
  | ⟨0, _⟩ => show win2_3.index t (0 : Fin 2) * 56 + 1 * (j 0).val = (j 0).val; omega
  | ⟨1, _⟩ => show win2_3.index t (1 : Fin 2) * 8192 + 1 * (j 1).val = (j 1).val; omega

theorem cut2_3 (t : Fin cfg2.N) (X : Vec Ideal S56x8192 .bf16) :
    (cfg2.win 3).cut (grid2.coords t) X = ((cfg2.win 3).blk t).view.read (Elt Ideal) X := by
  funext j
  show X j = X (((cfg2.win 3).blk t).view.emb j)
  rw [emb2_3]

theorem covered2_3 (i : S56x8192.Idx) : ∃ t : Fin cfg2.N, (cfg2.win 3).flush t = true ∧ i ∈ ((cfg2.win 3).blk t).view.set :=
  ⟨(⟨0, by decide⟩ : Fin cfg2.N), flush2_3 _, by
    have h := ((cfg2.win 3).blk (⟨0, by decide⟩ : Fin cfg2.N)).view.emb_mem_set i; rwa [emb2_3] at h⟩

theorem ld_row (x : Vec Ideal S56x8192 .f32) : View.ld x r2_0 = x :=
  View.ld_unit_zero (funext fun a => by fin_cases a <;> rfl) _ _

theorem total_block (r y d : Vec Ideal S56x8192 .f32) : out2_3 (F := Ideal) r y d = total r y d := by
  unfold out2_3
  rw [ld_row, ld_row, ld_row]
  refine (View.canon_unit_zero (funext fun a => by fin_cases a <;> rfl) _ _).trans ?_
  have h : ∀ z : Vec Ideal S56x8192 .f32, shapeCast S56x8192 z shapeCasts_S56x8192_S56x8192 = z := fun z => by funext i; pointwise
  unfold k2_pay1 total
  dsimp only
  rw [h]

theorem total_array : (dat2 V c).arrAt 3 cfg2.N = total (V c main_arg0) (V c main_v1) (V c main_arg1) :=
  (dat2 V c).arrAt_eq_of_cover 3 (total (V c main_arg0) (V c main_v1) (V c main_arg1))
    (fun t _ => by
      show (cfg2.win 3).cut (grid2.coords t) ((dat2 V c).after 3 t) = _
      rw [after2_3, iblk2_0, iblk2_1, iblk2_2, total_block]
      exact cut2_3 t _)
    covered2_3

end Cert.Proof.Down

end
-- ==== Proof.DownRun.lean ====
/-
  Hand-written, untrusted. THE RUN OF `down_proj` WITH ITS RESULTS: the generated frame's launch over the two calls, its last thread state read at
  the result arrays as well; each is what DownArrays.lean finds in it.
-/
module

public import proofs.«01_k».proof.Proof.DownFinal
public import Idealize.ShloMosaic.Lib.Claim
import all proofs.«01_k».proof.Proof.Gen.DownProjIdeal.Frame

@[expose] public section

noncomputable section

namespace Cert.Proof.Down

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.DownProjIdeal Cert.DownProjIdeal.Gen Cert.Proof.Mx
open Idealize.ShloMosaic.Pipeline (Dat)

variable (m : (ℓ : Loc nD τ sig) → Buf (Elt Ideal) ℓ) (ρ : Dev nD → PrngReg)

theorem entry_codes (c : Dev nD) : W1 m ρ c (Proc.devRef .tc main_v0_0) = codes (m ((c : Thread nD τ).loc main_arg2)) :=
  (W1_arr m ρ c 1).trans (codes_array (V0 m ρ) c)

theorem entry_scale (c : Dev nD) : W1 m ρ c (Proc.devRef .tc main_v0_1) = scale (m ((c : Thread nD τ).loc main_arg2)) :=
  (W1_arr m ρ c 2).trans (scale_array (V0 m ρ) c)

theorem entry_spread (c : Dev nD) : W1 m ρ c (Proc.devRef .tc main_v0_3) = View.canon (spreadPieces spreadShapes (codes (m ((c : Thread nD τ).loc main_arg2)))) :=
  (W1_arr m ρ c 4).trans (spread_array (V0 m ρ) c)

theorem entry_linear (c : Dev nD) (he : ∀ i, ((m ((c : Thread nD τ).loc main_arg4) : Vec Ideal S224x8192 .i8) i : BitVec 8).toNat ≤ 248) :
    W2 m ρ c (Proc.devRef .tc main_v1) = layer (m ((c : Thread nD τ).loc main_arg2)) (m ((c : Thread nD τ).loc main_arg3)) (m ((c : Thread nD τ).loc main_arg4)) := by
  have a1 : V1 m ρ c main_arg3 = m ((c : Thread nD τ).loc main_arg3) := W1_args m ρ c main_arg3 (by decide)
  have a2 : V1 m ρ c main_arg4 = m ((c : Thread nD τ).loc main_arg4) := W1_args m ρ c main_arg4 (by decide)
  have h := out_array (V1 m ρ) c (m ((c : Thread nD τ).loc main_arg2)) (entry_spread m ρ c) (entry_scale m ρ c)
    (fun i => by rw [a2]; exact he i)
  rw [a1, a2] at h
  exact (W2_arr m ρ c 4).trans h
theorem end_out (c : Dev nD) (he : ∀ i, ((m ((c : Thread nD τ).loc main_arg4) : Vec Ideal S224x8192 .i8) i : BitVec 8).toNat ≤ 248) :
    W3 m ρ c (Proc.devRef .tc main_v2) = total (m ((c : Thread nD τ).loc main_arg0)) (layer (m ((c : Thread nD τ).loc main_arg2)) (m ((c : Thread nD τ).loc main_arg3)) (m ((c : Thread nD τ).loc main_arg4))) (m ((c : Thread nD τ).loc main_arg1)) := by
  have a0 : V2 m ρ c main_arg0 = m ((c : Thread nD τ).loc main_arg0) := W2_args m ρ c main_arg0 (by decide)
  have a1 : V2 m ρ c main_arg1 = m ((c : Thread nD τ).loc main_arg1) := W2_args m ρ c main_arg1 (by decide)
  have y : V2 m ρ c main_v1 = layer (m ((c : Thread nD τ).loc main_arg2)) (m ((c : Thread nD τ).loc main_arg3)) (m ((c : Thread nD τ).loc main_arg4)) := entry_linear m ρ c he
  have h := total_array (V2 m ρ) c
  rw [a0, a1, y] at h
  exact (W3_arr m ρ c 3).trans h

set_option backward.isDefEq.respectTransparency.types false in
/-- Every weakly fair execution ends with the codes, the scales and the layer's result in the result arrays and the arguments as launched. -/
theorem run (he : ∀ (c : Dev nD) (i), ((m ((c : Thread nD τ).loc main_arg4) : Vec Ideal S224x8192 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v0_0) = codes (m ((c.tc : Thread nD τ).loc main_arg2))
      ∧ r.2.mem ((c.tc : Thread nD τ).loc main_v0_1) = scale (m ((c.tc : Thread nD τ).loc main_arg2))
      ∧ r.2.mem ((c.tc : Thread nD τ).loc main_v2) = total (m ((c.tc : Thread nD τ).loc main_arg0)) (layer (m ((c.tc : Thread nD τ).loc main_arg2)) (m ((c.tc : Thread nD τ).loc main_arg3)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v0_0 (by decide))).trans ((W3_of m ρ c main_v0_0 (by decide +kernel)).trans ((W2_of m ρ c main_v0_0 (by decide +kernel)).trans (entry_codes m ρ c))),
       (h c _ (mem_uc main_v0_1 (by decide))).trans ((W3_of m ρ c main_v0_1 (by decide +kernel)).trans ((W2_of m ρ c main_v0_1 (by decide +kernel)).trans (entry_scale m ρ c))),
       (h c _ (mem_uc main_v2 (by decide))).trans (end_out m ρ c (he c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Proof.Down

end
-- ==== Proof.DownRef.lean ====
/-
  Hand-written, untrusted. THE REFERENCE OF `down_proj` GIVES THE KERNEL'S RESULTS: its quantiser's codes and scales are the kernel's, and its product is
  the kernel's layer when every scale byte is at most 248 (Layer.lean).
-/
module

public import proofs.«01_k».proof.Proof.DownRun
public import proofs.«01_k».proof.Proof.Gen.DownProjReferenceIdeal.Value
import all proofs.«01_k».proof.Proof.Gen.DownProjReferenceIdeal.Frame
import all proofs.«01_k».proof.Proof.Gen.DownProjReferenceIdeal.Value

@[expose] public section

noncomputable section

namespace Cert.Proof.Down.Ref

open Idealize.ShloMosaic Idealize.ShloMosaic.TcCoe Idealize.SL.Sem Cert.Proof.Mx
open Cert.DownProjReferenceIdeal Cert.DownProjReferenceIdeal.Gen Cert.DownProjReferenceIdeal.Value

theorem shapes : RefShapes 224 7168 4096 8192 where
  rows := rfl
  cols := rfl
  split := shapeCasts_S224x8192_S224x4096x2
  slice := fun h => match h with
    | 0 => slices_S224x4096x2_o0_0_0_S224x4096x1
    | 1 => slices_S224x4096x2_o0_0_1_S224x4096x1
  drop := shapeCasts_S224x4096x1_S224x4096
  mid := shapeCasts_S224x4096_S224x1x4096
  rep := broadcasts_S224x1x4096_S224x32x4096
  flat := shapeCasts_S224x32x4096_S7168x4096
  last := shapeCasts_S56x4096_S56x4096x1
  stack := concatenates_S56x4096x1_S56x4096x1_S56x4096x2_d2
  join := shapeCasts_S56x4096x2_S56x8192
  lanes := broadcasts_S56x1_S56x8192

variable (r d : Vec Ideal S56x8192 .f32) (x : Vec Ideal S56x7168 .f32) (w : Vec Ideal S7168x4096 .i8) (e : Vec Ideal S224x8192 .i8)

theorem codes_eq : G5 (F := Ideal) r d x w e = codes x := by
  sl_kernel_rfl

theorem scale_eq : G6 (F := Ideal) r d x w e = scale x := by
  sl_kernel_rfl

theorem ld_x : View.ld x r0_0 = x :=
  View.ld_unit_zero (funext fun a => by fin_cases a <;> rfl) _ _

theorem product_eq : G7 (F := Ideal) r d x w e = total r (refOut shapes (k0_pay5 (F := Ideal) (View.ld x r0_0)) (k0_pay2 (F := Ideal) x) w e) d := by
  sl_kernel_rfl

theorem code_plain (b : Fin 56) (s : Fin 7168) : (k0_pay5 (F := Ideal) x (ix2 b s) : EReal) = codes x (ix2 b s) := rfl

theorem scale_lane (b : Fin 56) : (k0_pay2 (F := Ideal) x (ix2 b (0 : Fin 1)) : EReal) = (scale x (ix2 b (0 : Fin 128)) : EReal) := by
  have h : scale x = broadcastTo (M2 56 128) (shapeCast (M2 56 1) (k0_pay2 (F := Ideal) x) (by decide)) (by decide) := by sl_kernel_rfl
  rw [h]
  generalize k0_pay2 (F := Ideal) x = z
  pointwise

theorem out_eq (he : ∀ i, (e i : BitVec 8).toNat ≤ 248) : G7 (F := Ideal) r d x w e = total r (layer x w e) d := by
  rw [product_eq, ld_x]
  refine congrArg (fun y => total r y d) ?_
  exact refOut_eq sizes shapes (codes x) (scale x) (k0_pay5 (F := Ideal) x) (k0_pay2 (F := Ideal) x) w e (code_plain x) (scale_lane x) he

variable (m : (ℓ : Loc nD τ sig) → Buf (Elt Ideal) ℓ) (ρ : Dev nD → PrngReg)

/-- Every weakly fair execution of the reference ends with the kernel's codes, scales and layer in its result arrays and the arguments as launched. -/
theorem run (he : ∀ (c : Dev nD) (i), (((m ((c.tc : Thread nD τ).loc main_arg4)) : Vec Ideal S224x8192 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v0_0) = codes (m ((c.tc : Thread nD τ).loc main_arg2))
      ∧ r.2.mem ((c.tc : Thread nD τ).loc main_v0_1) = scale (m ((c.tc : Thread nD τ).loc main_arg2))
      ∧ r.2.mem ((c.tc : Thread nD τ).loc main_v0_2) = total (m ((c.tc : Thread nD τ).loc main_arg0)) (layer (m ((c.tc : Thread nD τ).loc main_arg2)) (m ((c.tc : Thread nD τ).loc main_arg3)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (Cert.DownProjReferenceIdeal.Value.run m ρ)
  obtain ⟨h0, h1, h2, k⟩ := h c
  exact ⟨h0.trans (codes_eq _ _ _ _ _), h1.trans (scale_eq _ _ _ _ _), h2.trans (out_eq _ _ _ _ _ (he c)), k⟩

end Cert.Proof.Down.Ref

end
-- ==== Proof.QkvBody.lean ====
/-
  Hand-written, untrusted. THE LINEAR CALL of `qkv_proj`: its printed body, of 256 blocks of weight rows, is the generic block of Layer.lean (`body_eq`).
-/
module

public import proofs.«01_k».proof.Proof.Layer
public import proofs.«01_k».proof.Proof.Gen.QkvProjIdeal.Frame
import all proofs.«01_k».proof.Proof.Gen.QkvProjIdeal.Frame

@[expose] public section

noncomputable section

namespace Cert.Proof.Qkv

open Idealize.ShloMosaic Cert.QkvProjIdeal Cert.QkvProjIdeal.Gen Cert.Proof.Mx

theorem scaleFacts : ScaleFacts 256 64 where
  four := rfl
  bitcasts := by decide
  iotas := by decide
  up := by decide
  down := by decide
  lead := by decide
  slices := by decide

theorem shapes : BodyShapes 256 64 8192 16384 where
  scales := scaleFacts
  rows := rfl
  spread := rfl
  stack := by decide +kernel
  whole := by decide

variable (c : Dev nD) (i : grid1.Coords) (arg1 : Memref sig .tc .vmem S112x16384 .bf16) (harg1 : arg1.IsWhole) (arg2 : Memref sig .tc .vmem S8192x256 .i8) (harg2 : arg2.IsWhole)
  (arg3 : Memref sig .tc .vmem S256x512 .i8) (harg3 : arg3.IsWhole) (arg4 : Memref sig .tc .vmem S56x128 .f32) (harg4 : arg4.IsWhole)
  (arg5 : Memref sig .tc .vmem S56x512 .f32) (harg5 : arg5.IsWhole) (arg6 : Memref sig .tc .vmem S4x64x256 .i32) (harg6 : arg6.IsWhole)
  (x0 : Vec Ideal S112x16384 .bf16) (x1 : Vec Ideal S8192x256 .i8) (x2 : Vec Ideal S256x512 .i8) (x3 : Vec Ideal S56x128 .f32)

/-- The eight stores of the scratch. -/
theorem scratch_eq : kernelRun1_A.sl.HS0_8 (F := Ideal) c arg3 harg3 x2 = scratchPieces scaleFacts (loadedScales arg3 harg3 x2) := by
  sl_kernel_rfl

/-- The printed body is the generic block. -/
theorem body_eq : out1_A_4 (F := Ideal) c i arg1 harg1 arg2 harg2 arg3 harg3 arg4 harg4 arg5 harg5 arg6 harg6 x0 x1 x2 x3
    = bodyBlock arg1 harg1 arg2 harg2 arg4 harg4 arg6 shapes x0 x1 x3 (kernelRun1_A.sl.HS0_8 (F := Ideal) c arg3 harg3 x2) := by
  unfold out1_A_4
  rw [View.read_writes_junk_eq_canon]
  dsimp only [kernelRun1_A]
  refine (View.canon_unit_zero (funext fun a => by fin_cases a <;> rfl) _ _).trans ?_
  sl_kernel_rfl

/-- What the body leaves in the output's block, entry by entry. -/
theorem out_apply (he : ∀ i, (x2 i : BitVec 8).toNat ≤ 248) (codes : FVec Ideal (M2 56 8192) .fp8e4m3)
    (hx : ∀ (h : Fin 2) (b : Fin 56) (u : Fin 16384), (x0 (ix2 (⟨56 * h.val + b.val, by omega⟩ : Fin 112) u) : EReal)
      = if u.val % 2 = h.val then (codes (ix2 b (⟨u.val / 2, by omega⟩ : Fin 8192)) : EReal) else 0)
    (b : Fin 56) (j : Fin 512) :
    (out1_A_4 (F := Ideal) c i arg1 harg1 arg2 harg2 arg3 harg3 arg4 harg4 arg5 harg5 arg6 harg6 x0 x1 x2 x3 (ix2 b j) : EReal)
      = (∑ s : Fin 8192, (codes (ix2 b s) : EReal) * kernelWeight (j.val % 2) (x1 (ix2 s (⟨j.val / 2, by omega⟩ : Fin 256)))
          (x2 (ix2 (⟨s.val / 32, by omega⟩ : Fin 256) j))) * (x3 (ix2 b (0 : Fin 128)) : EReal) := by
  rw [body_eq, scratch_eq]
  exact bodyBlock_apply arg1 harg1 arg2 harg2 arg3 harg3 arg4 harg4 arg6 shapes x0 x1 x2 x3 he codes hx b j

end Cert.Proof.Qkv

end
-- ==== Proof.QkvQuant.lean ====
/-
  Hand-written, untrusted. THE QUANTISING CALL of `qkv_proj`: the codes and the scales it leaves, as printed, and the spread activation, which is the
  one of Spread.lean.
-/
module

public import proofs.«01_k».proof.Proof.Spread
public import proofs.«01_k».proof.Proof.Gen.QkvProjIdeal.Frame
import all proofs.«01_k».proof.Proof.Gen.QkvProjIdeal.Frame

@[expose] public section

noncomputable section

namespace Cert.Proof.Qkv

open Idealize.ShloMosaic Cert.QkvProjIdeal Cert.QkvProjIdeal.Gen Cert.Proof.Mx

theorem spreadShapes : SpreadShapes 64 8192 16384 := ⟨rfl, rfl⟩

/-- The codes of an activation. -/
def codes (x : Vec Ideal S56x8192 .bf16) (g : Vec Ideal S1x8192 .f32) : FVec Ideal (M2 56 8192) .fp8e4m3 := k0_pay6 (F := Ideal) x g

/-- Its scales, one per row, repeated over 128 lanes. -/
def scale (x : Vec Ideal S56x8192 .bf16) (g : Vec Ideal S1x8192 .f32) : FVec Ideal (M2 56 128) .f32 := k0_pay7 (F := Ideal) x g

variable (x : Vec Ideal S56x8192 .bf16) (g : Vec Ideal S1x8192 .f32)

theorem ld_x : View.ld x r0_0 = x :=
  View.ld_unit_zero (funext fun a => by fin_cases a <;> rfl) _ _

theorem ld_g (g : Vec Ideal S1x8192 .f32) : View.ld g r0_1 = g :=
  View.ld_unit_zero (funext fun a => by fin_cases a <;> rfl) _ _

/-- The block of codes the body leaves. -/
theorem codes_block : out0_2 (F := Ideal) x g = codes x g := by
  unfold out0_2
  rw [ld_x, ld_g]
  exact View.canon_unit_zero (funext fun a => by fin_cases a <;> rfl) _ _

/-- The block of scales the body leaves. -/
theorem scale_block : out0_3 (F := Ideal) x g = scale x g := by
  unfold out0_3
  rw [ld_x, ld_g]
  exact View.canon_unit_zero (funext fun a => by fin_cases a <;> rfl) _ _

/-- The spread activation the body leaves. -/
theorem spread_block : out0_5 (F := Ideal) x g = View.canon (spreadPieces spreadShapes (codes x g)) := by
  have h : out0_5 (F := Ideal) x g = View.canon (spreadPieces spreadShapes (codes (View.ld x r0_0) (View.ld g r0_1))) := by sl_kernel_rfl
  rw [h, ld_x, ld_g]

end Cert.Proof.Qkv

end
-- ==== Proof.QkvArrays.lean ====
/-
  Hand-written, untrusted. THE ARRAYS the two calls of `qkv_proj` leave: the quantising call's one point writes its whole blocks (`codes_array`,
  `scale_array`, `spread_array`); the linear call's 5 points write 512 columns each of the layer's result (`out_array`).
-/
module

public import proofs.«01_k».proof.Proof.QkvBody
public import proofs.«01_k».proof.Proof.QkvQuant
import all proofs.«01_k».proof.Proof.Gen.QkvProjIdeal.Frame

@[expose] public section

noncomputable section

namespace Cert.Proof.Qkv

open Idealize.ShloMosaic Idealize.ShloMosaic.TcCoe Idealize.SL.Sem Cert.QkvProjIdeal Cert.QkvProjIdeal.Gen Cert.Proof.Mx

theorem sizes : LayerSizes 256 8192 1280 2560 := ⟨rfl, rfl⟩

/-- The layer's result from its activation, weights and scale bytes. -/
abbrev layer (x : Vec Ideal S56x8192 .bf16) (g : Vec Ideal S1x8192 .f32) (w : Vec Ideal S8192x1280 .i8) (e : Vec Ideal S256x2560 .i8) : Vec Ideal S56x2560 .f32 :=
  layerOut sizes (codes x g) (scale x g) w e

variable (V : (c : Dev nD) → (b : Ref sig .tc) → Buf (Elt Ideal) ((c : Thread nD τ).loc b)) (c : Dev nD)

/-! ## The quantising call: one point, whole blocks -/

theorem idx0_0 : ∀ t : Fin cfg0.N, win0_0.index t (0 : Fin 2) = 0 ∧ win0_0.index t (1 : Fin 2) = 0 :=
  (by decide +kernel : ∀ t : Fin grid0.N, _)
theorem emb0_0 (t : Fin cfg0.N) (j : S56x8192.Idx) : ((cfg0.win 0).blk t).view.emb j = j := by
  obtain ⟨e0, e1⟩ := idx0_0 t
  funext a; apply Fin.ext
  match a with
  | ⟨0, _⟩ => show win0_0.index t (0 : Fin 2) * 56 + 1 * (j 0).val = (j 0).val; omega
  | ⟨1, _⟩ => show win0_0.index t (1 : Fin 2) * 8192 + 1 * (j 1).val = (j 1).val; omega

theorem idx0_1 : ∀ t : Fin cfg0.N, win0_1.index t (0 : Fin 2) = 0 ∧ win0_1.index t (1 : Fin 2) = 0 :=
  (by decide +kernel : ∀ t : Fin grid0.N, _)
theorem emb0_1 (t : Fin cfg0.N) (j : S1x8192.Idx) : ((cfg0.win 1).blk t).view.emb j = j := by
  obtain ⟨e0, e1⟩ := idx0_1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (j : S56x8192.Idx) : ((cfg0.win 2).blk t).view.emb j = j := by
  obtain ⟨e0, e1⟩ := idx0_2 t
  funext a; apply Fin.ext
  match a with
  | ⟨0, _⟩ => show win0_2.index t (0 : Fin 2) * 56 + 1 * (j 0).val = (j 0).val; omega
  | ⟨1, _⟩ => show win0_2.index t (1 : Fin 2) * 8192 + 1 * (j 1).val = (j 1).val; omega

theorem idx0_3 : ∀ t : Fin cfg0.N, win0_3.index t (0 : Fin 2) = 0 ∧ win0_3.index t (1 : Fin 2) = 0 :=
  (by decide +kernel : ∀ t : Fin grid0.N, _)
theorem emb0_3 (t : Fin cfg0.N) (j : S56x128.Idx) : ((cfg0.win 3).blk t).view.emb j = j := by
  obtain ⟨e0, e1⟩ := idx0_3 t
  funext a; apply Fin.ext
  match a with
  | ⟨0, _⟩ => show win0_3.index t (0 : Fin 2) * 56 + 1 * (j 0).val = (j 0).val; omega
  | ⟨1, _⟩ => show win0_3.index t (1 : Fin 2) * 128 + 1 * (j 1).val = (j 1).val; omega

theorem idx0_5 : ∀ t : Fin cfg0.N, win0_5.index t (0 : Fin 2) = 0 ∧ win0_5.index t (1 : Fin 2) = 0 :=
  (by decide +kernel : ∀ t : Fin grid0.N, _)
theorem emb0_5 (t : Fin cfg0.N) (j : S112x16384.Idx) : ((cfg0.win 5).blk t).view.emb j = j := by
  obtain ⟨e0, e1⟩ := idx0_5 t
  funext a; apply Fin.ext
  match a with
  | ⟨0, _⟩ => show win0_5.index t (0 : Fin 2) * 112 + 1 * (j 0).val = (j 0).val; omega
  | ⟨1, _⟩ => show win0_5.index t (1 : Fin 2) * 16384 + 1 * (j 1).val = (j 1).val; omega

theorem cut0_2 (t : Fin cfg0.N) (X : Vec Ideal S56x8192 .fp8e4m3) :
    (cfg0.win 2).cut (grid0.coords t) X = ((cfg0.win 2).blk t).view.read (Elt Ideal) X := by
  funext j
  show X j = X (((cfg0.win 2).blk t).view.emb j)
  rw [emb0_2]

theorem covered0_2 (i : S56x8192.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb0_2] at h⟩

theorem cut0_3 (t : Fin cfg0.N) (X : Vec Ideal S56x128 .f32) :
    (cfg0.win 3).cut (grid0.coords t) X = ((cfg0.win 3).blk t).view.read (Elt Ideal) X := by
  funext j
  show X j = X (((cfg0.win 3).blk t).view.emb j)
  rw [emb0_3]

theorem covered0_3 (i : S56x128.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb0_3] at h⟩

theorem cut0_5 (t : Fin cfg0.N) (X : Vec Ideal S112x16384 .bf16) :
    (cfg0.win 5).cut (grid0.coords t) X = ((cfg0.win 5).blk t).view.read (Elt Ideal) X := by
  funext j
  show X j = X (((cfg0.win 5).blk t).view.emb j)
  rw [emb0_5]

theorem covered0_5 (i : S112x16384.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb0_5] at h⟩

theorem iblk0_0 (t : Fin cfg0.N) : iblk0 V c 0 t = V c main_arg0 := by
  funext j; show V c main_arg0 (((cfg0.win 0).blk t).view.emb j) = V c main_arg0 j; rw [emb0_0]

theorem iblk0_1 (t : Fin cfg0.N) : iblk0 V c 1 t = V c main_v0 := by
  funext j; show V c main_v0 (((cfg0.win 1).blk t).view.emb j) = V c main_v0 j; rw [emb0_1]

theorem codes_array : (dat0 V c).arrAt 2 cfg0.N = codes (V c main_arg0) (V c main_v0) :=
  (dat0 V c).arrAt_eq_of_cover 2 (codes (V c main_arg0) (V c main_v0))
    (fun t _ => by
      show (cfg0.win 2).cut (grid0.coords t) ((dat0 V c).after 2 t) = _
      rw [after0_2, iblk0_0, iblk0_1, codes_block]
      exact cut0_2 t _)
    covered0_2

theorem scale_array : (dat0 V c).arrAt 3 cfg0.N = scale (V c main_arg0) (V c main_v0) :=
  (dat0 V c).arrAt_eq_of_cover 3 (scale (V c main_arg0) (V c main_v0))
    (fun t _ => by
      show (cfg0.win 3).cut (grid0.coords t) ((dat0 V c).after 3 t) = _
      rw [after0_3, iblk0_0, iblk0_1, scale_block]
      exact cut0_3 t _)
    covered0_3

theorem spread_array : (dat0 V c).arrAt 5 cfg0.N = View.canon (spreadPieces spreadShapes (codes (V c main_arg0) (V c main_v0))) :=
  (dat0 V c).arrAt_eq_of_cover 5 (View.canon (spreadPieces spreadShapes (codes (V c main_arg0) (V c main_v0))))
    (fun t _ => by
      show (cfg0.win 5).cut (grid0.coords t) ((dat0 V c).after 5 t) = _
      rw [after0_5, iblk0_0, iblk0_1, spread_block]
      exact cut0_5 t _)
    covered0_5

/-! ## The linear call: point `t` reads columns 256 t … of the weights and 512 t … of the scale bytes and writes columns 512 t … 512 t + 511 -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)

theorem lt_points (t : Fin cfg1.N) : t.val < 5 := by
  have h : ∀ t : Fin grid1.N, t.val < 5 := by decide +kernel
  exact h t

theorem emb1_0 (t : Fin cfg1.N) (j : S112x16384.Idx) : ((cfg1.win 0).blk t).view.emb j = j := by
  obtain ⟨e0, e1⟩ := idx1_0 t
  funext a; apply Fin.ext
  match a with
  | ⟨0, _⟩ => show win1_0.index t (0 : Fin 2) * 112 + 1 * (j 0).val = (j 0).val; omega
  | ⟨1, _⟩ => show win1_0.index t (1 : Fin 2) * 16384 + 1 * (j 1).val = (j 1).val; omega
theorem emb1_3 (t : Fin cfg1.N) (j : S56x128.Idx) : ((cfg1.win 3).blk t).view.emb j = j := by
  obtain ⟨e0, e1⟩ := idx1_3 t
  funext a; apply Fin.ext
  match a with
  | ⟨0, _⟩ => show win1_3.index t (0 : Fin 2) * 56 + 1 * (j 0).val = (j 0).val; omega
  | ⟨1, _⟩ => show win1_3.index t (1 : Fin 2) * 128 + 1 * (j 1).val = (j 1).val; omega
theorem emb1_1 (t : Fin cfg1.N) (s : Fin 8192) (q : Fin 256) :
    ((cfg1.win 1).blk t).view.emb (ix2 s q) = ix2 s (⟨256 * t.val + q.val, by have := lt_points t; omega⟩ : Fin 1280) := by
  obtain ⟨e0, e1⟩ := idx1_1 t
  funext a; apply Fin.ext
  match a with
  | ⟨0, _⟩ => show win1_1.index t (0 : Fin 2) * 8192 + 1 * s.val = s.val; omega
  | ⟨1, _⟩ => show win1_1.index t (1 : Fin 2) * 256 + 1 * q.val = 256 * t.val + q.val; omega
theorem emb1_2 (t : Fin cfg1.N) (s : Fin 256) (q : Fin 512) :
    ((cfg1.win 2).blk t).view.emb (ix2 s q) = ix2 s (⟨512 * t.val + q.val, by have := lt_points t; omega⟩ : Fin 2560) := by
  obtain ⟨e0, e1⟩ := idx1_2 t
  funext a; apply Fin.ext
  match a with
  | ⟨0, _⟩ => show win1_2.index t (0 : Fin 2) * 256 + 1 * s.val = s.val; omega
  | ⟨1, _⟩ => show win1_2.index t (1 : Fin 2) * 512 + 1 * q.val = 512 * t.val + q.val; omega
theorem emb1_4 (t : Fin cfg1.N) (s : Fin 56) (q : Fin 512) :
    ((cfg1.win 4).blk t).view.emb (ix2 s q) = ix2 s (⟨512 * t.val + q.val, by have := lt_points t; omega⟩ : Fin 2560) := by
  obtain ⟨e0, e1⟩ := idx1_4 t
  funext a; apply Fin.ext
  match a with
  | ⟨0, _⟩ => show win1_4.index t (0 : Fin 2) * 56 + 1 * s.val = s.val; omega
  | ⟨1, _⟩ => show win1_4.index t (1 : Fin 2) * 512 + 1 * q.val = 512 * t.val + q.val; omega

theorem covered1_4 (i : S56x2560.Idx) : ∃ t : Fin cfg1.N, (cfg1.win 4).flush t = true ∧ i ∈ ((cfg1.win 4).blk t).view.set := by
  obtain ⟨b, n, rfl⟩ : ∃ (b : Fin 56) (n : Fin 2560), i = ix2 b n := ⟨i 0, i 1, by funext a; fin_cases a <;> rfl⟩
  obtain ⟨t, ht⟩ : ∃ t : Fin cfg1.N, t.val = n.val / 512 := ⟨⟨n.val / 512, by show n.val / 512 < 5; omega⟩, rfl⟩
  have h : (ix2 b (⟨512 * t.val + n.val % 512, by have := lt_points t; omega⟩ : Fin 2560) : S56x2560.Idx) ∈ ((cfg1.win 4).blk t).view.set :=
    emb1_4 t b (⟨n.val % 512, by omega⟩ : Fin 512) ▸ ((cfg1.win 4).blk t).view.emb_mem_set (ix2 b (⟨n.val % 512, by omega⟩ : Fin 512))
  have e : (⟨512 * t.val + n.val % 512, by have := lt_points t; omega⟩ : Fin 2560) = n := Fin.ext (by show 512 * t.val + n.val % 512 = n.val; omega)
  refine ⟨t, flush1_4 t, ?_⟩
  rw [← e]
  exact h

theorem cut1_4 (t : Fin cfg1.N) (Y : Vec Ideal S56x512 .f32) (X : Vec Ideal S56x2560 .f32)
    (h : ∀ (b : Fin 56) (q : Fin 512), Y (ix2 b q) = X (ix2 b (⟨512 * t.val + q.val, by have := lt_points t; omega⟩ : Fin 2560))) :
    (cfg1.win 4).cut (grid1.coords t) Y = ((cfg1.win 4).blk t).view.read (Elt Ideal) X := by
  funext j
  obtain ⟨b, q, rfl⟩ : ∃ (b : Fin 56) (q : Fin 512), j = ix2 b q := ⟨j 0, j 1, by funext a; fin_cases a <;> rfl⟩
  show Y (ix2 b q) = X (((cfg1.win 4).blk t).view.emb (ix2 b q))
  rw [emb1_4]
  exact h b q

theorem iblk1_0 (t : Fin cfg1.N) : iblk1 V c 0 t = V c main_v1_3 := by
  funext j; show V c main_v1_3 (((cfg1.win 0).blk t).view.emb j) = V c main_v1_3 j; rw [emb1_0]
theorem iblk1_3 (t : Fin cfg1.N) : iblk1 V c 3 t = V c main_v1_1 := by
  funext j; show V c main_v1_1 (((cfg1.win 3).blk t).view.emb j) = V c main_v1_1 j; rw [emb1_3]

theorem iblk1_1 (t : Fin cfg1.N) (s : Fin 8192) (q : Fin 256) :
    (iblk1 V c 1 t : Vec Ideal S8192x256 .i8) (ix2 s q) = V c main_arg2 (ix2 s (⟨256 * t.val + q.val, by have := lt_points t; omega⟩ : Fin 1280)) :=
  congrArg (V c main_arg2) (emb1_1 t s q)
theorem iblk1_2 (t : Fin cfg1.N) (s : Fin 256) (q : Fin 512) :
    (iblk1 V c 2 t : Vec Ideal S256x512 .i8) (ix2 s q) = V c main_arg3 (ix2 s (⟨512 * t.val + q.val, by have := lt_points t; omega⟩ : Fin 2560)) :=
  congrArg (V c main_arg3) (emb1_2 t s q)
theorem scales_small (he : ∀ i, ((V c main_arg3 : Vec Ideal S256x2560 .i8) i : BitVec 8).toNat ≤ 248) (t : Fin cfg1.N) (i : S256x512.Idx) :
    ((iblk1 V c 2 t : Vec Ideal S256x512 .i8) i : BitVec 8).toNat ≤ 248 := he _

/-- The linear call's array, when it finds the spread codes and the scales of an activation in its operands. -/
theorem out_array (x : Vec Ideal S56x8192 .bf16) (g : Vec Ideal S1x8192 .f32) (h3 : V c main_v1_3 = View.canon (spreadPieces spreadShapes (codes x g))) (h1 : V c main_v1_1 = scale x g)
    (he : ∀ i, ((V c main_arg3 : Vec Ideal S256x2560 .i8) i : BitVec 8).toNat ≤ 248) :
    (dat1 V c).arrAt 4 cfg1.N = layer x g (V c main_arg2) (V c main_arg3) :=
  (dat1 V c).arrAt_eq_of_cover 4 (layer x g (V c main_arg2) (V c main_arg3))
    (fun t _ => by
      show (cfg1.win 4).cut (grid1.coords t) ((dat1 V c).after 4 t) = _
      rw [after1_4]
      refine cut1_4 t _ _ fun b q => ?_
      have ht := lt_points t
      unfold outsAt1
      rw [iblk1_0, iblk1_3, h3, h1]
      refine (out_apply c _ _ _ _ _ _ _ _ _ _ _ _ _ _ _ _ _ (scales_small V c he t) (codes x g) (spreadAll_apply spreadShapes (codes x g)) b q).trans ?_
      exact layerOut_block sizes (codes x g) (scale x g) (V c main_arg2) (V c main_arg3) t.val (by omega) (iblk1 V c 1 t) (iblk1 V c 2 t)
          (iblk1_1 V c t) (iblk1_2 V c t) b q)
    covered1_4

end Cert.Proof.Qkv

end
-- ==== Proof.QkvRun.lean ====
/-
  Hand-written, untrusted. THE RUN OF `qkv_proj` WITH ITS RESULTS: the generated frame's launch over the two calls, its last thread state read at
  the result arrays as well; each is what QkvArrays.lean finds in it.
-/
module

public import proofs.«01_k».proof.Proof.QkvArrays
public import Idealize.ShloMosaic.Lib.Claim
import all proofs.«01_k».proof.Proof.Gen.QkvProjIdeal.Frame

@[expose] public section

noncomputable section

namespace Cert.Proof.Qkv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.QkvProjIdeal Cert.QkvProjIdeal.Gen Cert.Proof.Mx
open Idealize.ShloMosaic.Pipeline (Dat)

/-- The gains as a row, as the host lays them out for the call. -/
def gain (g : Vec Ideal S8192 .f32) : Vec Ideal S1x8192 .f32 := shapeCast S1x8192 g shapeCasts_S8192_S1x8192

variable (m : (ℓ : Loc nD τ sig) → Buf (Elt Ideal) ℓ) (ρ : Dev nD → PrngReg)

theorem entry_gain (c : Dev nD) : V1 m ρ c main_v0 = gain (m ((c : Thread nD τ).loc main_arg1)) := by
  unfold_abbrev_sides
  after_results
  rfl

theorem entry_x (c : Dev nD) : V1 m ρ c main_arg0 = (m ((c : Thread nD τ).loc main_arg0)) := W1_args m ρ c main_arg0 (by decide)

theorem entry_codes (c : Dev nD) : W2 m ρ c (Proc.devRef .tc main_v1_0) = codes (m ((c : Thread nD τ).loc main_arg0)) (gain (m ((c : Thread nD τ).loc main_arg1))) := by
  have h := codes_array (V1 m ρ) c
  rw [entry_x, entry_gain] at h
  exact (W2_arr m ρ c 2).trans h

theorem entry_scale (c : Dev nD) : W2 m ρ c (Proc.devRef .tc main_v1_1) = scale (m ((c : Thread nD τ).loc main_arg0)) (gain (m ((c : Thread nD τ).loc main_arg1))) := by
  have h := scale_array (V1 m ρ) c
  rw [entry_x, entry_gain] at h
  exact (W2_arr m ρ c 3).trans h

theorem entry_spread (c : Dev nD) : W2 m ρ c (Proc.devRef .tc main_v1_3) = View.canon (spreadPieces spreadShapes (codes (m ((c : Thread nD τ).loc main_arg0)) (gain (m ((c : Thread nD τ).loc main_arg1))))) := by
  have h := spread_array (V1 m ρ) c
  rw [entry_x, entry_gain] at h
  exact (W2_arr m ρ c 5).trans h

theorem end_out (c : Dev nD) (he : ∀ i, ((m ((c : Thread nD τ).loc main_arg3) : Vec Ideal S256x2560 .i8) i : BitVec 8).toNat ≤ 248) :
    W3 m ρ c (Proc.devRef .tc main_v2) = layer (m ((c : Thread nD τ).loc main_arg0)) (gain (m ((c : Thread nD τ).loc main_arg1))) (m ((c : Thread nD τ).loc main_arg2)) (m ((c : Thread nD τ).loc main_arg3)) := by
  have a1 : V2 m ρ c main_arg2 = m ((c : Thread nD τ).loc main_arg2) := W2_args m ρ c main_arg2 (by decide)
  have a2 : V2 m ρ c main_arg3 = m ((c : Thread nD τ).loc main_arg3) := W2_args m ρ c main_arg3 (by decide)
  have h := out_array (V2 m ρ) c (m ((c : Thread nD τ).loc main_arg0)) (gain (m ((c : Thread nD τ).loc main_arg1))) (entry_spread m ρ c) (entry_scale m ρ c)
    (fun i => by rw [a2]; exact he i)
  rw [a1, a2] at h
  exact (W3_arr m ρ c 4).trans h

set_option backward.isDefEq.respectTransparency.types false in
/-- Every weakly fair execution ends with the codes, the scales and the layer's result in the result arrays and the arguments as launched. -/
theorem run (he : ∀ (c : Dev nD) (i), ((m ((c : Thread nD τ).loc main_arg3) : Vec Ideal S256x2560 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v1_0) = codes (m ((c.tc : Thread nD τ).loc main_arg0)) (gain (m ((c.tc : Thread nD τ).loc main_arg1)))
      ∧ r.2.mem ((c.tc : Thread nD τ).loc main_v1_1) = scale (m ((c.tc : Thread nD τ).loc main_arg0)) (gain (m ((c.tc : Thread nD τ).loc main_arg1)))
      ∧ r.2.mem ((c.tc : Thread nD τ).loc main_v2) = layer (m ((c.tc : Thread nD τ).loc main_arg0)) (gain (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v1_0 (by decide))).trans ((W3_of m ρ c main_v1_0 (by decide +kernel)).trans (entry_codes m ρ c)),
       (h c _ (mem_uc main_v1_1 (by decide))).trans ((W3_of m ρ c main_v1_1 (by decide +kernel)).trans (entry_scale m ρ c)),
       (h c _ (mem_uc main_v2 (by decide))).trans (end_out m ρ c (he c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Proof.Qkv

end
-- ==== Proof.QkvRef.lean ====
/-
  Hand-written, untrusted. THE REFERENCE OF `qkv_proj` GIVES THE KERNEL'S RESULTS: its quantiser's codes and scales are the kernel's, and its product is
  the kernel's layer when every scale byte is at most 248 (Layer.lean).
-/
module

public import proofs.«01_k».proof.Proof.QkvRun
public import proofs.«01_k».proof.Proof.Gen.QkvProjReferenceIdeal.Value
import all proofs.«01_k».proof.Proof.Gen.QkvProjReferenceIdeal.Frame
import all proofs.«01_k».proof.Proof.Gen.QkvProjReferenceIdeal.Value

@[expose] public section

noncomputable section

namespace Cert.Proof.Qkv.Ref

open Idealize.ShloMosaic Idealize.ShloMosaic.TcCoe Idealize.SL.Sem Cert.Proof.Mx
open Cert.QkvProjReferenceIdeal Cert.QkvProjReferenceIdeal.Gen Cert.QkvProjReferenceIdeal.Value

theorem shapes : RefShapes 256 8192 1280 2560 where
  rows := rfl
  cols := rfl
  split := shapeCasts_S256x2560_S256x1280x2
  slice := fun h => match h with
    | 0 => slices_S256x1280x2_o0_0_0_S256x1280x1
    | 1 => slices_S256x1280x2_o0_0_1_S256x1280x1
  drop := shapeCasts_S256x1280x1_S256x1280
  mid := shapeCasts_S256x1280_S256x1x1280
  rep := broadcasts_S256x1x1280_S256x32x1280
  flat := shapeCasts_S256x32x1280_S8192x1280
  last := shapeCasts_S56x1280_S56x1280x1
  stack := concatenates_S56x1280x1_S56x1280x1_S56x1280x2_d2
  join := shapeCasts_S56x1280x2_S56x2560
  lanes := broadcasts_S56x1_S56x2560

/-! ## The quantiser and the product, block by block -/

section
variable (x : Vec Ideal S56x8192 .bf16) (g : Vec Ideal S1x8192 .f32) (w : Vec Ideal S8192x1280 .i8) (e : Vec Ideal S256x2560 .i8)

theorem ld_x : View.ld x r0_0 = x :=
  View.ld_unit_zero (funext fun a => by fin_cases a <;> rfl) _ _

theorem ld_g : View.ld g r0_1 = g :=
  View.ld_unit_zero (funext fun a => by fin_cases a <;> rfl) _ _

theorem ld_w : View.ld w r0_2 = w :=
  View.ld_unit_zero (funext fun a => by fin_cases a <;> rfl) _ _

theorem ld_e : View.ld e r0_3 = e :=
  View.ld_unit_zero (funext fun a => by fin_cases a <;> rfl) _ _

theorem codes_eq : k0_pay4 (F := Ideal) x g = codes x g := by
  sl_kernel_rfl

theorem scale_eq : k0_pay5 (F := Ideal) x g = scale x g := by
  sl_kernel_rfl

theorem codes_block : out0_4 (F := Ideal) x g w e = codes x g := by
  unfold out0_4
  rw [ld_x, ld_g]
  exact (View.canon_unit_zero (funext fun a => by fin_cases a <;> rfl) _ _).trans (codes_eq x g)

theorem scale_block : out0_5 (F := Ideal) x g w e = scale x g := by
  unfold out0_5
  rw [ld_x, ld_g]
  exact (View.canon_unit_zero (funext fun a => by fin_cases a <;> rfl) _ _).trans (scale_eq x g)

theorem product_block : out0_6 (F := Ideal) x g w e = View.canon [⟨r0_5, refOut shapes (k0_pay6 (F := Ideal) (k0_pay4 (F := Ideal) (View.ld x r0_0) (View.ld g r0_1)))
    (k0_pay3 (F := Ideal) (View.ld x r0_0) (View.ld g r0_1)) (View.ld w r0_2) (View.ld e r0_3)⟩] := by
  sl_kernel_rfl

theorem code_plain (b : Fin 56) (s : Fin 8192) : (k0_pay6 (F := Ideal) (codes x g) (ix2 b s) : EReal) = codes x g (ix2 b s) := rfl

theorem scale_lane (b : Fin 56) : (k0_pay3 (F := Ideal) x g (ix2 b (0 : Fin 1)) : EReal) = (scale x g (ix2 b (0 : Fin 128)) : EReal) := by
  have h : scale x g = broadcastTo (M2 56 128) (shapeCast (M2 56 1) (k0_pay3 (F := Ideal) x g) (by decide)) (by decide) := by sl_kernel_rfl
  rw [h]
  generalize k0_pay3 (F := Ideal) x g = z
  pointwise

theorem out_block (he : ∀ i, (e i : BitVec 8).toNat ≤ 248) : out0_6 (F := Ideal) x g w e = layer x g w e := by
  rw [product_block, ld_x, ld_g, ld_w, ld_e]
  refine (View.canon_unit_zero (funext fun a => by fin_cases a <;> rfl) _ _).trans ?_
  rw [codes_eq]
  exact refOut_eq sizes shapes (codes x g) (scale x g) (k0_pay6 (F := Ideal) (codes x g)) (k0_pay3 (F := Ideal) x g) w e (code_plain x g) (scale_lane x g) he

end

/-! ## The arrays: one point, whole blocks -/

variable (m : (ℓ : Loc nD τ sig) → Buf (Elt Ideal) ℓ) (ρ : Dev nD → PrngReg) (c : Dev nD)

theorem idx0 : ∀ t : Fin cfg0.N, win0_0.index t (0 : Fin 2) = 0 ∧ win0_0.index t (1 : Fin 2) = 0 :=
  (by decide +kernel : ∀ t : Fin grid0.N, _)

theorem emb0 (t : Fin cfg0.N) (j : S56x8192.Idx) : ((cfg0.win 0).blk t).view.emb j = j := by
  obtain ⟨e0, e1⟩ := idx0 t
  funext a; apply Fin.ext
  match a with
  | ⟨0, _⟩ => show win0_0.index t (0 : Fin 2) * 56 + 1 * (j 0).val = (j 0).val; omega
  | ⟨1, _⟩ => show win0_0.index t (1 : Fin 2) * 8192 + 1 * (j 1).val = (j 1).val; omega

theorem iblk0 (t : Fin cfg0.N) : iblk m c 0 t = V m c main_arg0 := by
  funext j; show V m c main_arg0 (((cfg0.win 0).blk t).view.emb j) = V m c main_arg0 j; rw [emb0]

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S1x8192.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem iblk1 (t : Fin cfg0.N) : iblk m c 1 t = V m c main_v0 := by
  funext j; show V m c main_v0 (((cfg0.win 1).blk t).view.emb j) = V m c main_v0 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S8192x1280.Idx) : ((cfg0.win 2).blk t).view.emb j = j := by
  obtain ⟨e0, e1⟩ := idx2 t
  funext a; apply Fin.ext
  match a with
  | ⟨0, _⟩ => show win0_2.index t (0 : Fin 2) * 8192 + 1 * (j 0).val = (j 0).val; omega
  | ⟨1, _⟩ => show win0_2.index t (1 : Fin 2) * 1280 + 1 * (j 1).val = (j 1).val; omega

theorem iblk2 (t : Fin cfg0.N) : iblk m c 2 t = V m c main_arg2 := by
  funext j; show V m c main_arg2 (((cfg0.win 2).blk t).view.emb j) = V m c main_arg2 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S256x2560.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 2560 + 1 * (j 1).val = (j 1).val; omega

theorem iblk3 (t : Fin cfg0.N) : iblk m c 3 t = V m c main_arg3 := by
  funext j; show V m c main_arg3 (((cfg0.win 3).blk t).view.emb j) = V m c main_arg3 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S56x8192.Idx) : ((cfg0.win 4).blk t).view.emb j = j := by
  obtain ⟨e0, e1⟩ := idx4 t
  funext a; apply Fin.ext
  match a with
  | ⟨0, _⟩ => show win0_4.index t (0 : Fin 2) * 56 + 1 * (j 0).val = (j 0).val; omega
  | ⟨1, _⟩ => show win0_4.index t (1 : Fin 2) * 8192 + 1 * (j 1).val = (j 1).val; omega

theorem cut4 (t : Fin cfg0.N) (X : Vec Ideal S56x8192 .fp8e4m3) :
    (cfg0.win 4).cut (grid0.coords t) X = ((cfg0.win 4).blk t).view.read (Elt Ideal) X := by
  funext j
  show X j = X (((cfg0.win 4).blk t).view.emb j)
  rw [emb4]

theorem covered4 (i : S56x8192.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S56x128.Idx) : ((cfg0.win 5).blk t).view.emb j = j := by
  obtain ⟨e0, e1⟩ := idx5 t
  funext a; apply Fin.ext
  match a with
  | ⟨0, _⟩ => show win0_5.index t (0 : Fin 2) * 56 + 1 * (j 0).val = (j 0).val; omega
  | ⟨1, _⟩ => show win0_5.index t (1 : Fin 2) * 128 + 1 * (j 1).val = (j 1).val; omega

theorem cut5 (t : Fin cfg0.N) (X : Vec Ideal S56x128 .f32) :
    (cfg0.win 5).cut (grid0.coords t) X = ((cfg0.win 5).blk t).view.read (Elt Ideal) X := by
  funext j
  show X j = X (((cfg0.win 5).blk t).view.emb j)
  rw [emb5]

theorem covered5 (i : S56x128.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S56x2560.Idx) : ((cfg0.win 6).blk t).view.emb j = j := by
  obtain ⟨e0, e1⟩ := idx6 t
  funext a; apply Fin.ext
  match a with
  | ⟨0, _⟩ => show win0_6.index t (0 : Fin 2) * 56 + 1 * (j 0).val = (j 0).val; omega
  | ⟨1, _⟩ => show win0_6.index t (1 : Fin 2) * 2560 + 1 * (j 1).val = (j 1).val; omega

theorem cut6 (t : Fin cfg0.N) (X : Vec Ideal S56x2560 .f32) :
    (cfg0.win 6).cut (grid0.coords t) X = ((cfg0.win 6).blk t).view.read (Elt Ideal) X := by
  funext j
  show X j = X (((cfg0.win 6).blk t).view.emb j)
  rw [emb6]

theorem covered6 (i : S56x2560.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem entry_gain : V m c main_v0 = gain (m ((c : Thread nD τ).loc main_arg1)) := by
  unfold_abbrev_sides
  after_results
  rfl

theorem codes_array : (dats m 0 c).arrAt 4 cfg0.N = codes (m ((c : Thread nD τ).loc main_arg0)) (gain (m ((c : Thread nD τ).loc main_arg1))) :=
  (dats m 0 c).arrAt_eq_of_cover 4 (codes (m ((c : Thread nD τ).loc main_arg0)) (gain (m ((c : Thread nD τ).loc main_arg1))))
    (fun t _ => by
      show (cfg0.win 4).cut (grid0.coords t) ((dats m 0 c).after 4 t) = _
      rw [after0_4, iblk0, iblk1, iblk2, iblk3, entry_gain, V_main_arg0, V_main_arg2, V_main_arg3, codes_block]
      exact cut4 t _)
    covered4

theorem scale_array : (dats m 0 c).arrAt 5 cfg0.N = scale (m ((c : Thread nD τ).loc main_arg0)) (gain (m ((c : Thread nD τ).loc main_arg1))) :=
  (dats m 0 c).arrAt_eq_of_cover 5 (scale (m ((c : Thread nD τ).loc main_arg0)) (gain (m ((c : Thread nD τ).loc main_arg1))))
    (fun t _ => by
      show (cfg0.win 5).cut (grid0.coords t) ((dats m 0 c).after 5 t) = _
      rw [after0_5, iblk0, iblk1, iblk2, iblk3, entry_gain, V_main_arg0, V_main_arg2, V_main_arg3, scale_block]
      exact cut5 t _)
    covered5

theorem out_array (he : ∀ i, (((m ((c : Thread nD τ).loc main_arg3)) : Vec Ideal S256x2560 .i8) i : BitVec 8).toNat ≤ 248) : (dats m 0 c).arrAt 6 cfg0.N = layer (m ((c : Thread nD τ).loc main_arg0)) (gain (m ((c : Thread nD τ).loc main_arg1))) (m ((c : Thread nD τ).loc main_arg2)) (m ((c : Thread nD τ).loc main_arg3)) :=
  (dats m 0 c).arrAt_eq_of_cover 6 (layer (m ((c : Thread nD τ).loc main_arg0)) (gain (m ((c : Thread nD τ).loc main_arg1))) (m ((c : Thread nD τ).loc main_arg2)) (m ((c : Thread nD τ).loc main_arg3)))
    (fun t _ => by
      show (cfg0.win 6).cut (grid0.coords t) ((dats m 0 c).after 6 t) = _
      rw [after0_6, iblk0, iblk1, iblk2, iblk3, entry_gain, V_main_arg0, V_main_arg2, V_main_arg3, out_block _ _ _ _ he]
      exact cut6 t _)
    covered6

/-- Every weakly fair execution of the reference ends with the kernel's codes, scales and layer in its result arrays and the arguments as launched. -/
theorem run (he : ∀ (c : Dev nD) (i), (((m ((c.tc : Thread nD τ).loc main_arg3)) : Vec Ideal S256x2560 .i8) i : BitVec 8).toNat ≤ 248) :
    θ_run (defs (F := Ideal)) (onTc (τ := τ) (main (F := Ideal))) ⟨m, fun _ => 0, ρ⟩ (fun r => ∀ c : Dev nD,
      r.2.mem ((c.tc : Thread nD τ).loc main_v1_0) = codes (m ((c.tc : Thread nD τ).loc main_arg0)) (gain (m ((c.tc : Thread nD τ).loc main_arg1)))
      ∧ r.2.mem ((c.tc : Thread nD τ).loc main_v1_1) = scale (m ((c.tc : Thread nD τ).loc main_arg0)) (gain (m ((c.tc : Thread nD τ).loc main_arg1)))
      ∧ r.2.mem ((c.tc : Thread nD τ).loc main_v1_2) = layer (m ((c.tc : Thread nD τ).loc main_arg0)) (gain (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (Cert.QkvProjReferenceIdeal.Value.run_blocks m ρ)
  obtain ⟨h0, h1, h2, k⟩ := h c
  exact ⟨h0.trans (codes_array m c), h1.trans (scale_array m c), h2.trans (out_array m c (he c)), k⟩

end Cert.Proof.Qkv.Ref

end
-- ==== Proof.lean ====
/-
  Hand-written, untrusted. THE PROOF OF `Cert.Claim`: for each of the four linear layers the frames are the generated ones, and the idealized kernel's
  run ({P}Run.lean) and the reference's run ({P}Ref.lean) end with the same codes, scales and result, given that every scale byte is at most 248.
-/
module

public import proofs.«01_k».proof.Defs
public import proofs.«01_k».proof.Proof.ORun
public import proofs.«01_k».proof.Proof.ORef
public import proofs.«01_k».proof.Proof.Gen.OProj.Frame
public import proofs.«01_k».proof.Proof.Gen.OProjIdeal.Frame
public import proofs.«01_k».proof.Proof.Gen.OProjReferenceIdeal.Frame
public import proofs.«01_k».proof.Proof.Gen.OProjReferenceIdeal.Value
public import proofs.«01_k».proof.Proof.Gen.Pre_small_o
public import proofs.«01_k».proof.Proof.GuRun
public import proofs.«01_k».proof.Proof.GuRef
public import proofs.«01_k».proof.Proof.Gen.GuProj.Frame
public import proofs.«01_k».proof.Proof.Gen.GuProjIdeal.Frame
public import proofs.«01_k».proof.Proof.Gen.GuProjReferenceIdeal.Frame
public import proofs.«01_k».proof.Proof.Gen.GuProjReferenceIdeal.Value
public import proofs.«01_k».proof.Proof.Gen.Pre_small_gu
public import proofs.«01_k».proof.Proof.DownRun
public import proofs.«01_k».proof.Proof.DownRef
public import proofs.«01_k».proof.Proof.Gen.DownProj.Frame
public import proofs.«01_k».proof.Proof.Gen.DownProjIdeal.Frame
public import proofs.«01_k».proof.Proof.Gen.DownProjReferenceIdeal.Frame
public import proofs.«01_k».proof.Proof.Gen.DownProjReferenceIdeal.Value
public import proofs.«01_k».proof.Proof.Gen.Pre_small_down
public import proofs.«01_k».proof.Proof.QkvRun
public import proofs.«01_k».proof.Proof.QkvRef
public import proofs.«01_k».proof.Proof.Gen.QkvProj.Frame
public import proofs.«01_k».proof.Proof.Gen.QkvProjIdeal.Frame
public import proofs.«01_k».proof.Proof.Gen.QkvProjReferenceIdeal.Frame
public import proofs.«01_k».proof.Proof.Gen.QkvProjReferenceIdeal.Value
public import proofs.«01_k».proof.Proof.Gen.Pre_small_qkv
public import Idealize.ShloMosaic.Adequacy
public import Idealize.ShloMosaic.Init

@[expose] public section

noncomputable section

namespace Cert.Proof

open Idealize.ShloMosaic Idealize.ShloMosaic.TcCoe Idealize.SL.Sem

theorem ule248 : ∀ w : BitVec 8, BitVec.ofBool (BitVec.ule w 248#8) = 1#1 → w.toNat ≤ 248 := by decide +kernel

/-- `o_proj`'s precondition, decoded: every scale byte is at most 248. -/
theorem small_o (m : (ℓ : Loc Cert.OProjIdeal.nD Cert.OProjIdeal.τ Cert.OProjIdeal.sig) → Buf (Elt Ideal) ℓ) (h : Cert.Pre_OProjIdeal_small_o m) (c : Dev Cert.OProjIdeal.nD) (i) :
    ((m ((c : Thread Cert.OProjIdeal.nD Cert.OProjIdeal.τ).loc Cert.OProjIdeal.main_arg2) : Vec Ideal Cert.OProjIdeal.S64x8192 .i8) i : BitVec 8).toNat ≤ 248 := by
  have e := congrFun (h c) i
  simp only [Cert.Pre_small_o.fn, cmpi, constantI, broadcastInDim, IntOp.cmpi] at e
  exact ule248 _ e

theorem algebraic_o : Cert.algebraic_OProjIdeal_OProjReferenceIdeal_pre_small_o := by
  intro m g m' g' hpre hargs
  have he := small_o m hpre
  refine ⟨fun c => O.codes (m ((c.tc : Thread Cert.OProjIdeal.nD Cert.OProjIdeal.τ).loc Cert.OProjIdeal.main_arg0)),
    fun c => O.scale (m ((c.tc : Thread Cert.OProjIdeal.nD Cert.OProjIdeal.τ).loc Cert.OProjIdeal.main_arg0)),
    fun c => O.residual (m ((c.tc : Thread Cert.OProjIdeal.nD Cert.OProjIdeal.τ).loc Cert.OProjIdeal.main_arg3)) (O.withDelta (O.layer (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2))) (m ((c.tc : Thread Cert.OProjIdeal.nD Cert.OProjIdeal.τ).loc Cert.OProjIdeal.main_arg4))),
    O.run m g he, ?_⟩
  refine (θ_run _ _ _).mono (fun r h c => ?_) (O.Ref.run m' g' fun c i => ?_)
  · obtain ⟨h0, h1, h2, k⟩ := h c
    obtain ⟨a0, a1, a2, a3, a4⟩ := hargs c
    rw [a0] at h0 h1
    rw [a0, a1, a2, a3, a4] at h2
    exact ⟨h0, h1, h2, k⟩
  · obtain ⟨a0, a1, a2, a3, a4⟩ := hargs c
    rw [a2]
    exact he c i

/-- `gu_proj`'s precondition, decoded: every scale byte is at most 248. -/
theorem small_gu (m : (ℓ : Loc Cert.GuProjIdeal.nD Cert.GuProjIdeal.τ Cert.GuProjIdeal.sig) → Buf (Elt Ideal) ℓ) (h : Cert.Pre_GuProjIdeal_small_gu m) (c : Dev Cert.GuProjIdeal.nD) (i) :
    ((m ((c : Thread Cert.GuProjIdeal.nD Cert.GuProjIdeal.τ).loc Cert.GuProjIdeal.main_arg3) : Vec Ideal Cert.GuProjIdeal.S256x14336 .i8) i : BitVec 8).toNat ≤ 248 := by
  have e := congrFun (h c) i
  simp only [Cert.Pre_small_gu.fn, cmpi, constantI, broadcastInDim, IntOp.cmpi] at e
  exact ule248 _ e

theorem algebraic_gu : Cert.algebraic_GuProjIdeal_GuProjReferenceIdeal_pre_small_gu := by
  intro m g m' g' hpre hargs
  have he := small_gu m hpre
  refine ⟨fun c => Gu.codes (m ((c.tc : Thread Cert.GuProjIdeal.nD Cert.GuProjIdeal.τ).loc Cert.GuProjIdeal.main_arg0)) (Gu.gain (m ((c.tc : Thread Cert.GuProjIdeal.nD Cert.GuProjIdeal.τ).loc Cert.GuProjIdeal.main_arg1))),
    fun c => Gu.scale (m ((c.tc : Thread Cert.GuProjIdeal.nD Cert.GuProjIdeal.τ).loc Cert.GuProjIdeal.main_arg0)) (Gu.gain (m ((c.tc : Thread Cert.GuProjIdeal.nD Cert.GuProjIdeal.τ).loc Cert.GuProjIdeal.main_arg1))),
    fun c => Gu.gated (Gu.layer (m ((c.tc : Thread Cert.GuProjIdeal.nD Cert.GuProjIdeal.τ).loc Cert.GuProjIdeal.main_arg0)) (Gu.gain (m ((c.tc : Thread Cert.GuProjIdeal.nD Cert.GuProjIdeal.τ).loc Cert.GuProjIdeal.main_arg1))) (m ((c.tc : Thread Cert.GuProjIdeal.nD Cert.GuProjIdeal.τ).loc Cert.GuProjIdeal.main_arg2)) (m ((c.tc : Thread Cert.GuProjIdeal.nD Cert.GuProjIdeal.τ).loc Cert.GuProjIdeal.main_arg3))) (m ((c.tc : Thread Cert.GuProjIdeal.nD Cert.GuProjIdeal.τ).loc Cert.GuProjIdeal.main_arg4)) (m ((c.tc : Thread Cert.GuProjIdeal.nD Cert.GuProjIdeal.τ).loc Cert.GuProjIdeal.main_arg5)),
    Gu.run m g he, ?_⟩
  refine (θ_run _ _ _).mono (fun r h c => ?_) (Gu.Ref.run m' g' fun c i => ?_)
  · obtain ⟨h0, h1, h2, k⟩ := h c
    obtain ⟨a0, a1, a2, a3, a4, a5⟩ := hargs c
    rw [a0, a1] at h0 h1
    rw [a0, a1, a2, a3, a4, a5] at h2
    exact ⟨h0, h1, h2, k⟩
  · obtain ⟨a0, a1, a2, a3, a4, a5⟩ := hargs c
    rw [a3]
    exact he c i

/-- `down_proj`'s precondition, decoded: every scale byte is at most 248. -/
theorem small_down (m : (ℓ : Loc Cert.DownProjIdeal.nD Cert.DownProjIdeal.τ Cert.DownProjIdeal.sig) → Buf (Elt Ideal) ℓ) (h : Cert.Pre_DownProjIdeal_small_down m) (c : Dev Cert.DownProjIdeal.nD) (i) :
    ((m ((c : Thread Cert.DownProjIdeal.nD Cert.DownProjIdeal.τ).loc Cert.DownProjIdeal.main_arg4) : Vec Ideal Cert.DownProjIdeal.S224x8192 .i8) i : BitVec 8).toNat ≤ 248 := by
  have e := congrFun (h c) i
  simp only [Cert.Pre_small_down.fn, cmpi, constantI, broadcastInDim, IntOp.cmpi] at e
  exact ule248 _ e

theorem algebraic_down : Cert.algebraic_DownProjIdeal_DownProjReferenceIdeal_pre_small_down := by
  intro m g m' g' hpre hargs
  have he := small_down m hpre
  refine ⟨fun c => Down.codes (m ((c.tc : Thread Cert.DownProjIdeal.nD Cert.DownProjIdeal.τ).loc Cert.DownProjIdeal.main_arg2)),
    fun c => Down.scale (m ((c.tc : Thread Cert.DownProjIdeal.nD Cert.DownProjIdeal.τ).loc Cert.DownProjIdeal.main_arg2)),
    fun c => Down.total (m ((c.tc : Thread Cert.DownProjIdeal.nD Cert.DownProjIdeal.τ).loc Cert.DownProjIdeal.main_arg0)) (Down.layer (m ((c.tc : Thread Cert.DownProjIdeal.nD Cert.DownProjIdeal.τ).loc Cert.DownProjIdeal.main_arg2)) (m ((c.tc : Thread Cert.DownProjIdeal.nD Cert.DownProjIdeal.τ).loc Cert.DownProjIdeal.main_arg3)) (m ((c.tc : Thread Cert.DownProjIdeal.nD Cert.DownProjIdeal.τ).loc Cert.DownProjIdeal.main_arg4))) (m ((c.tc : Thread Cert.DownProjIdeal.nD Cert.DownProjIdeal.τ).loc Cert.DownProjIdeal.main_arg1)),
    Down.run m g he, ?_⟩
  refine (θ_run _ _ _).mono (fun r h c => ?_) (Down.Ref.run m' g' fun c i => ?_)
  · obtain ⟨h0, h1, h2, k⟩ := h c
    obtain ⟨a0, a1, a2, a3, a4⟩ := hargs c
    rw [a2] at h0 h1
    rw [a0, a1, a2, a3, a4] at h2
    exact ⟨h0, h1, h2, k⟩
  · obtain ⟨a0, a1, a2, a3, a4⟩ := hargs c
    rw [a4]
    exact he c i

/-- `qkv_proj`'s precondition, decoded: every scale byte is at most 248. -/
theorem small_qkv (m : (ℓ : Loc Cert.QkvProjIdeal.nD Cert.QkvProjIdeal.τ Cert.QkvProjIdeal.sig) → Buf (Elt Ideal) ℓ) (h : Cert.Pre_QkvProjIdeal_small_qkv m) (c : Dev Cert.QkvProjIdeal.nD) (i) :
    ((m ((c : Thread Cert.QkvProjIdeal.nD Cert.QkvProjIdeal.τ).loc Cert.QkvProjIdeal.main_arg3) : Vec Ideal Cert.QkvProjIdeal.S256x2560 .i8) i : BitVec 8).toNat ≤ 248 := by
  have e := congrFun (h c) i
  simp only [Cert.Pre_small_qkv.fn, cmpi, constantI, broadcastInDim, IntOp.cmpi] at e
  exact ule248 _ e

theorem algebraic_qkv : Cert.algebraic_QkvProjIdeal_QkvProjReferenceIdeal_pre_small_qkv := by
  intro m g m' g' hpre hargs
  have he := small_qkv m hpre
  refine ⟨fun c => Qkv.codes (m ((c.tc : Thread Cert.QkvProjIdeal.nD Cert.QkvProjIdeal.τ).loc Cert.QkvProjIdeal.main_arg0)) (Qkv.gain (m ((c.tc : Thread Cert.QkvProjIdeal.nD Cert.QkvProjIdeal.τ).loc Cert.QkvProjIdeal.main_arg1))),
    fun c => Qkv.scale (m ((c.tc : Thread Cert.QkvProjIdeal.nD Cert.QkvProjIdeal.τ).loc Cert.QkvProjIdeal.main_arg0)) (Qkv.gain (m ((c.tc : Thread Cert.QkvProjIdeal.nD Cert.QkvProjIdeal.τ).loc Cert.QkvProjIdeal.main_arg1))),
    fun c => Qkv.layer (m ((c.tc : Thread Cert.QkvProjIdeal.nD Cert.QkvProjIdeal.τ).loc Cert.QkvProjIdeal.main_arg0)) (Qkv.gain (m ((c.tc : Thread Cert.QkvProjIdeal.nD Cert.QkvProjIdeal.τ).loc Cert.QkvProjIdeal.main_arg1))) (m ((c.tc : Thread Cert.QkvProjIdeal.nD Cert.QkvProjIdeal.τ).loc Cert.QkvProjIdeal.main_arg2)) (m ((c.tc : Thread Cert.QkvProjIdeal.nD Cert.QkvProjIdeal.τ).loc Cert.QkvProjIdeal.main_arg3)),
    Qkv.run m g he, ?_⟩
  refine (θ_run _ _ _).mono (fun r h c => ?_) (Qkv.Ref.run m' g' fun c i => ?_)
  · obtain ⟨h0, h1, h2, k⟩ := h c
    obtain ⟨a0, a1, a2, a3⟩ := hargs c
    rw [a0, a1] at h0 h1
    rw [a0, a1, a2, a3] at h2
    exact ⟨h0, h1, h2, k⟩
  · obtain ⟨a0, a1, a2, a3⟩ := hargs c
    rw [a3]
    exact he c i

/-- Everything the certificate claims. -/
theorem claim : Cert.Claim :=
  ⟨Cert.OProj.Gen.facts, Cert.OProjIdeal.Gen.facts, Cert.OProjReferenceIdeal.Gen.facts,
    Cert.GuProj.Gen.facts, Cert.GuProjIdeal.Gen.facts, Cert.GuProjReferenceIdeal.Gen.facts,
    Cert.DownProj.Gen.facts, Cert.DownProjIdeal.Gen.facts, Cert.DownProjReferenceIdeal.Gen.facts,
    Cert.QkvProj.Gen.facts, Cert.QkvProjIdeal.Gen.facts, Cert.QkvProjReferenceIdeal.Gen.facts,
    Cert.Pre_small_o.Gen.facts, Cert.Pre_small_gu.Gen.facts, Cert.Pre_small_down.Gen.facts,
    Cert.Pre_small_qkv.Gen.facts,
    fun m ρ _ => Cert.OProj.Gen.frame m ρ, fun m ρ _ => Cert.OProjIdeal.Gen.frame m ρ,
    fun m ρ _ => Cert.OProjIdeal.Gen.frame m ρ, fun m ρ _ => Cert.OProjReferenceIdeal.Gen.frame m ρ,
    fun m ρ _ => Cert.OProjReferenceIdeal.Gen.frame m ρ, fun m ρ _ => Cert.GuProj.Gen.frame m ρ,
    fun m ρ _ => Cert.GuProjIdeal.Gen.frame m ρ, fun m ρ _ => Cert.GuProjIdeal.Gen.frame m ρ,
    fun m ρ _ => Cert.GuProjReferenceIdeal.Gen.frame m ρ, fun m ρ _ => Cert.GuProjReferenceIdeal.Gen.frame m ρ,
    fun m ρ _ => Cert.DownProj.Gen.frame m ρ, fun m ρ _ => Cert.DownProjIdeal.Gen.frame m ρ,
    fun m ρ _ => Cert.DownProjIdeal.Gen.frame m ρ, fun m ρ _ => Cert.DownProjReferenceIdeal.Gen.frame m ρ,
    fun m ρ _ => Cert.DownProjReferenceIdeal.Gen.frame m ρ, fun m ρ _ => Cert.QkvProj.Gen.frame m ρ,
    fun m ρ _ => Cert.QkvProjIdeal.Gen.frame m ρ, fun m ρ _ => Cert.QkvProjIdeal.Gen.frame m ρ,
    fun m ρ _ => Cert.QkvProjReferenceIdeal.Gen.frame m ρ, fun m ρ _ => Cert.QkvProjReferenceIdeal.Gen.frame m ρ,
    trivial, algebraic_o, trivial, algebraic_gu,
    trivial, algebraic_down, trivial, algebraic_qkv⟩

end Cert.Proof

end
